-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S5x16384x512 : Shape := ⟨3, ![5, 16384, 512]⟩
abbrev S512 : Shape := ⟨1, ![512]⟩
abbrev S_ : Shape := ⟨0, ![]⟩

class Facts : Prop where
  bitsLt_bf16_f32 : FTy.bits .bf16 < FTy.bits .f32
  bcast_S_S5x16384x512 : S_.BroadcastsInDim S5x16384x512 (![] : Fin 0 → Fin S5x16384x512.rank)
  bcast_S_S512 : S_.BroadcastsInDim S512 (![] : Fin 0 → Fin S512.rank)
  natLt_8_32 : 8 < 32

variable [Facts]

def fn {F : FTy → Type} [FloatOps F] (main_arg0 : FVec F S5x16384x512 .bf16) (main_arg1 : FVec F S512 .f32) (main_arg2 : FVec F S512 .f32) (main_arg3 : IVec S5x16384x512 8) (main_arg4 : FVec F S_ .f32) : IVec S5x16384x512 1 × IVec S512 1 × IVec S512 1 × IVec S5x16384x512 1 × IVec S_ 1 :=
  let main_v0 : FVec F S5x16384x512 .f32 := (extf .f32 · bitsLt_bf16_f32) main_arg0
  let main_v1 : FVec F S5x16384x512 .f32 := Host.absf main_v0
  let main_cst : FVec F S_ .f32 := constant S_ .f32 0x7F7FFFFF#32
  let main_v2 : FVec F S5x16384x512 .f32 := broadcastInDim S5x16384x512 ![] bcast_S_S5x16384x512 main_cst
  let main_v3 : IVec S5x16384x512 1 := cmpf .ole main_v1 main_v2
  let main_v4 : FVec F S512 .f32 := Host.absf main_arg1
  let main_cst_0 : FVec F S_ .f32 := constant S_ .f32 0x53800000#32
  let main_v5 : FVec F S512 .f32 := broadcastInDim S512 ![] bcast_S_S512 main_cst_0
  let main_v6 : IVec S512 1 := cmpf .ole main_v4 main_v5
  let main_v7 : FVec F S512 .f32 := Host.absf main_arg2
  let main_cst_1 : FVec F S_ .f32 := constant S_ .f32 0x7F7FFFFF#32
  let main_v8 : FVec F S512 .f32 := broadcastInDim S512 ![] bcast_S_S512 main_cst_1
  let main_v9 : IVec S512 1 := cmpf .ole main_v7 main_v8
  let main_v10 : IVec S5x16384x512 32 := (extui 32 · natLt_8_32) main_arg3
  let main_c : IVec S_ 32 := constantI S_ 32 127#32
  let main_v11 : IVec S5x16384x512 32 := broadcastInDim S5x16384x512 ![] bcast_S_S5x16384x512 main_c
  let main_v12 : IVec S5x16384x512 32 := andi main_v10 main_v11
  let main_c_2 : IVec S_ 32 := constantI S_ 32 124#32
  let main_v13 : IVec S5x16384x512 32 := broadcastInDim S5x16384x512 ![] bcast_S_S5x16384x512 main_c_2
  let main_v14 : IVec S5x16384x512 1 := cmpi .slt main_v12 main_v13
  let main_v15 : FVec F S_ .f32 := Host.absf main_arg4
  let main_cst_3 : FVec F S_ .f32 := constant S_ .f32 0x53800000#32
  let main_v16 : IVec S_ 1 := cmpf .ole main_v15 main_cst_3
  (main_v3, main_v6, main_v9, main_v14, main_v16)
-- ==== Kernel.lean ====
abbrev S5x16384x512 : Shape := ⟨3, ![5, 16384, 512]⟩
abbrev S512 : Shape := ⟨1, ![512]⟩
abbrev S_ : Shape := ⟨0, ![]⟩
abbrev S1 : Shape := ⟨1, ![1]⟩
abbrev S1x512 : Shape := ⟨2, ![1, 512]⟩
abbrev S5x1x512 : Shape := ⟨3, ![5, 1, 512]⟩
abbrev S1x16384x128 : Shape := ⟨3, ![1, 16384, 128]⟩
abbrev S1x128 : Shape := ⟨2, ![1, 128]⟩
abbrev S1x1x128 : Shape := ⟨3, ![1, 1, 128]⟩
abbrev S16384x128 : Shape := ⟨2, ![16384, 128]⟩
abbrev S8x128 : Shape := ⟨2, ![8, 128]⟩
abbrev S1x16x128 : Shape := ⟨3, ![1, 16, 128]⟩
abbrev S16x128 : Shape := ⟨2, ![16, 128]⟩
abbrev S128 : Shape := ⟨1, ![128]⟩
abbrev S128x128 : Shape := ⟨2, ![128, 128]⟩
abbrev S1x1x1 : Shape := ⟨3, ![1, 1, 1]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S255x128 : Shape := ⟨2, ![255, 128]⟩
abbrev S5x1x32 : Shape := ⟨3, ![5, 1, 32]⟩
abbrev S5x32 : Shape := ⟨2, ![5, 32]⟩

abbrev nBuf : Space → Nat
  | .hbm => 17
  | .vmem => 18
  | .smem => 1
  | _ => 0

abbrev bufTy : (tb : Table) → Fin (tcTables nBuf tb) → BufTy
  | .hbm, ⟨0, _⟩ => ⟨S5x16384x512, .bf16⟩
  | .hbm, ⟨1, _⟩ => ⟨S512, .f32⟩
  | .hbm, ⟨2, _⟩ => ⟨S512, .f32⟩
  | .hbm, ⟨3, _⟩ => ⟨S5x16384x512, .i8⟩
  | .hbm, ⟨4, _⟩ => ⟨S_, .f32⟩
  | .hbm, ⟨5, _⟩ => ⟨S1, .f32⟩
  | .hbm, ⟨6, _⟩ => ⟨S5x16384x512, .fp8e5m2⟩
  | .hbm, ⟨7, _⟩ => ⟨S1x512, .f32⟩
  | .hbm, ⟨8, _⟩ => ⟨S1x512, .f32⟩
  | .hbm, ⟨9, _⟩ => ⟨S5x16384x512, .fp8e5m2⟩
  | .hbm, ⟨10, _⟩ => ⟨S5x1x512, .f32⟩
  | .hbm, ⟨11, _⟩ => ⟨S1x512, .f32⟩
  | .hbm, ⟨12, _⟩ => ⟨S1x512, .f32⟩
  | .hbm, ⟨13, _⟩ => ⟨S5x1x32, .f32⟩
  | .hbm, ⟨14, _⟩ => ⟨S5x32, .f32⟩
  | .hbm, ⟨15, _⟩ => ⟨S512, .f32⟩
  | .hbm, ⟨16, _⟩ => ⟨S512, .f32⟩
  | .local _ .vmem, ⟨0, _⟩ => ⟨S1x16384x128, .bf16⟩
  | .local _ .vmem, ⟨1, _⟩ => ⟨S1x16384x128, .bf16⟩
  | .local _ .vmem, ⟨2, _⟩ => ⟨S1x16384x128, .fp8e5m2⟩
  | .local _ .vmem, ⟨3, _⟩ => ⟨S1x16384x128, .fp8e5m2⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x16384x128, .fp8e5m2⟩
  | .local _ .vmem, ⟨9, _⟩ => ⟨S1x16384x128, .fp8e5m2⟩
  | .local _ .vmem, ⟨10, _⟩ => ⟨S1x1x128, .f32⟩
  | .local _ .vmem, ⟨11, _⟩ => ⟨S1x1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S16384x128, .f32⟩
  | .local _ .vmem, ⟨17, _⟩ => ⟨S16384x128, .f32⟩
  | .local _ .smem, ⟨0, _⟩ => ⟨S1, .f32⟩
  | _, _ => ⟨S5x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 5], ![false, false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v300 : BitVec 32 := Scalar.muli arg13 c512_i32
  v300
def k0_off1 (k0_t1 : Fin k0_t1_loop.trips) (c0_i32_106 : BitVec 32) : Fin 3 → Nat :=
  let c0_107 : Index := 0#32
  let c0_i32 : BitVec 32 := 0#32
  let c1_i32 : BitVec 32 := 1#32
  let arg13 : BitVec 32 := Scf.iv c0_i32 c1_i32 k0_t1
  let c512_i32 : BitVec 32 := 512#32
  let v300 : BitVec 32 := Scalar.muli arg13 c512_i32
  let v301 : BitVec 32 := v300
  let v302 : BitVec 32 := Scalar.addi v301 c0_i32_106
  let v303 : Index := Scalar.indexCast v302
  let c0_108 : Index := 0#32
  ![0, v303.toNat, 0]
@[reducible] def k0_t2_loop : Scf.Loop 32 :=
  let c0_i32_106 : BitVec 32 := 0#32
  let c32_i32_107 : BitVec 32 := 32#32
  let v300 : BitVec 32 := Scalar.addi c0_i32_106 c32_i32_107
  let c1_i32_108 : BitVec 32 := 1#32
  ⟨c0_i32_106, v300, c1_i32_108⟩
def k0_mult2 (k0_t2 : Fin k0_t2_loop.trips) : BitVec 32 :=
  let c0_i32_106 : BitVec 32 := 0#32
  let c1_i32_108 : BitVec 32 := 1#32
  let arg13 : BitVec 32 := Scf.iv c0_i32_106 c1_i32_108 k0_t2
  let c512_i32 : BitVec 32 := 512#32
  let v364 : BitVec 32 := Scalar.muli arg13 c512_i32
  v364
def k0_off2 (k0_t2 : Fin k0_t2_loop.trips) : Fin 3 → Nat :=
  let c0_129 : Index := 0#32
  let c0_i32_106 : BitVec 32 := 0#32
  let c1_i32_108 : BitVec 32 := 1#32
  let arg13 : BitVec 32 := Scf.iv c0_i32_106 c1_i32_108 k0_t2
  let c512_i32 : BitVec 32 := 512#32
  let v364 : BitVec 32 := Scalar.muli arg13 c512_i32
  let v365 : BitVec 32 := v364
  let v366 : Index := Scalar.indexCast v365
  let c0_130 : Index := 0#32
  ![0, v366.toNat, 0]
@[reducible] def k0_t3_loop : Scf.Loop 32 :=
  let c0_i32_32 : BitVec 32 := 0#32
  let c64_i32 : BitVec 32 := 64#32
  let v104 : BitVec 32 := Scalar.addi c0_i32_32 c64_i32
  let c1_i32_33 : BitVec 32 := 1#32
  ⟨c0_i32_32, v104, c1_i32_33⟩
def k0_mult3 (k0_t3 : Fin k0_t3_loop.trips) : BitVec 32 :=
  let c0_i32_32 : BitVec 32 := 0#32
  let c1_i32_33 : BitVec 32 := 1#32
  let arg13 : BitVec 32 := Scf.iv c0_i32_32 c1_i32_33 k0_t3
  let c256_i32 : BitVec 32 := 256#32
  let v300 : BitVec 32 := Scalar.muli arg13 c256_i32
  v300
def k0_off3 (k0_t3 : Fin k0_t3_loop.trips) : Fin 3 → Nat :=
  let c0_106 : Index := 0#32
  let c0_i32_32 : BitVec 32 := 0#32
  let c1_i32_33 : BitVec 32 := 1#32
  let arg13 : BitVec 32 := Scf.iv c0_i32_32 c1_i32_33 k0_t3
  let c256_i32 : BitVec 32 := 256#32
  let v300 : BitVec 32 := Scalar.muli arg13 c256_i32
  let v301 : BitVec 32 := v300
  let v302 : Index := Scalar.indexCast v301
  let c0_107 : Index := 0#32
  ![0, v302.toNat, 0]
def k0_off4 (k0_t3 : Fin k0_t3_loop.trips) : Fin 2 → Nat :=
  let c0_i32_32 : BitVec 32 := 0#32
  let c1_i32_33 : BitVec 32 := 1#32
  let arg13 : BitVec 32 := Scf.iv c0_i32_32 c1_i32_33 k0_t3
  let c256_i32 : BitVec 32 := 256#32
  let v300 : BitVec 32 := Scalar.muli arg13 c256_i32
  let v301 : BitVec 32 := v300
  let v323 : Index := Scalar.indexCast v301
  let c0_112 : Index := 0#32
  ![v323.toNat, 0]
@[reducible] def k0_t4_loop : Scf.Loop 32 :=
  let c0_i32_106 : BitVec 32 := 0#32
  let c32_i32_107 : BitVec 32 := 32#32
  let v300 : BitVec 32 := Scalar.addi c0_i32_106 c32_i32_107
  let c1_i32_108 : BitVec 32 := 1#32
  ⟨c0_i32_106, v300, c1_i32_108⟩
def k0_mult4 (k0_t4 : Fin k0_t4_loop.trips) : BitVec 32 :=
  let c0_i32_106 : BitVec 32 := 0#32
  let c1_i32_108 : BitVec 32 := 1#32
  let arg13 : BitVec 32 := Scf.iv c0_i32_106 c1_i32_108 k0_t4
  let c512_i32 : BitVec 32 := 512#32
  let v302 : BitVec 32 := Scalar.muli arg13 c512_i32
  v302
def k0_off5 (k0_t4 : Fin k0_t4_loop.trips) : Fin 2 → Nat :=
  let c0_i32_106 : BitVec 32 := 0#32
  let c1_i32_108 : BitVec 32 := 1#32
  let arg13 : BitVec 32 := Scf.iv c0_i32_106 c1_i32_108 k0_t4
  let c512_i32 : BitVec 32 := 512#32
  let v302 : BitVec 32 := Scalar.muli arg13 c512_i32
  let v303 : BitVec 32 := v302
  let v304 : Index := Scalar.indexCast v303
  let c0_110 : Index := 0#32
  ![v304.toNat, 0]
@[reducible] def k0_t5_loop : Scf.Loop 32 :=
  let c0_i32_106 : BitVec 32 := 0#32
  let c32_i32_107 : BitVec 32 := 32#32
  let v300 : BitVec 32 := Scalar.addi c0_i32_106 c32_i32_107
  let c1_i32_108 : BitVec 32 := 1#32
  ⟨c0_i32_106, v300, c1_i32_108⟩
def k0_mult5 (k0_t5 : Fin k0_t5_loop.trips) : BitVec 32 :=
  let c0_i32_106 : BitVec 32 := 0#32
  let c1_i32_108 : BitVec 32 := 1#32
  let arg13 : BitVec 32 := Scf.iv c0_i32_106 c1_i32_108 k0_t5
  let c512_i32 : BitVec 32 := 512#32
  let v302 : BitVec 32 := Scalar.muli arg13 c512_i32
  v302
def k0_off6 (k0_t5 : Fin k0_t5_loop.trips) : Fin 2 → Nat :=
  let c0_i32_106 : BitVec 32 := 0#32
  let c1_i32_108 : BitVec 32 := 1#32
  let arg13 : BitVec 32 := Scf.iv c0_i32_106 c1_i32_108 k0_t5
  let c512_i32 : BitVec 32 := 512#32
  let v302 : BitVec 32 := Scalar.muli arg13 c512_i32
  let v303 : BitVec 32 := v302
  let v304 : Index := Scalar.indexCast v303
  let c0_110 : Index := 0#32
  ![v304.toNat, 0]
@[reducible] def k0_t6_loop : Scf.Loop 32 :=
  let c0_i32_102 : BitVec 32 := 0#32
  let c32_i32_103 : BitVec 32 := 32#32
  let v299 : BitVec 32 := Scalar.addi c0_i32_102 c32_i32_103
  let c1_i32_104 : BitVec 32 := 1#32
  ⟨c0_i32_102, v299, c1_i32_104⟩
def k0_mult6 (k0_t6 : Fin k0_t6_loop.trips) : BitVec 32 :=
  let c0_i32_102 : BitVec 32 := 0#32
  let c1_i32_104 : BitVec 32 := 1#32
  let arg13 : BitVec 32 := Scf.iv c0_i32_102 c1_i32_104 k0_t6
  let c512_i32 : BitVec 32 := 512#32
  let v300 : BitVec 32 := Scalar.muli arg13 c512_i32
  v300
def k0_off7 (k0_t6 : Fin k0_t6_loop.trips) : Fin 2 → Nat :=
  let c0_i32_102 : BitVec 32 := 0#32
  let c1_i32_104 : BitVec 32 := 1#32
  let arg13 : BitVec 32 := Scf.iv c0_i32_102 c1_i32_104 k0_t6
  let c512_i32 : BitVec 32 := 512#32
  let v300 : BitVec 32 := Scalar.muli arg13 c512_i32
  let v301 : BitVec 32 := v300
  let v302 : Index := Scalar.indexCast v301
  let c0_106 : Index := 0#32
  ![v302.toNat, 0]
def k0_off8 (k0_t6 : Fin k0_t6_loop.trips) : Fin 3 → Nat :=
  let c0_109 : Index := 0#32
  let c0_i32_102 : BitVec 32 := 0#32
  let c1_i32_104 : BitVec 32 := 1#32
  let arg13 : BitVec 32 := Scf.iv c0_i32_102 c1_i32_104 k0_t6
  let c512_i32 : BitVec 32 := 512#32
  let v300 : BitVec 32 := Scalar.muli arg13 c512_i32
  let v301 : BitVec 32 := v300
  let v311 : Index := Scalar.indexCast v301
  let c0_110 : Index := 0#32
  ![0, v311.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x128 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16384x128 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S5x16384x512 : Shape := ⟨3, ![5, 16384, 512]⟩
abbrev S512 : Shape := ⟨1, ![512]⟩
abbrev S_ : Shape := ⟨0, ![]⟩
abbrev S1x1 : Shape := ⟨2, ![1, 1]⟩
abbrev S5x32 : Shape := ⟨2, ![5, 32]⟩
abbrev S1x1x1 : Shape := ⟨3, ![1, 1, 1]⟩
abbrev S5x512 : Shape := ⟨2, ![5, 512]⟩
abbrev S5x32x16 : Shape := ⟨3, ![5, 32, 16]⟩
abbrev S5x32x1 : Shape := ⟨3, ![5, 32, 1]⟩
abbrev S5x1x512 : Shape := ⟨3, ![5, 1, 512]⟩
abbrev S1x1x512 : Shape := ⟨3, ![1, 1, 512]⟩

abbrev nBuf : Space → Nat
  | .hbm => 11
  | .vmem => 9
  | .smem => 0
  | _ => 0

abbrev bufTy : (tb : Table) → Fin (tcTables nBuf tb) → BufTy
  | .hbm, ⟨0, _⟩ => ⟨S5x16384x512, .bf16⟩
  | .hbm, ⟨1, _⟩ => ⟨S512, .f32⟩
  | .hbm, ⟨2, _⟩ => ⟨S512, .f32⟩
  | .hbm, ⟨3, _⟩ => ⟨S5x16384x512, .i8⟩
  | .hbm, ⟨4, _⟩ => ⟨S_, .f32⟩
  | .hbm, ⟨5, _⟩ => ⟨S5x16384x512, .fp8e5m2⟩
  | .hbm, ⟨6, _⟩ => ⟨S1x1, .f32⟩
  | .hbm, ⟨7, _⟩ => ⟨S5x16384x512, .fp8e5m2⟩
  | .hbm, ⟨8, _⟩ => ⟨S5x32, .f32⟩
  | .hbm, ⟨9, _⟩ => ⟨S512, .f32⟩
  | .hbm, ⟨10, _⟩ => ⟨S512, .f32⟩
  | .local _ .vmem, ⟨0, _⟩ => ⟨S5x16384x512, .bf16⟩
  | .local _ .vmem, ⟨1, _⟩ => ⟨S512, .f32⟩
  | .local _ .vmem, ⟨2, _⟩ => ⟨S512, .f32⟩
  | .local _ .vmem, ⟨3, _⟩ => ⟨S5x16384x512, .fp8e5m2⟩
  | .local _ .vmem, ⟨4, _⟩ => ⟨S1x1, .f32⟩
  | .local _ .vmem, ⟨5, _⟩ => ⟨S5x16384x512, .fp8e5m2⟩
  | .local _ .vmem, ⟨6, _⟩ => ⟨S5x32, .f32⟩
  | .local _ .vmem, ⟨7, _⟩ => ⟨S512, .f32⟩
  | .local _ .vmem, ⟨8, _⟩ => ⟨S512, .f32⟩
  | _, _ => ⟨S5x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S5x16384x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x16384x512 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x16384x512 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Kernel.Parts.lean ====
/- What the parts of the kernel body leave in memory, as triples whose contents after are some contents. -/
module

public import proofs.«01_k».proof.Proof.Gen.Kernel.Skeleton
public import proofs.«01_k».proof.Proof.Gen.Kernel.Loops
public import proofs.«01_k».proof.Proof.Gen.Kernel.Frame

@[expose] public section

set_option maxRecDepth 16384

noncomputable section

namespace Cert.Kernel.Parts

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (E : Set ℕ) (i : grid0.Coords)
  (arg2 : Memref sig .tc .smem S1 .f32) (harg2 : arg2.IsWhole)
  (arg3 : Memref sig .tc .vmem S1x16384x128 .bf16) (harg3 : arg3.IsWhole)
  (arg4 : Memref sig .tc .vmem S1x16384x128 .fp8e5m2) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x16384x128 .fp8e5m2) (harg7 : arg7.IsWhole)
  (arg8 : Memref sig .tc .vmem S1x1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S16384x128 .f32) (harg11 : arg11.IsWhole)
  (arg12 : Memref sig .tc .vmem S16384x128 .f32) (harg12 : arg12.IsWhole)

/-- A row block of the scratch, as a rectangle. -/
theorem mem_rows {n : ℕ} (off : Fin 2 → ℕ) (k : ℕ) (h : off = ![n * k, 0]) (inb : ∀ a, off a + (![n, 128] : Fin 2 → ℕ) a ≤ S16384x128.size a)
    (y : S16384x128.Idx) (h1 : n * k ≤ (y 0).val) (h2 : (y 0).val < n * (k + 1)) :
    y ∈ (Rect.unit (s := S16384x128) off ![n, 128] inb).set := by
  subst h
  refine (Rect.unit _ _ inb).mem_set.mpr fun a => ?_
  match a with
  | ⟨0, _⟩ =>
    refine ⟨(y 0).val - n * k, ?_, ?_⟩
    · show (y 0).val - n * k < n
      rw [Nat.mul_succ] at h2; omega
    · show (y 0).val = n * k + 1 * ((y 0).val - n * k)
      omega
  | ⟨1, _⟩ =>
    refine ⟨(y 1).val, (y 1).isLt, ?_⟩
    show (y 1).val = 0 + 1 * (y 1).val
    omega

/-- A row block of the codes, as a rectangle. -/
theorem mem_rows3 {n : ℕ} (off : Fin 3 → ℕ) (k : ℕ) (h : off = ![0, n * k, 0]) (inb : ∀ a, off a + (![1, n, 128] : Fin 3 → ℕ) a ≤ S1x16384x128.size a)
    (y : S1x16384x128.Idx) (h1 : n * k ≤ (y 1).val) (h2 : (y 1).val < n * (k + 1)) :
    y ∈ (Rect.unit (s := S1x16384x128) off ![1, n, 128] inb).set := by
  subst h
  refine (Rect.unit _ _ inb).mem_set.mpr fun a => ?_
  match a with
  | ⟨0, _⟩ =>
    refine ⟨(y 0).val, (y 0).isLt, ?_⟩
    show (y 0).val = 0 + 1 * (y 0).val
    omega
  | ⟨1, _⟩ =>
    refine ⟨(y 1).val - n * k, ?_, ?_⟩
    · show (y 1).val - n * k < n
      rw [Nat.mul_succ] at h2; omega
    · show (y 1).val = n * k + 1 * ((y 1).val - n * k)
      omega
  | ⟨2, _⟩ =>
    refine ⟨(y 2).val, (y 2).isLt, ?_⟩
    show (y 2).val = 0 + 1 * (y 2).val
    omega

/-- The rows one trip of the last loop stores. -/
theorem last_trip (v217 : FVec F S1x128 .f32) (v296 : IVec S1x128 32) (f11 : BufTy.Contents (Elt F) arg11.view.ty)
    (k : Fin k0_t6_loop.trips) :
    tripL_k0_t6 (F := F) Variants.none c none i arg2 harg2 arg3 harg3 arg4 harg4 arg5 harg5 arg6 harg6 arg7 harg7 arg8 harg8 arg9 harg9 arg10 harg10
            arg11 harg11 arg12 harg12 v217 v296 f11 k
      = [⟨Rect.unit (s := S1x16384x128) (k0_off8 k) S1x512x128.size (k0_off8_inb k),
          k0_pay1 v217 v296 (arg11.view.readAt (Elt F) (Rect.unit (s := S16384x128) (k0_off7 k) S512x128.size (k0_off7_inb k)).toLoadRect f11)⟩] := by
  unfold tripL_k0_t6 trip_k0_t6; rfl

/-- The rows one trip of the middle loop stores in the two scratches. -/
theorem mid_trip (arg1 : BitVec 32) (v0 : FVec F S8x128 .f32) (v72 v77 : FVec F S1x128 .f32) (v87 : BitVec 32)
    (v89 v93 v95 : FVec F S1x128 .f32) (f3 : BufTy.Contents (Elt F) arg3.view.ty) (f4 : BufTy.Contents (Elt F) arg4.view.ty)
    (k : Fin k0_t3_loop.trips) (acc : FVec F S8x128 .f32 × FVec F S8x128 .f32) :
    tripL_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 k acc
      = ([⟨Rect.unit (s := S16384x128) (k0_off4 k) S256x128.size (k0_off4_inb k),
            k0_pay126 (k0_pay313 v89 v93) (k0_pay314 v72 v89 v93 v95)
              (arg3.view.readAt (Elt F) (Rect.unit (s := S1x16384x128) (k0_off3 k) S1x256x128.size (k0_off3_inb k)).toLoadRect f3)
              (arg4.view.readAt (Elt F) (Rect.unit (s := S1x16384x128) (k0_off3 k) S1x256x128.size (k0_off3_inb k)).toLoadRect f4)⟩],
         [⟨Rect.unit (s := S16384x128) (k0_off4 k) S256x128.size (k0_off4_inb k),
            k0_pay127 (arg3.view.readAt (Elt F) (Rect.unit (s := S1x16384x128) (k0_off3 k) S1x256x128.size (k0_off3_inb k)).toLoadRect f3)⟩]) := by
  unfold tripL_k0_t3 trip_k0_t3; rfl

theorem trips3 : k0_t3_loop.trips = 64 := by decide +kernel
theorem trips6 : k0_t6_loop.trips = 32 := by decide +kernel

/-- The pieces the last loop has stored before trip `k` hold every row below `512 k`. -/
theorem last_cover (v217 : FVec F S1x128 .f32) (v296 : IVec S1x128 32) (f11 : BufTy.Contents (Elt F) arg11.view.ty) :
    ∀ k ≤ k0_t6_loop.trips, ∀ y : S1x16384x128.Idx, (y 1).val < 512 * k →
      ∃ p ∈ pb_k0_t6 (F := F) Variants.none c none i arg2 harg2 arg3 harg3 arg4 harg4 arg5 harg5 arg6 harg6 arg7 harg7 arg8 harg8 arg9 harg9 arg10 harg10
            arg11 harg11 arg12 harg12 v217 v296 f11 k, y ∈ p.1.set
  | 0, _, y, h => absurd h (by omega)
  | k + 1, hk, y, h => by
    have hk' : k < k0_t6_loop.trips := hk
    rw [pb_k0_t6_succ (F := F) Variants.none c none i arg2 harg2 arg3 harg3 arg4 harg4 arg5 harg5 arg6 harg6 arg7 harg7 arg8 harg8 arg9 harg9 arg10 harg10
            arg11 harg11 arg12 harg12 v217 v296 f11 ⟨k, hk'⟩]
    by_cases hy : (y 1).val < 512 * k
    · obtain ⟨p, hp, hm⟩ := last_cover v217 v296 f11 k (Nat.le_of_lt hk') y hy
      exact ⟨p, List.mem_append_right _ hp, hm⟩
    · refine ⟨_, List.mem_append_left _ (by rw [last_trip]; exact List.mem_singleton.mpr rfl), ?_⟩
      exact mem_rows3 (n := 512) (k0_off8 ⟨k, hk'⟩) k (k0_off8_eq _) (k0_off8_inb _) y (Nat.le_of_not_lt hy) h

/-- The pieces the middle loop has stored before trip `k` hold every row below `256 k`, in both scratches. -/
theorem mid_cover (arg1 : BitVec 32) (v0 : FVec F S8x128 .f32) (v72 v77 : FVec F S1x128 .f32) (v87 : BitVec 32)
    (v89 v93 v95 : FVec F S1x128 .f32) (f3 : BufTy.Contents (Elt F) arg3.view.ty) (f4 : BufTy.Contents (Elt F) arg4.view.ty)
    (init : FVec F S8x128 .f32 × FVec F S8x128 .f32) :
    ∀ k ≤ k0_t3_loop.trips, ∀ y : S16384x128.Idx, (y 0).val < 256 * k →
      (∃ p ∈ (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init k).2.1, y ∈ p.1.set)
      ∧ ∃ p ∈ (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init k).2.2, y ∈ p.1.set
  | 0, _, y, h => absurd h (by omega)
  | k + 1, hk, y, h => by
    have hk' : k < k0_t3_loop.trips := hk
    rw [st_k0_t3_succ (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init ⟨k, hk'⟩]
    by_cases hy : (y 0).val < 256 * k
    · obtain ⟨⟨p, hp, hm⟩, ⟨q, hq, hn⟩⟩ := mid_cover arg1 v0 v72 v77 v87 v89 v93 v95 f3 f4 init k (Nat.le_of_lt hk') y hy
      exact ⟨⟨p, List.mem_append_right _ hp, hm⟩, ⟨q, List.mem_append_right _ hq, hn⟩⟩
    · have hm := mem_rows (n := 256) (k0_off4 ⟨k, hk'⟩) k (k0_off4_eq _) (k0_off4_inb _) y (Nat.le_of_not_lt hy) h
      refine ⟨⟨_, List.mem_append_left _ (by rw [mid_trip]; exact List.mem_singleton.mpr rfl), ?_⟩,
        ⟨_, List.mem_append_left _ (by rw [mid_trip]; exact List.mem_singleton.mpr rfl), ?_⟩⟩ <;> exact hm

/-- What a covering list of stores leaves in a whole buffer is the same whatever the buffer held. -/
theorem writes_of_cover {κ : Kind} {sp : Space} {s : Shape} {e : EltTy} {m : Memref sig κ sp s e} (hm : m.IsWhole)
    (f f' : m.view.ty.Contents (Elt F)) (L : List (View.Piece (Elt F) s e)) (h : ∀ y, ∃ p ∈ L, y ∈ p.1.set) :
    m.view.writes (Elt F) f L = m.view.writes (Elt F) f' L :=
  hm.read_bijective.1 (View.read_writes_of_cover m.view f m.view f' L h)

/-- The last loop leaves the same codes whatever the block held. -/
theorem last_fill (v217 : FVec F S1x128 .f32) (v296 : IVec S1x128 32) (f11 : BufTy.Contents (Elt F) arg11.view.ty)
    (f f' : BufTy.Contents (Elt F) arg7.view.ty) :
    arg7.view.writes (Elt F) f (pb_k0_t6 (F := F) Variants.none c none i arg2 harg2 arg3 harg3 arg4 harg4 arg5 harg5 arg6 harg6 arg7 harg7 arg8 harg8 arg9 harg9 arg10 harg10
            arg11 harg11 arg12 harg12 v217 v296 f11 (Scf.trips k0_t6_loop.lb k0_t6_loop.ub k0_t6_loop.st))
      = arg7.view.writes (Elt F) f' (pb_k0_t6 (F := F) Variants.none c none i arg2 harg2 arg3 harg3 arg4 harg4 arg5 harg5 arg6 harg6 arg7 harg7 arg8 harg8 arg9 harg9 arg10 harg10
            arg11 harg11 arg12 harg12 v217 v296 f11 (Scf.trips k0_t6_loop.lb k0_t6_loop.ub k0_t6_loop.st)) := by
  refine writes_of_cover harg7 f f' _ fun y => ?_
  refine last_cover c i arg2 harg2 arg3 harg3 arg4 harg4 arg5 harg5 arg6 harg6 arg7 harg7 arg8 harg8 arg9 harg9 arg10 harg10
            arg11 harg11 arg12 harg12 v217 v296 f11 k0_t6_loop.trips (Nat.le_refl _) y ?_
  have h : (y 1).val < 16384 := (y 1).isLt
  rw [trips6]
  omega

/-- The middle loop fills both scratches, whatever they held. -/
theorem mid_fill (arg1 : BitVec 32) (v0 : FVec F S8x128 .f32) (v72 v77 : FVec F S1x128 .f32) (v87 : BitVec 32)
    (v89 v93 v95 : FVec F S1x128 .f32) (f3 : BufTy.Contents (Elt F) arg3.view.ty) (f4 : BufTy.Contents (Elt F) arg4.view.ty)
    (init : FVec F S8x128 .f32 × FVec F S8x128 .f32) (y : S16384x128.Idx) :
    (∃ p ∈ (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init (Scf.trips k0_t3_loop.lb k0_t3_loop.ub k0_t3_loop.st)).2.1, y ∈ p.1.set)
      ∧ ∃ p ∈ (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init (Scf.trips k0_t3_loop.lb k0_t3_loop.ub k0_t3_loop.st)).2.2, y ∈ p.1.set := by
  refine mid_cover c i arg2 harg2 arg3 harg3 arg4 harg4 arg5 harg5 arg6 harg6 arg7 harg7 arg8 harg8 arg9 harg9 arg10 harg10
            arg11 harg11 arg12 harg12 arg1 v0 v72 v77 v87 v89 v93 v95 f3 f4 init k0_t3_loop.trips (Nat.le_refl _) y ?_
  have h : (y 0).val < 16384 := (y 0).isLt
  rw [trips3]
  omega

theorem mid_fill11 (arg1 : BitVec 32) (v0 : FVec F S8x128 .f32) (v72 v77 : FVec F S1x128 .f32) (v87 : BitVec 32)
    (v89 v93 v95 : FVec F S1x128 .f32) (f3 : BufTy.Contents (Elt F) arg3.view.ty) (f4 : BufTy.Contents (Elt F) arg4.view.ty)
    (init : FVec F S8x128 .f32 × FVec F S8x128 .f32) (f f' : BufTy.Contents (Elt F) arg11.view.ty) :
    arg11.view.writes (Elt F) f (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init (Scf.trips k0_t3_loop.lb k0_t3_loop.ub k0_t3_loop.st)).2.1
      = arg11.view.writes (Elt F) f' (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init (Scf.trips k0_t3_loop.lb k0_t3_loop.ub k0_t3_loop.st)).2.1 :=
  writes_of_cover harg11 f f' _ fun y => (mid_fill c i arg2 harg2 arg3 harg3 arg4 harg4 arg5 harg5 arg6 harg6 arg7 harg7 arg8 harg8 arg9 harg9 arg10 harg10
            arg11 harg11 arg12 harg12 arg1 v0 v72 v77 v87 v89 v93 v95 f3 f4 init y).1

theorem mid_fill12 (arg1 : BitVec 32) (v0 : FVec F S8x128 .f32) (v72 v77 : FVec F S1x128 .f32) (v87 : BitVec 32)
    (v89 v93 v95 : FVec F S1x128 .f32) (f3 : BufTy.Contents (Elt F) arg3.view.ty) (f4 : BufTy.Contents (Elt F) arg4.view.ty)
    (init : FVec F S8x128 .f32 × FVec F S8x128 .f32) (f f' : BufTy.Contents (Elt F) arg12.view.ty) :
    arg12.view.writes (Elt F) f (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init (Scf.trips k0_t3_loop.lb k0_t3_loop.ub k0_t3_loop.st)).2.2
      = arg12.view.writes (Elt F) f' (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init (Scf.trips k0_t3_loop.lb k0_t3_loop.ub k0_t3_loop.st)).2.2 :=
  writes_of_cover harg12 f f' _ fun y => (mid_fill c i arg2 harg2 arg3 harg3 arg4 harg4 arg5 harg5 arg6 harg6 arg7 harg7 arg8 harg8 arg9 harg9 arg10 harg10
            arg11 harg11 arg12 harg12 arg1 v0 v72 v77 v87 v89 v93 v95 f3 f4 init y).2

/-- A first sweep over the rows. -/
theorem part16 (f3 : BufTy.Contents (Elt F) arg3.view.ty) :
    ∃ (v0 : FVec F S8x128 .f32) (v3 : IVec S8x128 32) (v14 : FVec F S8x128 .f32) (v39 v40 : IVec S128x128 32) (c16 : BitVec 32)
        (v41 : IVec S128x128 32), ∀ K : _ → sProp 𝕄,
      iprop((arg3.view.loc (c : Thread nD τ) ↦[arg3.view.set]{fullShare} f3)
        ∗ ((arg3.view.loc (c : Thread nD τ) ↦[arg3.view.set]{fullShare} f3)
          -∗ K ⟨BitVec.ofNat 32 (i 1).val, v0, v3, v14, v39, v40, c16, v41⟩))
      ⊢ wp frame (wpE (defs₀ (F := F)) Variants.none c none) E (k0_part16_skel i arg2 harg2 arg3 harg3 arg4 harg4 arg5 harg5
          arg6 harg6 arg7 harg7 arg8 harg8 arg9 harg9 arg10 harg10 arg11 harg11 arg12 harg12) K := by
  unfold k0_part16_skel
  refine ⟨?_, ?_, ?_, ?_, ?_, ?_, ?_, fun K => ?_⟩
  rotate_left 7
  iintro ⟨H3, Hk⟩
  sl_exec
  sl_step
  iapply Hk
  iexact H3

set_option maxHeartbeats 2000000 in
/-- The last pass over the scratch, in either of its two forms. -/
theorem part21 (v0 : FVec F S8x128 .f32) (v92 v94 : FVec F S1x128 .f32) (v114 : F .f32) (v200 v202 : FVec F S1x128 .f32)
    (v208 : BitVec 1) (v212 v213 : FVec F S1x128 .f32)
    (f11 : BufTy.Contents (Elt F) arg11.view.ty) (f12 : BufTy.Contents (Elt F) arg12.view.ty) :
    ∃ (y : BufTy.Contents (Elt F) arg11.view.ty) (r : _), ∀ K : _ → sProp 𝕄,
      iprop((arg11.view.loc (c : Thread nD τ) ↦[arg11.view.set]{fullShare} f11) ∗ (arg12.view.loc (c : Thread nD τ) ↦[arg12.view.set]{fullShare} f12)
        ∗ (iprop((arg11.view.loc (c : Thread nD τ) ↦[arg11.view.set]{fullShare} y) ∗ (arg12.view.loc (c : Thread nD τ) ↦[arg12.view.set]{fullShare} f12)) -∗ K r))
      ⊢ wp frame (wpE (defs₀ (F := F)) Variants.none c none) E
          (k0_part21_skel i arg2 harg2 arg3 harg3 arg4 harg4 arg5 harg5 arg6 harg6 arg7 harg7 arg8 harg8 arg9 harg9 arg10 harg10
            arg11 harg11 arg12 harg12 v0 v92 v94 v114 v200 v202 v208 v212 v213) K := by
  unfold k0_part21_skel
  by_cases h : Scalar.cmpi .ne (Scalar.extui v208 : BitVec 32) 0#32 = 1#1
  all_goals
    refine ⟨?_, ?_, fun K => ?_⟩
    rotate_left 2
    simp only [h, if_true, if_false]
    iintro ⟨H11, H12, Hk⟩
    sl_exec
    sl_step
    iapply Hk
    isplitl [H11]
    · iexact H11
    iexact H12

/-- The whole of a one-row buffer, as a rectangle. -/
theorem mem_row (y : S1x128.Idx) : y ∈ (Rect.unit (s := S1x128) ![0, 0] S1x128.size inb_S1x128_S1x128_0_0).set := by
  refine (Rect.unit _ _ inb_S1x128_S1x128_0_0).mem_set.mpr fun a => ⟨(y a).val, (y a).isLt, ?_⟩
  match a with
  | ⟨0, _⟩ => show (y 0).val = 0 + 1 * (y 0).val; omega
  | ⟨1, _⟩ => show (y 1).val = 0 + 1 * (y 1).val; omega

/-- The whole of the scale output's block, as a rectangle. -/
theorem mem_row3 (y : S1x1x128.Idx) : y ∈ (Rect.unit (s := S1x1x128) ![0, 0, 0] S1x1x128.size inb_S1x1x128_S1x1x128_0_0_0).set := by
  refine (Rect.unit _ _ inb_S1x1x128_S1x1x128_0_0_0).mem_set.mpr fun a => ⟨(y a).val, (y a).isLt, ?_⟩
  match a with
  | ⟨0, _⟩ => show (y 0).val = 0 + 1 * (y 0).val; omega
  | ⟨1, _⟩ => show (y 1).val = 0 + 1 * (y 1).val; omega
  | ⟨2, _⟩ => show (y 2).val = 0 + 1 * (y 2).val; omega

/-- What a store of a whole one-row buffer leaves is the same whatever the buffer held. -/
theorem fill_row {κ : Kind} {sp : Space} {m : Memref sig κ sp S1x128 .f32} (hm : m.IsWhole) (f f' : m.view.ty.Contents (Elt F))
    (w : FVec F S1x128 .f32) (L : List (View.Piece (Elt F) S1x128 .f32)) :
    m.view.writes (Elt F) f (⟨Rect.unit (s := S1x128) ![0, 0] S1x128.size inb_S1x128_S1x128_0_0, w⟩ :: L)
      = m.view.writes (Elt F) f' (⟨Rect.unit (s := S1x128) ![0, 0] S1x128.size inb_S1x128_S1x128_0_0, w⟩ :: L) :=
  writes_of_cover hm f f' _ fun y => ⟨⟨Rect.unit (s := S1x128) ![0, 0] S1x128.size inb_S1x128_S1x128_0_0, w⟩, List.mem_cons_self, mem_row y⟩

/-- The same of the scale output's block. -/
theorem fill_row3 {κ : Kind} {sp : Space} {m : Memref sig κ sp S1x1x128 .f32} (hm : m.IsWhole) (f f' : m.view.ty.Contents (Elt F))
    (w : FVec F S1x1x128 .f32) (L : List (View.Piece (Elt F) S1x1x128 .f32)) :
    m.view.writes (Elt F) f (⟨Rect.unit (s := S1x1x128) ![0, 0, 0] S1x1x128.size inb_S1x1x128_S1x1x128_0_0_0, w⟩ :: L)
      = m.view.writes (Elt F) f' (⟨Rect.unit (s := S1x1x128) ![0, 0, 0] S1x1x128.size inb_S1x1x128_S1x1x128_0_0_0, w⟩ :: L) :=
  writes_of_cover hm f f' _ fun y => ⟨⟨Rect.unit (s := S1x1x128) ![0, 0, 0] S1x1x128.size inb_S1x1x128_S1x1x128_0_0_0, w⟩, List.mem_cons_self, mem_row3 y⟩

/-- The word `arg1` is the first batch element's. -/
abbrev IsFirst (arg1 : BitVec 32) : Prop :=
  Scalar.cmpi .ne (Scalar.extui (Scalar.cmpi .eq arg1 0#32) : BitVec 32) 0#32 = 1#1

/-- The second accumulator's update. -/
theorem part19 (v3 : IVec S8x128 32) (v94 v107 v112 : FVec F S1x128 .f32) (v114 : F .f32) (f10 : BufTy.Contents (Elt F) arg10.view.ty) :
    ∃ (y10 : BufTy.Contents (Elt F) arg10.view.ty) (r : _), ∀ K : _ → sProp 𝕄,
      iprop((arg10.view.loc (c : Thread nD τ) ↦[arg10.view.set]{fullShare} f10) ∗ ((arg10.view.loc (c : Thread nD τ) ↦[arg10.view.set]{fullShare} y10) -∗ K r))
      ⊢ wp frame (wpE (defs₀ (F := F)) Variants.none c none) E (k0_part19_skel i arg2 harg2 arg3 harg3 arg4 harg4 arg5 harg5 arg6 harg6 arg7 harg7 arg8 harg8 arg9 harg9 arg10 harg10
            arg11 harg11 arg12 harg12 v3 v94 v107 v112 v114) K := by
  unfold k0_part19_skel
  refine ⟨?_, ?_, fun K => ?_⟩
  rotate_left 2
  iintro ⟨H10, Hk⟩
  sl_exec
  sl_step
  iapply Hk
  iexact H10

/-- The scale's store. -/
theorem part22 (v251 v252 v253 : FVec F S1x128 .f32) (v255 : IVec S1x128 32) (w : BitVec 32) :
    ∃ (y8 : BufTy.Contents (Elt F) arg8.view.ty) (r : _), ∀ (f8 : BufTy.Contents (Elt F) arg8.view.ty) (K : _ → sProp 𝕄),
      iprop((arg8.view.loc (c : Thread nD τ) ↦[arg8.view.set]{fullShare} f8) ∗ ((arg8.view.loc (c : Thread nD τ) ↦[arg8.view.set]{fullShare} y8) -∗ K r))
      ⊢ wp frame (wpE (defs₀ (F := F)) Variants.none c none) E (k0_part22_skel i arg2 harg2 arg3 harg3 arg4 harg4 arg5 harg5 arg6 harg6 arg7 harg7 arg8 harg8 arg9 harg9 arg10 harg10
            arg11 harg11 arg12 harg12 v251 v252 v253 v255 w) K := by
  unfold k0_part22_skel
  refine ⟨?_, ?_, fun f8 K => ?_⟩
  rotate_left 2
  iintro ⟨H8, Hk⟩
  sl_exec
  sl_step
  rw [fill_row3 harg8 f8 (harg8.unread fun _ => Scalar.ofBits .f32 0x00000000#32)]
  iapply Hk
  iexact H8

end Cert.Kernel.Parts

end
-- ==== Proof.Kernel.Mid.lean ====
/- The second sweep over the rows as a triple. -/
module

public import proofs.«01_k».proof.Proof.Gen.Kernel.Skeleton
public import proofs.«01_k».proof.Proof.Gen.Kernel.Loops
public import proofs.«01_k».proof.Proof.Gen.Kernel.Frame

public import proofs.«01_k».proof.Proof.Kernel.Parts

@[expose] public section

set_option maxRecDepth 16384

noncomputable section

namespace Cert.Kernel.Parts

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (E : Set ℕ) (i : grid0.Coords)
  (arg2 : Memref sig .tc .smem S1 .f32) (harg2 : arg2.IsWhole)
  (arg3 : Memref sig .tc .vmem S1x16384x128 .bf16) (harg3 : arg3.IsWhole)
  (arg4 : Memref sig .tc .vmem S1x16384x128 .fp8e5m2) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x16384x128 .fp8e5m2) (harg7 : arg7.IsWhole)
  (arg8 : Memref sig .tc .vmem S1x1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S16384x128 .f32) (harg11 : arg11.IsWhole)
  (arg12 : Memref sig .tc .vmem S16384x128 .f32) (harg12 : arg12.IsWhole)

set_option maxHeartbeats 4000000 in
/-- The second sweep, the sums it leaves and the first accumulator's update: at the first batch element the
    accumulators are cleared, so what they held before does not matter there. -/
theorem part18 (arg1 : BitVec 32) (v0 : FVec F S8x128 .f32) (v72 v77 : FVec F S1x128 .f32) (v87 : BitVec 32)
    (f2 : BufTy.Contents (Elt F) arg2.view.ty) (f3 : BufTy.Contents (Elt F) arg3.view.ty) (f4 : BufTy.Contents (Elt F) arg4.view.ty)
    (f5 : BufTy.Contents (Elt F) arg5.view.ty) (f6 : BufTy.Contents (Elt F) arg6.view.ty)
    (g9 : BufTy.Contents (Elt F) arg9.view.ty) (g10 : BufTy.Contents (Elt F) arg10.view.ty) :
    ∃ (y9 : BufTy.Contents (Elt F) arg9.view.ty) (y10 : BufTy.Contents (Elt F) arg10.view.ty)
      (y11 : BufTy.Contents (Elt F) arg11.view.ty) (y12 : BufTy.Contents (Elt F) arg12.view.ty) (r : _),
      ∀ (f9 : BufTy.Contents (Elt F) arg9.view.ty) (f10 : BufTy.Contents (Elt F) arg10.view.ty)
        (f11 : BufTy.Contents (Elt F) arg11.view.ty) (f12 : BufTy.Contents (Elt F) arg12.view.ty) (K : _ → sProp 𝕄),
      (¬ IsFirst arg1 → f9 = g9 ∧ f10 = g10) →
      (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} y9) ∗ (arg10.view.loc (c : Thread nD τ) ↦[arg10.view.set]{fullShare} y10) ∗ (arg11.view.loc (c : Thread nD τ) ↦[arg11.view.set]{fullShare} y11) ∗ (arg12.view.loc (c : Thread nD τ) ↦[arg12.view.set]{fullShare} y12)) -∗ K r))
      ⊢ wp frame (wpE (defs₀ (F := F)) Variants.none c none) E (k0_part18_skel i arg2 harg2 arg3 harg3 arg4 harg4 arg5 harg5 arg6 harg6 arg7 harg7 arg8 harg8 arg9 harg9 arg10 harg10
            arg11 harg11 arg12 harg12 arg1 v0 v72 v77 v87) K) := by
  unfold k0_part18_skel
  simp only [k0_part9_eq_skeleton]
  by_cases h : Scalar.cmpi .ne v87 0#32 = 1#1
  all_goals by_cases h' : IsFirst arg1
  all_goals
    refine ⟨?_, ?_, ?_, ?_, ?_, fun f9 f10 f11 f12 K hfirst => ?_⟩
    rotate_left 5
    first | (have hg : f9 = g9 ∧ f10 = g10 := hfirst (by assumption); obtain ⟨hg9, hg10⟩ := hg; subst f9; subst f10) | skip
    simp only [h, h', if_true, if_false, dite_true, dite_false]
    iintro ⟨H2, H3, H4, H5, H6, H9, H10, H11, H12, Hk⟩
    sl_exec
    sl_step
    first | rw [fill_row harg9 f9 g9, fill_row harg10 f10 g10] | skip
    rw [mid_fill11 c i arg2 harg2 arg3 harg3 arg4 harg4 arg5 harg5 arg6 harg6 arg7 harg7 arg8 harg8 arg9 harg9 arg10 harg10
            arg11 harg11 arg12 harg12 _ _ _ _ _ _ _ _ _ _ _ f11 (harg11.unread fun _ => Scalar.ofBits .f32 0x00000000#32),
      mid_fill12 c i arg2 harg2 arg3 harg3 arg4 harg4 arg5 harg5 arg6 harg6 arg7 harg7 arg8 harg8 arg9 harg9 arg10 harg10
            arg11 harg11 arg12 harg12 _ _ _ _ _ _ _ _ _ _ _ f12 (harg12.unread fun _ => Scalar.ofBits .f32 0x00000000#32)]
    iapply Hk
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [H11]; · iexact H11
    iexact H12

end Cert.Kernel.Parts

end
-- ==== Proof.Kernel.Tail.lean ====
/- The loop that stores the codes, as a triple. -/
module

public import proofs.«01_k».proof.Proof.Gen.Kernel.Skeleton
public import proofs.«01_k».proof.Proof.Gen.Kernel.Loops
public import proofs.«01_k».proof.Proof.Gen.Kernel.Frame

public import proofs.«01_k».proof.Proof.Kernel.Parts

@[expose] public section

set_option maxRecDepth 16384

noncomputable section

namespace Cert.Kernel.Parts

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (E : Set ℕ) (i : grid0.Coords)
  (arg2 : Memref sig .tc .smem S1 .f32) (harg2 : arg2.IsWhole)
  (arg3 : Memref sig .tc .vmem S1x16384x128 .bf16) (harg3 : arg3.IsWhole)
  (arg4 : Memref sig .tc .vmem S1x16384x128 .fp8e5m2) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x16384x128 .fp8e5m2) (harg7 : arg7.IsWhole)
  (arg8 : Memref sig .tc .vmem S1x1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S16384x128 .f32) (harg11 : arg11.IsWhole)
  (arg12 : Memref sig .tc .vmem S16384x128 .f32) (harg12 : arg12.IsWhole)

set_option maxHeartbeats 400000 in
/-- The last loop's stores. -/
theorem tail (v217 : FVec F S1x128 .f32) (v296 : IVec S1x128 32) (f11 : BufTy.Contents (Elt F) arg11.view.ty) :
    ∃ y7 : BufTy.Contents (Elt F) arg7.view.ty, ∀ (f7 : BufTy.Contents (Elt F) arg7.view.ty) (K : PUnit → sProp 𝕄),
      iprop((arg7.view.loc (c : Thread nD τ) ↦[arg7.view.set]{fullShare} f7) ∗ (arg11.view.loc (c : Thread nD τ) ↦[arg11.view.set]{fullShare} f11) ∗ (iprop((arg7.view.loc (c : Thread nD τ) ↦[arg7.view.set]{fullShare} y7) ∗ (arg11.view.loc (c : Thread nD τ) ↦[arg11.view.set]{fullShare} f11)) -∗ K ⟨⟩))
      ⊢ wp frame (wpE (defs₀ (F := F)) Variants.none c none) E
          (do Scf.Loop.for k0_t6_loop k0_t6_ok ⟨⟩ (k0_t6_body i arg2 harg2 arg3 harg3 arg4 harg4 arg5 harg5 arg6 harg6 arg7 harg7 arg8 harg8 arg9 harg9 arg10 harg10
            arg11 harg11 arg12 harg12 v217 v296); pure ⟨⟩) K := by
  refine ⟨?_, fun f7 K => ?_⟩
  rotate_left 1
  iintro ⟨H7, H11, Hk⟩
  sl_exec
  sl_step
  rw [last_fill c i arg2 harg2 arg3 harg3 arg4 harg4 arg5 harg5 arg6 harg6 arg7 harg7 arg8 harg8 arg9 harg9 arg10 harg10
            arg11 harg11 arg12 harg12 v217 v296 f11 f7 (harg7.unread fun _ => Scalar.ofBits .fp8e5m2 0x00#8)]
  iapply Hk
  isplitl [H7]
  · iexact H7
  iexact H11

end Cert.Kernel.Parts

end
-- ==== Proof.Kernel.Body.lean ====
/- The whole kernel body as one triple, composed of its parts. -/
module

public import proofs.«01_k».proof.Proof.Gen.Kernel.Skeleton
public import proofs.«01_k».proof.Proof.Gen.Kernel.Loops
public import proofs.«01_k».proof.Proof.Gen.Kernel.Frame

public import proofs.«01_k».proof.Proof.Kernel.Mid

public import proofs.«01_k».proof.Proof.Kernel.Tail

@[expose] public section

set_option maxRecDepth 16384

noncomputable section

namespace Cert.Kernel.Parts

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (E : Set ℕ) (i : grid0.Coords)
  (arg2 : Memref sig .tc .smem S1 .f32) (harg2 : arg2.IsWhole)
  (arg3 : Memref sig .tc .vmem S1x16384x128 .bf16) (harg3 : arg3.IsWhole)
  (arg4 : Memref sig .tc .vmem S1x16384x128 .fp8e5m2) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x16384x128 .fp8e5m2) (harg7 : arg7.IsWhole)
  (arg8 : Memref sig .tc .vmem S1x1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S16384x128 .f32) (harg11 : arg11.IsWhole)
  (arg12 : Memref sig .tc .vmem S16384x128 .f32) (harg12 : arg12.IsWhole)

set_option maxHeartbeats 2000000 in
/-- The whole body at grid point `i`. -/
theorem body (f2 : BufTy.Contents (Elt F) arg2.view.ty) (f3 : BufTy.Contents (Elt F) arg3.view.ty) (f4 : BufTy.Contents (Elt F) arg4.view.ty)
    (f5 : BufTy.Contents (Elt F) arg5.view.ty) (f6 : BufTy.Contents (Elt F) arg6.view.ty)
    (g9 : BufTy.Contents (Elt F) arg9.view.ty) (g10 : BufTy.Contents (Elt F) arg10.view.ty) :
    ∃ (y7 : BufTy.Contents (Elt F) arg7.view.ty) (y8 : BufTy.Contents (Elt F) arg8.view.ty)
      (y9 : BufTy.Contents (Elt F) arg9.view.ty) (y10 : BufTy.Contents (Elt F) arg10.view.ty)
      (y11 : BufTy.Contents (Elt F) arg11.view.ty) (y12 : BufTy.Contents (Elt F) arg12.view.ty),
      ∀ (f7 : BufTy.Contents (Elt F) arg7.view.ty) (f8 : BufTy.Contents (Elt F) arg8.view.ty)
        (f9 : BufTy.Contents (Elt F) arg9.view.ty) (f10 : BufTy.Contents (Elt F) arg10.view.ty)
        (f11 : BufTy.Contents (Elt F) arg11.view.ty) (f12 : BufTy.Contents (Elt F) arg12.view.ty) (K : PUnit → sProp 𝕄),
      (¬ IsFirst (BitVec.ofNat 32 (i 1).val) → f9 = g9 ∧ f10 = g10) →
      (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} y7) ∗ (arg8.view.loc (c : Thread nD τ) ↦[arg8.view.set]{fullShare} y8) ∗ (arg9.view.loc (c : Thread nD τ) ↦[arg9.view.set]{fullShare} y9) ∗ (arg10.view.loc (c : Thread nD τ) ↦[arg10.view.set]{fullShare} y10) ∗ (arg11.view.loc (c : Thread nD τ) ↦[arg11.view.set]{fullShare} y11) ∗ (arg12.view.loc (c : Thread nD τ) ↦[arg12.view.set]{fullShare} y12)) -∗ K ⟨⟩))
      ⊢ wp frame (wpE (defs₀ (F := F)) Variants.none c none) E (cc0_gn_silu_bwd i arg2 harg2 arg3 harg3 arg4 harg4 arg5 harg5 arg6 harg6 arg7 harg7 arg8 harg8 arg9 harg9 arg10 harg10
            arg11 harg11 arg12 harg12) K) := by
  simp only [cc0_gn_silu_bwd_eq_skeleton]; unfold cc0_gn_silu_bwd_skel
  simp only [k0_part16_eq_skeleton, k0_part17_eq_skeleton, k0_part18_eq_skeleton, k0_part19_eq_skeleton, k0_part20_eq_skeleton,
    k0_part21_eq_skeleton, k0_part22_eq_skeleton]
  unfold k0_part17_skel k0_part20_skel
  have h16 := part16 c E i arg2 harg2 arg3 harg3 arg4 harg4 arg5 harg5 arg6 harg6 arg7 harg7 arg8 harg8 arg9 harg9 arg10 harg10
            arg11 harg11 arg12 harg12 f3
  obtain ⟨v0, v3, v14, v39, v40, c16, v41, h16⟩ := h16
  have h18 := part18 c E i arg2 harg2 arg3 harg3 arg4 harg4 arg5 harg5 arg6 harg6 arg7 harg7 arg8 harg8 arg9 harg9 arg10 harg10
            arg11 harg11 arg12 harg12 (BitVec.ofNat 32 (i 1).val) v0 (k0_pay307 v14 v39 v40 c16 v41) (k0_pay308 v14 v39 v40 c16 v41)
    (Scalar.extui (Scalar.cmpf .oge (k0_pay309 v14 v39 v40 c16 v41) (Scalar.ofBits .f32 0x00000000#32))) f2 f3 f4 f5 f6 g9 g10
  obtain ⟨y9, z10, z11, z12, ⟨v92, v94, v107, v112, v114⟩, h18⟩ := h18
  have h19 := part19 c E i arg2 harg2 arg3 harg3 arg4 harg4 arg5 harg5 arg6 harg6 arg7 harg7 arg8 harg8 arg9 harg9 arg10 harg10
            arg11 harg11 arg12 harg12 v3 v94 v107 v112 v114 z10
  obtain ⟨y10, ⟨v138, v163, v164, c57, v166, v168⟩, h19⟩ := h19
  have h21 := part21 c E i arg2 harg2 arg3 harg3 arg4 harg4 arg5 harg5 arg6 harg6 arg7 harg7 arg8 harg8 arg9 harg9 arg10 harg10
            arg11 harg11 arg12 harg12 v0 v92 v94 v114 (k0_pay328 v92 v138 v163 v164 c57 v166 v168)
    (k0_pay329 (k0_pay307 v14 v39 v40 c16 v41) v92 v138 v163 v164 c57 v166 v168)
    (Scalar.cmpf .oge (k0_pay330 v94) (Scalar.ofBits .f32 0x21800000#32)) (k0_pay331 v94) (k0_pay332 (F := F)) z11 z12
  obtain ⟨y11, ⟨v217, v251, v252, v253, v255, w⟩, h21⟩ := h21
  obtain ⟨y8, v296, h22⟩ := part22 c E i arg2 harg2 arg3 harg3 arg4 harg4 arg5 harg5 arg6 harg6 arg7 harg7 arg8 harg8 arg9 harg9 arg10 harg10
            arg11 harg11 arg12 harg12 v251 v252 v253 v255 w
  obtain ⟨y7, h7⟩ := tail c E i arg2 harg2 arg3 harg3 arg4 harg4 arg5 harg5 arg6 harg6 arg7 harg7 arg8 harg8 arg9 harg9 arg10 harg10
            arg11 harg11 arg12 harg12 v217 v296 y11
  refine ⟨y7, y8, y9, y10, y11, z12, fun f7 f8 f9 f10 f11 f12 K hfirst => ?_⟩
  simp only [wp_bind]
  iintro ⟨H2, H3, H4, H5, H6, H7, H8, H9, H10, H11, H12, Hk⟩
  iapply h16
  isplitl [H3]; · iexact H3
  iintro H3
  sl_step
  dsimp only
  iapply h18 f9 f10 f11 f12 _ hfirst
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [H11]; · iexact H11
  isplitl [H12]; · iexact H12
  iintro ⟨H2, H3, H4, H5, H6, H9, H10, H11, H12⟩
  dsimp only
  iapply h19
  isplitl [H10]; · iexact H10
  iintro H10
  sl_step
  dsimp only
  iapply h21
  isplitl [H11]; · iexact H11
  isplitl [H12]; · iexact H12
  iintro ⟨H11, H12⟩
  dsimp only
  iapply h22
  isplitl [H8]; · iexact H8
  iintro H8
  try dsimp only
  simp only [← wp_bind]
  iapply h7
  isplitl [H7]; · iexact H7
  isplitl [H11]; · iexact H11
  iintro ⟨H7, H11⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.Kernel.Parts

end
-- ==== Proof.Kernel.Owned.lean ====
/- The kernel body over owned memrefs. -/
module

public import proofs.«01_k».proof.Proof.Gen.Kernel.Skeleton
public import proofs.«01_k».proof.Proof.Gen.Kernel.Loops
public import proofs.«01_k».proof.Proof.Gen.Kernel.Frame

public import proofs.«01_k».proof.Proof.Kernel.Body

@[expose] public section

set_option maxRecDepth 16384

noncomputable section

namespace Cert.Kernel.Parts

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (E : Set ℕ) (i : grid0.Coords)
  (arg2 : Memref sig .tc .smem S1 .f32) (harg2 : arg2.IsWhole)
  (arg3 : Memref sig .tc .vmem S1x16384x128 .bf16) (harg3 : arg3.IsWhole)
  (arg4 : Memref sig .tc .vmem S1x16384x128 .fp8e5m2) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x16384x128 .fp8e5m2) (harg7 : arg7.IsWhole)
  (arg8 : Memref sig .tc .vmem S1x1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S16384x128 .f32) (harg11 : arg11.IsWhole)
  (arg12 : Memref sig .tc .vmem S16384x128 .f32) (harg12 : arg12.IsWhole)

/-- The body over owned memrefs: the outputs it leaves depend on the inputs and, past the first batch element, on
    what the two accumulators held. -/
theorem owned (x2 : Vec F S1 .f32) (x3 : Vec F S1x16384x128 .bf16) (x4 : Vec F S1x16384x128 .fp8e5m2) (x5 : Vec F S1x128 .f32) (x6 : Vec F S1x128 .f32) (p9 p10 : Vec F S1x128 .f32) :
    ∃ (y7 : Vec F S1x16384x128 .fp8e5m2) (y8 : Vec F S1x1x128 .f32) (y9 y10 : Vec F S1x128 .f32),
      ∀ (d7 : Vec F S1x16384x128 .fp8e5m2) (d8 : Vec F S1x1x128 .f32) (d9 d10 : Vec F S1x128 .f32) (K : PUnit → sProp 𝕄),
      (¬ IsFirst (BitVec.ofNat 32 (i 1).val) → d9 = p9 ∧ d10 = p10) →
      (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare d8 ∗ owns (c : Thread nD τ) arg9 fullShare d9 ∗ owns (c : Thread nD τ) arg10 fullShare d10 ∗ (∃ d, owns (c : Thread nD τ) arg11 fullShare d) ∗ (∃ d, owns (c : Thread nD τ) arg12 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare y7 ∗ owns (c : Thread nD τ) arg8 fullShare y8 ∗ owns (c : Thread nD τ) arg9 fullShare y9 ∗ owns (c : Thread nD τ) arg10 fullShare y10 ∗ (∃ d, owns (c : Thread nD τ) arg11 fullShare d) ∗ (∃ d, owns (c : Thread nD τ) arg12 fullShare d)) -∗ K ⟨⟩))
      ⊢ wp frame (wpE (defs₀ (F := F)) Variants.none c none) E (cc0_gn_silu_bwd i arg2 harg2 arg3 harg3 arg4 harg4 arg5 harg5 arg6 harg6 arg7 harg7 arg8 harg8 arg9 harg9 arg10 harg10
            arg11 harg11 arg12 harg12) K) := by
  obtain ⟨y7, y8, y9, y10, y11, y12, h⟩ := body c E i arg2 harg2 arg3 harg3 arg4 harg4 arg5 harg5 arg6 harg6 arg7 harg7 arg8 harg8 arg9 harg9 arg10 harg10
            arg11 harg11 arg12 harg12
    (harg2.unread x2) (harg3.unread x3) (harg4.unread x4) (harg5.unread x5) (harg6.unread x6) (harg9.unread p9) (harg10.unread p10)
  refine ⟨arg7.view.read _ y7, arg8.view.read _ y8, arg9.view.read _ y9, arg10.view.read _ y10, fun d7 d8 d9 d10 K hfirst => ?_⟩
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%e11, %f11, -, H11⟩, ⟨%e12, %f12, -, H12⟩, Hk⟩
  obtain rfl := harg2.eq_unread hf2
  obtain rfl := harg3.eq_unread hf3
  obtain rfl := harg4.eq_unread hf4
  obtain rfl := harg5.eq_unread hf5
  obtain rfl := harg6.eq_unread hf6
  iapply h f7 f8 f9 f10 f11 f12 K (fun hn => ⟨(harg9.eq_unread hf9).trans (by rw [(hfirst hn).1]), (harg10.eq_unread hf10).trans (by rw [(hfirst hn).2])⟩)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H2, H3, H4, H5, H6, H7, H8, H9, H10, H11, H12⟩
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists (arg11.view.read _ y11); iexists y11; isplitr; · ipureintro; rfl
    iexact H11
  iexists (arg12.view.read _ y12); iexists y12; isplitr; · ipureintro; rfl
  iexact H12

end Cert.Kernel.Parts

end
-- ==== Proof.Kernel.Run.lean ====
/- The proof data of the pipeline, the launch and the frame. -/
module

public import proofs.«01_k».proof.Proof.Gen.Kernel.Skeleton
public import proofs.«01_k».proof.Proof.Gen.Kernel.Loops
public import proofs.«01_k».proof.Proof.Gen.Kernel.Frame

public import Idealize.ShloMosaic.Lib.Claim
public import proofs.«01_k».proof.Proof.Kernel.Owned

@[expose] public section

set_option maxRecDepth 16384

noncomputable section

namespace Cert.Kernel.Parts

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the four outputs' staging buffers hold after a point. -/
abbrev Out (F : FTy → Type) [FloatOps F] : Type :=
  Vec F S1x16384x128 .fp8e5m2 × Vec F S1x1x128 .f32 × Vec F S1x128 .f32 × Vec F S1x128 .f32

/-- `q` is what the body leaves at point `t` when the accumulators hold `p` there. -/
def Leaves (c : Dev nD) (t : Fin cfg0.N) (p : Vec F S1x128 .f32 × Vec F S1x128 .f32) (q : Out F) : Prop :=
  ∀ (d5 : Vec F S1x16384x128 .fp8e5m2) (d6 : Vec F S1x1x128 .f32) (d7 d8 : Vec F S1x128 .f32) (K : PUnit → sProp 𝕄),
      (¬ IsFirst (BitVec.ofNat 32 (grid0.coords t 1).val) → d7 = p.1 ∧ d8 = p.2) →
      (iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare d5 ∗ owns (c : Thread nD τ) (st0_6 t) fullShare d6 ∗ owns (c : Thread nD τ) (st0_7 t) fullShare d7 ∗ owns (c : Thread nD τ) (st0_8 t) fullShare d8 ∗ (∃ d, owns (c : Thread nD τ) (Memref.whole cc0_scratch0) fullShare d) ∗ (∃ d, owns (c : Thread nD τ) (Memref.whole cc0_scratch1) fullShare d)
        ∗ (iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare q.1 ∗ owns (c : Thread nD τ) (st0_6 t) fullShare q.2.1 ∗ owns (c : Thread nD τ) (st0_7 t) fullShare q.2.2.1 ∗ owns (c : Thread nD τ) (st0_8 t) fullShare q.2.2.2 ∗ (∃ d, owns (c : Thread nD τ) (Memref.whole cc0_scratch0) fullShare d) ∗ (∃ d, owns (c : Thread nD τ) (Memref.whole cc0_scratch1) fullShare d)) -∗ K ⟨⟩))
      ⊢ wp frame (wpE (defs₀ (F := F)) Variants.none c none) Set.univ (bodyAt0 t) K)

theorem exists_leaves (c : Dev nD) (t : Fin cfg0.N) (p : Vec F S1x128 .f32 × Vec F S1x128 .f32) : ∃ q, Leaves m c t p q := by
  obtain ⟨y7, y8, y9, y10, h⟩ := owned c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _)
    (iblk m c 0 t) (iblk m c 1 t) (iblk m c 2 t) (iblk m c 3 t) (iblk m c 4 t) p.1 p.2
  exact ⟨(y7, y8, y9, y10), h⟩

/-- What the body leaves at point `t` when the accumulators hold `p` there. -/
def leaves (c : Dev nD) (t : Fin cfg0.N) (p : Vec F S1x128 .f32 × Vec F S1x128 .f32) : Out F := Classical.choose (exists_leaves m c t p)

theorem leaves_spec (c : Dev nD) (t : Fin cfg0.N) (p : Vec F S1x128 .f32 × Vec F S1x128 .f32) : Leaves m c t p (leaves m c t p) :=
  Classical.choose_spec (exists_leaves m c t p)

/-- The accumulators before point `k`. -/
def acc (c : Dev nD) : ℕ → Vec F S1x128 .f32 × Vec F S1x128 .f32
  | 0 => (fun _ => Scalar.ofBits .f32 0x00000000#32, fun _ => Scalar.ofBits .f32 0x00000000#32)
  | k + 1 => if h : k < cfg0.N then (leaves m c ⟨k, h⟩ (acc c k)).2.2 else acc c k

/-- What the body leaves at point `t`. -/
def outs (c : Dev nD) (t : Fin cfg0.N) : Out F := leaves m c t (acc m c t.val)

theorem acc_succ (c : Dev nD) (k : ℕ) (h : k < cfg0.N) : acc m c (k + 1) = (outs m c ⟨k, h⟩).2.2 := by
  rw [acc, dif_pos h]; rfl

/-- The proof data: each input's buffer at its block, each output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outs m c t).1
    | ⟨6, _⟩ => (outs m c t).2.1
    | ⟨7, _⟩ => (outs m c t).2.2.1
    | ⟨8, _⟩ => (outs m c t).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outs m c t).1 := by dsimp only [dats]
theorem after0_6 (c : Dev nD) (t : Fin cfg0.N) : (dats m 0 c).after 6 t = (outs m c t).2.1 := by dsimp only [dats]
theorem after0_7 (c : Dev nD) (t : Fin cfg0.N) : (dats m 0 c).after 7 t = (outs m c t).2.2.1 := by dsimp only [dats]
theorem after0_8 (c : Dev nD) (t : Fin cfg0.N) : (dats m 0 c).after 8 t = (outs m c t).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The batch coordinate of a point. -/
theorem first_iff : ∀ t : Fin cfg0.N, IsFirst (BitVec.ofNat 32 (grid0.coords t 1).val) ↔ t.val % 5 = 0 := by decide +kernel

/-- Past the first batch element an accumulator's buffer holds what the body left at the point before. -/
theorem before0_7 (c : Dev nD) (t : Fin cfg0.N) (d) (h : ¬ IsFirst (BitVec.ofNat 32 (grid0.coords t 1).val)) :
    (dats m 0 c).before 7 t d = (acc m c t.val).1 := by
  rw [first_iff] at h
  have ht : t.val ≠ 0 := fun h0 => h (by rw [h0])
  have hlt : t.val - 1 < cfg0.N := Nat.lt_of_le_of_lt (Nat.sub_le _ _) t.isLt
  have hfl : (cfg0.win 7).flush ⟨t.val - 1, hlt⟩ = false := by
    rw [Bool.eq_false_iff, Ne, flush0_7]
    show ¬ (t.val - 1) % 5 = 4
    omega
  have hacc : acc m c t.val = (outs m c ⟨t.val - 1, hlt⟩).2.2 := by
    rw [← acc_succ]; congr 1; omega
  rw [(dats m 0 c).before_out_kept 7 rfl t ht hfl (fun _ => rfl) (fun _ _ => rfl), after0_7, hacc]

/-- Past the first batch element an accumulator's buffer holds what the body left at the point before. -/
theorem before0_8 (c : Dev nD) (t : Fin cfg0.N) (d) (h : ¬ IsFirst (BitVec.ofNat 32 (grid0.coords t 1).val)) :
    (dats m 0 c).before 8 t d = (acc m c t.val).2 := by
  rw [first_iff] at h
  have ht : t.val ≠ 0 := fun h0 => h (by rw [h0])
  have hlt : t.val - 1 < cfg0.N := Nat.lt_of_le_of_lt (Nat.sub_le _ _) t.isLt
  have hfl : (cfg0.win 8).flush ⟨t.val - 1, hlt⟩ = false := by
    rw [Bool.eq_false_iff, Ne, flush0_8]
    show ¬ (t.val - 1) % 5 = 4
    omega
  have hacc : acc m c t.val = (outs m c ⟨t.val - 1, hlt⟩).2.2 := by
    rw [← acc_succ]; congr 1; omega
  rw [(dats m 0 c).before_out_kept 8 rfl t ht hfl (fun _ => rfl) (fun _ _ => rfl), after0_8, hacc]

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8]
  unfold Pipeline.ΦA
  rw [scopedRest0_eq]
  simp only [← owns_whole (c : Thread nD τ)]
  iintro ⟨⟨⟨S0, S1⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (leaves_spec m c t (acc m c t.val)) _ _ _ _ _ (fun h => ⟨before0_7 m c t d7 h, before0_8 m c t d8 h⟩)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  iintro ⟨H0, H1, H2, H3, H4, H5, H6, H7, H8, S0, S1⟩
  isplitl [S0 S1 HP]
  · isplitl [S0 S1]
    · isplitl [S0]; · iexact S0
      iexact S1
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every execution ends, the arrays at what the proof data compute, the counters at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run_main_quiescent m ρ))

/-- The frame: the run ends, the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Parts

end
-- ==== Proof.KernelIdeal.Parts.lean ====
/- What the parts of the kernel body leave in memory, as triples whose contents after are some contents. -/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow

@[expose] public section

set_option maxRecDepth 16384

noncomputable section

namespace Cert.KernelIdeal.Parts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (E : Set ℕ) (i : grid0.Coords)
  (arg2 : Memref sig .tc .smem S1 .f32) (harg2 : arg2.IsWhole)
  (arg3 : Memref sig .tc .vmem S1x16384x128 .bf16) (harg3 : arg3.IsWhole)
  (arg4 : Memref sig .tc .vmem S1x16384x128 .fp8e5m2) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x16384x128 .fp8e5m2) (harg7 : arg7.IsWhole)
  (arg8 : Memref sig .tc .vmem S1x1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S16384x128 .f32) (harg11 : arg11.IsWhole)
  (arg12 : Memref sig .tc .vmem S16384x128 .f32) (harg12 : arg12.IsWhole)

/-- A row block of the scratch, as a rectangle. -/
theorem mem_rows {n : ℕ} (off : Fin 2 → ℕ) (k : ℕ) (h : off = ![n * k, 0]) (inb : ∀ a, off a + (![n, 128] : Fin 2 → ℕ) a ≤ S16384x128.size a)
    (y : S16384x128.Idx) (h1 : n * k ≤ (y 0).val) (h2 : (y 0).val < n * (k + 1)) :
    y ∈ (Rect.unit (s := S16384x128) off ![n, 128] inb).set := by
  subst h
  refine (Rect.unit _ _ inb).mem_set.mpr fun a => ?_
  match a with
  | ⟨0, _⟩ =>
    refine ⟨(y 0).val - n * k, ?_, ?_⟩
    · show (y 0).val - n * k < n
      rw [Nat.mul_succ] at h2; omega
    · show (y 0).val = n * k + 1 * ((y 0).val - n * k)
      omega
  | ⟨1, _⟩ =>
    refine ⟨(y 1).val, (y 1).isLt, ?_⟩
    show (y 1).val = 0 + 1 * (y 1).val
    omega

/-- A row block of the codes, as a rectangle. -/
theorem mem_rows3 {n : ℕ} (off : Fin 3 → ℕ) (k : ℕ) (h : off = ![0, n * k, 0]) (inb : ∀ a, off a + (![1, n, 128] : Fin 3 → ℕ) a ≤ S1x16384x128.size a)
    (y : S1x16384x128.Idx) (h1 : n * k ≤ (y 1).val) (h2 : (y 1).val < n * (k + 1)) :
    y ∈ (Rect.unit (s := S1x16384x128) off ![1, n, 128] inb).set := by
  subst h
  refine (Rect.unit _ _ inb).mem_set.mpr fun a => ?_
  match a with
  | ⟨0, _⟩ =>
    refine ⟨(y 0).val, (y 0).isLt, ?_⟩
    show (y 0).val = 0 + 1 * (y 0).val
    omega
  | ⟨1, _⟩ =>
    refine ⟨(y 1).val - n * k, ?_, ?_⟩
    · show (y 1).val - n * k < n
      rw [Nat.mul_succ] at h2; omega
    · show (y 1).val = n * k + 1 * ((y 1).val - n * k)
      omega
  | ⟨2, _⟩ =>
    refine ⟨(y 2).val, (y 2).isLt, ?_⟩
    show (y 2).val = 0 + 1 * (y 2).val
    omega

/-- The rows one trip of the last loop stores. -/
theorem last_trip (v217 : FVec F S1x128 .f32) (v296 : IVec S1x128 32) (f11 : BufTy.Contents (Elt F) arg11.view.ty)
    (k : Fin k0_t6_loop.trips) :
    tripL_k0_t6 (F := F) Variants.none c none i arg2 harg2 arg3 harg3 arg4 harg4 arg5 harg5 arg6 harg6 arg7 harg7 arg8 harg8 arg9 harg9 arg10 harg10
            arg11 harg11 arg12 harg12 v217 v296 f11 k
      = [⟨Rect.unit (s := S1x16384x128) (k0_off8 k) S1x512x128.size (k0_off8_inb k),
          k0_pay1 v217 v296 (arg11.view.readAt (Elt F) (Rect.unit (s := S16384x128) (k0_off7 k) S512x128.size (k0_off7_inb k)).toLoadRect f11)⟩] := by
  unfold tripL_k0_t6 trip_k0_t6; rfl

/-- The rows one trip of the middle loop stores in the two scratches. -/
theorem mid_trip (arg1 : BitVec 32) (v0 : FVec F S8x128 .f32) (v72 v77 : FVec F S1x128 .f32) (v87 : BitVec 32)
    (v89 v93 v95 : FVec F S1x128 .f32) (f3 : BufTy.Contents (Elt F) arg3.view.ty) (f4 : BufTy.Contents (Elt F) arg4.view.ty)
    (k : Fin k0_t3_loop.trips) (acc : FVec F S8x128 .f32 × FVec F S8x128 .f32) :
    tripL_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 k acc
      = ([⟨Rect.unit (s := S16384x128) (k0_off4 k) S256x128.size (k0_off4_inb k),
            k0_pay126 (k0_pay313 v89 v93) (k0_pay314 v72 v89 v93 v95)
              (arg3.view.readAt (Elt F) (Rect.unit (s := S1x16384x128) (k0_off3 k) S1x256x128.size (k0_off3_inb k)).toLoadRect f3)
              (arg4.view.readAt (Elt F) (Rect.unit (s := S1x16384x128) (k0_off3 k) S1x256x128.size (k0_off3_inb k)).toLoadRect f4)⟩],
         [⟨Rect.unit (s := S16384x128) (k0_off4 k) S256x128.size (k0_off4_inb k),
            k0_pay127 (arg3.view.readAt (Elt F) (Rect.unit (s := S1x16384x128) (k0_off3 k) S1x256x128.size (k0_off3_inb k)).toLoadRect f3)⟩]) := by
  unfold tripL_k0_t3 trip_k0_t3; rfl

theorem trips3 : k0_t3_loop.trips = 64 := by decide +kernel
theorem trips6 : k0_t6_loop.trips = 32 := by decide +kernel

/-- The pieces the last loop has stored before trip `k` hold every row below `512 k`. -/
theorem last_cover (v217 : FVec F S1x128 .f32) (v296 : IVec S1x128 32) (f11 : BufTy.Contents (Elt F) arg11.view.ty) :
    ∀ k ≤ k0_t6_loop.trips, ∀ y : S1x16384x128.Idx, (y 1).val < 512 * k →
      ∃ p ∈ pb_k0_t6 (F := F) Variants.none c none i arg2 harg2 arg3 harg3 arg4 harg4 arg5 harg5 arg6 harg6 arg7 harg7 arg8 harg8 arg9 harg9 arg10 harg10
            arg11 harg11 arg12 harg12 v217 v296 f11 k, y ∈ p.1.set
  | 0, _, y, h => absurd h (by omega)
  | k + 1, hk, y, h => by
    have hk' : k < k0_t6_loop.trips := hk
    rw [pb_k0_t6_succ (F := F) Variants.none c none i arg2 harg2 arg3 harg3 arg4 harg4 arg5 harg5 arg6 harg6 arg7 harg7 arg8 harg8 arg9 harg9 arg10 harg10
            arg11 harg11 arg12 harg12 v217 v296 f11 ⟨k, hk'⟩]
    by_cases hy : (y 1).val < 512 * k
    · obtain ⟨p, hp, hm⟩ := last_cover v217 v296 f11 k (Nat.le_of_lt hk') y hy
      exact ⟨p, List.mem_append_right _ hp, hm⟩
    · refine ⟨_, List.mem_append_left _ (by rw [last_trip]; exact List.mem_singleton.mpr rfl), ?_⟩
      exact mem_rows3 (n := 512) (k0_off8 ⟨k, hk'⟩) k (k0_off8_eq _) (k0_off8_inb _) y (Nat.le_of_not_lt hy) h

/-- The pieces the middle loop has stored before trip `k` hold every row below `256 k`, in both scratches. -/
theorem mid_cover (arg1 : BitVec 32) (v0 : FVec F S8x128 .f32) (v72 v77 : FVec F S1x128 .f32) (v87 : BitVec 32)
    (v89 v93 v95 : FVec F S1x128 .f32) (f3 : BufTy.Contents (Elt F) arg3.view.ty) (f4 : BufTy.Contents (Elt F) arg4.view.ty)
    (init : FVec F S8x128 .f32 × FVec F S8x128 .f32) :
    ∀ k ≤ k0_t3_loop.trips, ∀ y : S16384x128.Idx, (y 0).val < 256 * k →
      (∃ p ∈ (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init k).2.1, y ∈ p.1.set)
      ∧ ∃ p ∈ (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init k).2.2, y ∈ p.1.set
  | 0, _, y, h => absurd h (by omega)
  | k + 1, hk, y, h => by
    have hk' : k < k0_t3_loop.trips := hk
    rw [st_k0_t3_succ (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init ⟨k, hk'⟩]
    by_cases hy : (y 0).val < 256 * k
    · obtain ⟨⟨p, hp, hm⟩, ⟨q, hq, hn⟩⟩ := mid_cover arg1 v0 v72 v77 v87 v89 v93 v95 f3 f4 init k (Nat.le_of_lt hk') y hy
      exact ⟨⟨p, List.mem_append_right _ hp, hm⟩, ⟨q, List.mem_append_right _ hq, hn⟩⟩
    · have hm := mem_rows (n := 256) (k0_off4 ⟨k, hk'⟩) k (k0_off4_eq _) (k0_off4_inb _) y (Nat.le_of_not_lt hy) h
      refine ⟨⟨_, List.mem_append_left _ (by rw [mid_trip]; exact List.mem_singleton.mpr rfl), ?_⟩,
        ⟨_, List.mem_append_left _ (by rw [mid_trip]; exact List.mem_singleton.mpr rfl), ?_⟩⟩ <;> exact hm

/-- What a covering list of stores leaves in a whole buffer is the same whatever the buffer held. -/
theorem writes_of_cover {κ : Kind} {sp : Space} {s : Shape} {e : EltTy} {m : Memref sig κ sp s e} (hm : m.IsWhole)
    (f f' : m.view.ty.Contents (Elt F)) (L : List (View.Piece (Elt F) s e)) (h : ∀ y, ∃ p ∈ L, y ∈ p.1.set) :
    m.view.writes (Elt F) f L = m.view.writes (Elt F) f' L :=
  hm.read_bijective.1 (View.read_writes_of_cover m.view f m.view f' L h)

/-- The last loop leaves the same codes whatever the block held. -/
theorem last_fill (v217 : FVec F S1x128 .f32) (v296 : IVec S1x128 32) (f11 : BufTy.Contents (Elt F) arg11.view.ty)
    (f f' : BufTy.Contents (Elt F) arg7.view.ty) :
    arg7.view.writes (Elt F) f (pb_k0_t6 (F := F) Variants.none c none i arg2 harg2 arg3 harg3 arg4 harg4 arg5 harg5 arg6 harg6 arg7 harg7 arg8 harg8 arg9 harg9 arg10 harg10
            arg11 harg11 arg12 harg12 v217 v296 f11 (Scf.trips k0_t6_loop.lb k0_t6_loop.ub k0_t6_loop.st))
      = arg7.view.writes (Elt F) f' (pb_k0_t6 (F := F) Variants.none c none i arg2 harg2 arg3 harg3 arg4 harg4 arg5 harg5 arg6 harg6 arg7 harg7 arg8 harg8 arg9 harg9 arg10 harg10
            arg11 harg11 arg12 harg12 v217 v296 f11 (Scf.trips k0_t6_loop.lb k0_t6_loop.ub k0_t6_loop.st)) := by
  refine writes_of_cover harg7 f f' _ fun y => ?_
  refine last_cover c i arg2 harg2 arg3 harg3 arg4 harg4 arg5 harg5 arg6 harg6 arg7 harg7 arg8 harg8 arg9 harg9 arg10 harg10
            arg11 harg11 arg12 harg12 v217 v296 f11 k0_t6_loop.trips (Nat.le_refl _) y ?_
  have h : (y 1).val < 16384 := (y 1).isLt
  rw [trips6]
  omega

/-- The middle loop fills both scratches, whatever they held. -/
theorem mid_fill (arg1 : BitVec 32) (v0 : FVec F S8x128 .f32) (v72 v77 : FVec F S1x128 .f32) (v87 : BitVec 32)
    (v89 v93 v95 : FVec F S1x128 .f32) (f3 : BufTy.Contents (Elt F) arg3.view.ty) (f4 : BufTy.Contents (Elt F) arg4.view.ty)
    (init : FVec F S8x128 .f32 × FVec F S8x128 .f32) (y : S16384x128.Idx) :
    (∃ p ∈ (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init (Scf.trips k0_t3_loop.lb k0_t3_loop.ub k0_t3_loop.st)).2.1, y ∈ p.1.set)
      ∧ ∃ p ∈ (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init (Scf.trips k0_t3_loop.lb k0_t3_loop.ub k0_t3_loop.st)).2.2, y ∈ p.1.set := by
  refine mid_cover c i arg2 harg2 arg3 harg3 arg4 harg4 arg5 harg5 arg6 harg6 arg7 harg7 arg8 harg8 arg9 harg9 arg10 harg10
            arg11 harg11 arg12 harg12 arg1 v0 v72 v77 v87 v89 v93 v95 f3 f4 init k0_t3_loop.trips (Nat.le_refl _) y ?_
  have h : (y 0).val < 16384 := (y 0).isLt
  rw [trips3]
  omega

theorem mid_fill11 (arg1 : BitVec 32) (v0 : FVec F S8x128 .f32) (v72 v77 : FVec F S1x128 .f32) (v87 : BitVec 32)
    (v89 v93 v95 : FVec F S1x128 .f32) (f3 : BufTy.Contents (Elt F) arg3.view.ty) (f4 : BufTy.Contents (Elt F) arg4.view.ty)
    (init : FVec F S8x128 .f32 × FVec F S8x128 .f32) (f f' : BufTy.Contents (Elt F) arg11.view.ty) :
    arg11.view.writes (Elt F) f (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init (Scf.trips k0_t3_loop.lb k0_t3_loop.ub k0_t3_loop.st)).2.1
      = arg11.view.writes (Elt F) f' (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init (Scf.trips k0_t3_loop.lb k0_t3_loop.ub k0_t3_loop.st)).2.1 :=
  writes_of_cover harg11 f f' _ fun y => (mid_fill c i arg2 harg2 arg3 harg3 arg4 harg4 arg5 harg5 arg6 harg6 arg7 harg7 arg8 harg8 arg9 harg9 arg10 harg10
            arg11 harg11 arg12 harg12 arg1 v0 v72 v77 v87 v89 v93 v95 f3 f4 init y).1

theorem mid_fill12 (arg1 : BitVec 32) (v0 : FVec F S8x128 .f32) (v72 v77 : FVec F S1x128 .f32) (v87 : BitVec 32)
    (v89 v93 v95 : FVec F S1x128 .f32) (f3 : BufTy.Contents (Elt F) arg3.view.ty) (f4 : BufTy.Contents (Elt F) arg4.view.ty)
    (init : FVec F S8x128 .f32 × FVec F S8x128 .f32) (f f' : BufTy.Contents (Elt F) arg12.view.ty) :
    arg12.view.writes (Elt F) f (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init (Scf.trips k0_t3_loop.lb k0_t3_loop.ub k0_t3_loop.st)).2.2
      = arg12.view.writes (Elt F) f' (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 init (Scf.trips k0_t3_loop.lb k0_t3_loop.ub k0_t3_loop.st)).2.2 :=
  writes_of_cover harg12 f f' _ fun y => (mid_fill c i arg2 harg2 arg3 harg3 arg4 harg4 arg5 harg5 arg6 harg6 arg7 harg7 arg8 harg8 arg9 harg9 arg10 harg10
            arg11 harg11 arg12 harg12 arg1 v0 v72 v77 v87 v89 v93 v95 f3 f4 init y).2

/-- A first sweep over the rows. -/
theorem part16 (f3 : BufTy.Contents (Elt F) arg3.view.ty) :
    ∃ v14 : FVec F S8x128 .f32, v14 = k0_pay303 (st_k0_t1 (F := F) Variants.none c none i arg2 harg2 arg3 harg3 arg4 harg4 arg5 harg5 arg6 harg6 arg7 harg7 arg8 harg8 arg9 harg9 arg10 harg10
            arg11 harg11 arg12 harg12 f3 (k0_pay301, k0_pay301) k0_t1_loop.trips).1
        (st_k0_t1 (F := F) Variants.none c none i arg2 harg2 arg3 harg3 arg4 harg4 arg5 harg5 arg6 harg6 arg7 harg7 arg8 harg8 arg9 harg9 arg10 harg10
            arg11 harg11 arg12 harg12 f3 (k0_pay301, k0_pay301) k0_t1_loop.trips).2 ∧ ∀ K : _ → sProp 𝕄,
      iprop((arg3.view.loc (c : Thread nD τ) ↦[arg3.view.set]{fullShare} f3)
        ∗ ((arg3.view.loc (c : Thread nD τ) ↦[arg3.view.set]{fullShare} f3)
          -∗ K ⟨BitVec.ofNat 32 (i 1).val, k0_pay301, iota .tc S8x128 32 [0] iota_S8x128_d0_w32, v14, k0_pay304, iota .tc S128x128 32 [1] iota_S128x128_d1_w32, 16#32, k0_pay305⟩))
      ⊢ wp frame (wpE (defs₀ (F := F)) Variants.none c none) E (k0_part16_skel i arg2 harg2 arg3 harg3 arg4 harg4 arg5 harg5
          arg6 harg6 arg7 harg7 arg8 harg8 arg9 harg9 arg10 harg10 arg11 harg11 arg12 harg12) K := by
  unfold k0_part16_skel
  refine ⟨?_, ?_, fun K => ?_⟩
  rotate_left 2
  iintro ⟨H3, Hk⟩
  sl_exec
  sl_step
  unfold part16.sl.v3 part16.sl.v40
  iapply Hk
  iexact H3
  rfl

set_option maxHeartbeats 2000000 in
/-- The last pass over the scratch, in either of its two forms. -/
theorem part21 (v0 : FVec F S8x128 .f32) (v92 v94 : FVec F S1x128 .f32) (v114 : F .f32) (v200 v202 : FVec F S1x128 .f32)
    (v208 : BitVec 1) (v212 v213 : FVec F S1x128 .f32)
    (f11 : BufTy.Contents (Elt F) arg11.view.ty) (f12 : BufTy.Contents (Elt F) arg12.view.ty) :
    ∃ (y : BufTy.Contents (Elt F) arg11.view.ty) (v222 : FVec F S8x128 .f32),
      (v222 = if Scalar.cmpi .ne (Scalar.extui v208 : BitVec 32) 0#32 = 1#1 then (st_k0_t4 (F := F) Variants.none c none i arg2 harg2 arg3 harg3 arg4 harg4 arg5 harg5 arg6 harg6 arg7 harg7 arg8 harg8 arg9 harg9 arg10 harg10
            arg11 harg11 arg12 harg12 v0 v92 v94 v114 v200 v202 v208 v212 v213 f12 f11 v0 k0_t4_loop.trips).1
        else (st_k0_t5 (F := F) Variants.none c none i arg2 harg2 arg3 harg3 arg4 harg4 arg5 harg5 arg6 harg6 arg7 harg7 arg8 harg8 arg9 harg9 arg10 harg10
            arg11 harg11 arg12 harg12 v0 v92 v94 v114 v200 v202 v208 v212 v213 f12 f11 v0 k0_t5_loop.trips).1)
      ∧ (y = if Scalar.cmpi .ne (Scalar.extui v208 : BitVec 32) 0#32 = 1#1 then arg11.view.writes (Elt F) f11 (st_k0_t4 (F := F) Variants.none c none i arg2 harg2 arg3 harg3 arg4 harg4 arg5 harg5 arg6 harg6 arg7 harg7 arg8 harg8 arg9 harg9 arg10 harg10
            arg11 harg11 arg12 harg12 v0 v92 v94 v114 v200 v202 v208 v212 v213 f12 f11 v0 k0_t4_loop.trips).2
        else arg11.view.writes (Elt F) f11 (st_k0_t5 (F := F) Variants.none c none i arg2 harg2 arg3 harg3 arg4 harg4 arg5 harg5 arg6 harg6 arg7 harg7 arg8 harg8 arg9 harg9 arg10 harg10
            arg11 harg11 arg12 harg12 v0 v92 v94 v114 v200 v202 v208 v212 v213 f12 f11 v0 k0_t5_loop.trips).2)
      ∧ ∀ K : _ → sProp 𝕄,
      iprop((arg11.view.loc (c : Thread nD τ) ↦[arg11.view.set]{fullShare} f11) ∗ (arg12.view.loc (c : Thread nD τ) ↦[arg12.view.set]{fullShare} f12)
        ∗ (iprop((arg11.view.loc (c : Thread nD τ) ↦[arg11.view.set]{fullShare} y) ∗ (arg12.view.loc (c : Thread nD τ) ↦[arg12.view.set]{fullShare} f12)) -∗ K ⟨k0_pay333 v92 v94 v114 v208 v213, k0_pay341 v92 v94 v114 v208 v213 v222, k0_pay342 v92 v94 v114 v208 v213 v222, k0_pay343 v92 v94 v114 v208 v213 v222, k0_pay344, 0#32⟩))
      ⊢ wp frame (wpE (defs₀ (F := F)) Variants.none c none) E
          (k0_part21_skel i arg2 harg2 arg3 harg3 arg4 harg4 arg5 harg5 arg6 harg6 arg7 harg7 arg8 harg8 arg9 harg9 arg10 harg10
            arg11 harg11 arg12 harg12 v0 v92 v94 v114 v200 v202 v208 v212 v213) K := by
  unfold k0_part21_skel
  by_cases h : Scalar.cmpi .ne (Scalar.extui v208 : BitVec 32) 0#32 = 1#1
  all_goals
    simp only [h, if_true, if_false]
    refine ⟨_, _, rfl, rfl, fun K => ?_⟩
    iintro ⟨H11, H12, Hk⟩
    sl_exec
    sl_step
    iapply Hk
    isplitl [H11]
    · iexact H11
    iexact H12

/-- The whole of a one-row buffer, as a rectangle. -/
theorem mem_row (y : S1x128.Idx) : y ∈ (Rect.unit (s := S1x128) ![0, 0] S1x128.size inb_S1x128_S1x128_0_0).set := by
  refine (Rect.unit _ _ inb_S1x128_S1x128_0_0).mem_set.mpr fun a => ⟨(y a).val, (y a).isLt, ?_⟩
  match a with
  | ⟨0, _⟩ => show (y 0).val = 0 + 1 * (y 0).val; omega
  | ⟨1, _⟩ => show (y 1).val = 0 + 1 * (y 1).val; omega

/-- The whole of the scale output's block, as a rectangle. -/
theorem mem_row3 (y : S1x1x128.Idx) : y ∈ (Rect.unit (s := S1x1x128) ![0, 0, 0] S1x1x128.size inb_S1x1x128_S1x1x128_0_0_0).set := by
  refine (Rect.unit _ _ inb_S1x1x128_S1x1x128_0_0_0).mem_set.mpr fun a => ⟨(y a).val, (y a).isLt, ?_⟩
  match a with
  | ⟨0, _⟩ => show (y 0).val = 0 + 1 * (y 0).val; omega
  | ⟨1, _⟩ => show (y 1).val = 0 + 1 * (y 1).val; omega
  | ⟨2, _⟩ => show (y 2).val = 0 + 1 * (y 2).val; omega

/-- What a store of a whole one-row buffer leaves is the same whatever the buffer held. -/
theorem fill_row {κ : Kind} {sp : Space} {m : Memref sig κ sp S1x128 .f32} (hm : m.IsWhole) (f f' : m.view.ty.Contents (Elt F))
    (w : FVec F S1x128 .f32) (L : List (View.Piece (Elt F) S1x128 .f32)) :
    m.view.writes (Elt F) f (⟨Rect.unit (s := S1x128) ![0, 0] S1x128.size inb_S1x128_S1x128_0_0, w⟩ :: L)
      = m.view.writes (Elt F) f' (⟨Rect.unit (s := S1x128) ![0, 0] S1x128.size inb_S1x128_S1x128_0_0, w⟩ :: L) :=
  writes_of_cover hm f f' _ fun y => ⟨⟨Rect.unit (s := S1x128) ![0, 0] S1x128.size inb_S1x128_S1x128_0_0, w⟩, List.mem_cons_self, mem_row y⟩

/-- The same of the scale output's block. -/
theorem fill_row3 {κ : Kind} {sp : Space} {m : Memref sig κ sp S1x1x128 .f32} (hm : m.IsWhole) (f f' : m.view.ty.Contents (Elt F))
    (w : FVec F S1x1x128 .f32) (L : List (View.Piece (Elt F) S1x1x128 .f32)) :
    m.view.writes (Elt F) f (⟨Rect.unit (s := S1x1x128) ![0, 0, 0] S1x1x128.size inb_S1x1x128_S1x1x128_0_0_0, w⟩ :: L)
      = m.view.writes (Elt F) f' (⟨Rect.unit (s := S1x1x128) ![0, 0, 0] S1x1x128.size inb_S1x1x128_S1x1x128_0_0_0, w⟩ :: L) :=
  writes_of_cover hm f f' _ fun y => ⟨⟨Rect.unit (s := S1x1x128) ![0, 0, 0] S1x1x128.size inb_S1x1x128_S1x1x128_0_0_0, w⟩, List.mem_cons_self, mem_row3 y⟩

/-- The word `arg1` is the first batch element's. -/
abbrev IsFirst (arg1 : BitVec 32) : Prop :=
  Scalar.cmpi .ne (Scalar.extui (Scalar.cmpi .eq arg1 0#32) : BitVec 32) 0#32 = 1#1

/-- The second accumulator's update. -/
theorem part19 (v3 : IVec S8x128 32) (v94 v107 v112 : FVec F S1x128 .f32) (v114 : F .f32) (f10 : BufTy.Contents (Elt F) arg10.view.ty) :
    ∃ y10 : BufTy.Contents (Elt F) arg10.view.ty, arg10.view.read (Elt F) y10 = k0_pay322 v107 v114 (arg10.view.read (Elt F) f10) ∧ ∀ K : _ → sProp 𝕄,
      iprop((arg10.view.loc (c : Thread nD τ) ↦[arg10.view.set]{fullShare} f10) ∗ ((arg10.view.loc (c : Thread nD τ) ↦[arg10.view.set]{fullShare} y10) -∗ K ⟨k0_pay323 v3 v94 v107 v112, k0_pay324, iota .tc S128x128 32 [1] iota_S128x128_d1_w32, 16#32, k0_pay325, k0_pay326⟩))
      ⊢ wp frame (wpE (defs₀ (F := F)) Variants.none c none) E (k0_part19_skel i arg2 harg2 arg3 harg3 arg4 harg4 arg5 harg5 arg6 harg6 arg7 harg7 arg8 harg8 arg9 harg9 arg10 harg10
            arg11 harg11 arg12 harg12 v3 v94 v107 v112 v114) K := by
  unfold k0_part19_skel
  refine ⟨arg10.view.writes (Elt F) f10 [⟨Rect.unit (s := S1x128) ![0, 0] S1x128.size inb_S1x128_S1x128_0_0, k0_pay322 v107 v114
    (arg10.view.readAt (Elt F) (Rect.unit (s := S1x128) ![0, 0] S1x128.size inb_S1x128_S1x128_0_0).toLoadRect f10)⟩], ?_, fun K => ?_⟩
  · rw [View.readAt_full]; exact View.read_writes_full _ _ _ _ _
  iintro ⟨H10, Hk⟩
  sl_exec
  sl_step
  unfold part19.sl.v164
  iapply Hk
  iexact H10

/-- The scale's store. -/
theorem part22 (v251 v252 v253 : FVec F S1x128 .f32) (v255 : IVec S1x128 32) (w : BitVec 32) :
    ∃ y8 : BufTy.Contents (Elt F) arg8.view.ty, arg8.view.read (Elt F) y8 = k0_pay346 v251 v252 v253 v255 w ∧ ∀ (f8 : BufTy.Contents (Elt F) arg8.view.ty) (K : _ → sProp 𝕄),
      iprop((arg8.view.loc (c : Thread nD τ) ↦[arg8.view.set]{fullShare} f8) ∗ ((arg8.view.loc (c : Thread nD τ) ↦[arg8.view.set]{fullShare} y8) -∗ K (k0_pay347 v251 v252 v253 v255 w)))
      ⊢ wp frame (wpE (defs₀ (F := F)) Variants.none c none) E (k0_part22_skel i arg2 harg2 arg3 harg3 arg4 harg4 arg5 harg5 arg6 harg6 arg7 harg7 arg8 harg8 arg9 harg9 arg10 harg10
            arg11 harg11 arg12 harg12 v251 v252 v253 v255 w) K := by
  unfold k0_part22_skel
  refine ⟨arg8.view.writes (Elt F) (harg8.unread fun _ => Scalar.ofBits .f32 0x00000000#32)
    [⟨Rect.unit (s := S1x1x128) ![0, 0, 0] S1x1x128.size inb_S1x1x128_S1x1x128_0_0_0, k0_pay346 v251 v252 v253 v255 w⟩],
    View.read_writes_full _ _ _ _ _, fun f8 K => ?_⟩
  iintro ⟨H8, Hk⟩
  sl_exec
  sl_step
  rw [fill_row3 harg8 f8 (harg8.unread fun _ => Scalar.ofBits .f32 0x00000000#32)]
  iapply Hk
  iexact H8

end Cert.KernelIdeal.Parts

end
-- ==== Proof.KernelIdeal.Mid.lean ====
/- The second sweep over the rows as a triple. -/
module

public import proofs.«01_k».proof.Proof.Gen.KernelIdeal.Skeleton
public import proofs.«01_k».proof.Proof.Gen.KernelIdeal.Loops
public import proofs.«01_k».proof.Proof.Gen.KernelIdeal.Frame

public import proofs.«01_k».proof.Proof.KernelIdeal.Parts
public import Idealize.ShloMosaic.Lib.Pointwise

@[expose] public section

set_option maxRecDepth 16384

noncomputable section

namespace Cert.KernelIdeal.Parts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (E : Set ℕ) (i : grid0.Coords)
  (arg2 : Memref sig .tc .smem S1 .f32) (harg2 : arg2.IsWhole)
  (arg3 : Memref sig .tc .vmem S1x16384x128 .bf16) (harg3 : arg3.IsWhole)
  (arg4 : Memref sig .tc .vmem S1x16384x128 .fp8e5m2) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x16384x128 .fp8e5m2) (harg7 : arg7.IsWhole)
  (arg8 : Memref sig .tc .vmem S1x1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S16384x128 .f32) (harg11 : arg11.IsWhole)
  (arg12 : Memref sig .tc .vmem S16384x128 .f32) (harg12 : arg12.IsWhole)

set_option maxHeartbeats 4000000 in
/-- The second sweep, the sums it leaves and the first accumulator's update: at the first batch element the
    accumulators are cleared, so what they held before does not matter there. -/
theorem part18 (arg1 : BitVec 32) (v0 : FVec F S8x128 .f32) (v72 v77 : FVec F S1x128 .f32) (v87 : BitVec 32)
    (f2 : BufTy.Contents (Elt F) arg2.view.ty) (f3 : BufTy.Contents (Elt F) arg3.view.ty) (f4 : BufTy.Contents (Elt F) arg4.view.ty)
    (f5 : BufTy.Contents (Elt F) arg5.view.ty) (f6 : BufTy.Contents (Elt F) arg6.view.ty)
    (g9 : BufTy.Contents (Elt F) arg9.view.ty) (g10 : BufTy.Contents (Elt F) arg10.view.ty) :
    ∃ (y9 : BufTy.Contents (Elt F) arg9.view.ty) (y10 : BufTy.Contents (Elt F) arg10.view.ty)
      (y11 : BufTy.Contents (Elt F) arg11.view.ty) (y12 : BufTy.Contents (Elt F) arg12.view.ty)
      (v89 v93 v95 : FVec F S1x128 .f32) (cs : FVec F S8x128 .f32 × FVec F S8x128 .f32) (s : F .f32) (r : _),
      ((v89 = if Scalar.cmpi .ne v87 0#32 = 1#1 then
          k0_pay310 (k0_pay120 (st_k0_t2 (F := F) Variants.none c none i arg2 harg2 arg3 harg3 arg4 harg4 arg5 harg5 arg6 harg6 arg7 harg7 arg8 harg8 arg9 harg9 arg10 harg10
            arg11 harg11 arg12 harg12 v0 v72 f3 v0 k0_t2_loop.trips)) k0_pay121
            (iota .tc S128x128 32 [1] iota_S128x128_d1_w32) 16#32 k0_pay122 k0_pay123 (Scalar.extui (Scalar.cmpi .sgt 16#32 0#32)) 0#32
        else v77)
      ∧ v93 = arg5.view.read (Elt F) f5 ∧ v95 = arg6.view.read (Elt F) f6 ∧ cs = (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 (v0, v0) k0_t3_loop.trips).1 ∧ s = arg2.view.read (Elt F) f2 (ix1 0)
      ∧ y11 = arg11.view.writes (Elt F) (harg11.unread fun _ => Scalar.ofBits .f32 0x00000000#32) (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 (v0, v0) k0_t3_loop.trips).2.1
      ∧ y12 = arg12.view.writes (Elt F) (harg12.unread fun _ => Scalar.ofBits .f32 0x00000000#32) (st_k0_t3 (F := F) Variants.none c none i arg2 harg2 arg3 harg3 arg4 harg4 arg5 harg5 arg6 harg6 arg7 harg7 arg8 harg8 arg9 harg9 arg10 harg10
            arg11 harg11 arg12 harg12 arg1 v0 v72 v77 v87 v89 v93 v95 f3 f4 (v0, v0) k0_t3_loop.trips).2.2
      ∧ arg9.view.read (Elt F) y9 = k0_pay321 v72 v89 cs.1 cs.2 s (if IsFirst arg1 then k0_pay319 else arg9.view.read (Elt F) g9)
      ∧ arg10.view.read (Elt F) y10 = (if IsFirst arg1 then k0_pay320 else arg10.view.read (Elt F) g10)
      ∧ r = ⟨k0_pay311 v89, k0_pay312 v93, k0_pay316 cs.1, k0_pay317 v72 v89 cs.1 cs.2, k0_pay318 s⟩) ∧
      ∀ (f9 : BufTy.Contents (Elt F) arg9.view.ty) (f10 : BufTy.Contents (Elt F) arg10.view.ty)
        (f11 : BufTy.Contents (Elt F) arg11.view.ty) (f12 : BufTy.Contents (Elt F) arg12.view.ty) (K : _ → sProp 𝕄),
      (¬ IsFirst arg1 → f9 = g9 ∧ f10 = g10) →
      (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} y9) ∗ (arg10.view.loc (c : Thread nD τ) ↦[arg10.view.set]{fullShare} y10) ∗ (arg11.view.loc (c : Thread nD τ) ↦[arg11.view.set]{fullShare} y11) ∗ (arg12.view.loc (c : Thread nD τ) ↦[arg12.view.set]{fullShare} y12)) -∗ K r))
      ⊢ wp frame (wpE (defs₀ (F := F)) Variants.none c none) E (k0_part18_skel i arg2 harg2 arg3 harg3 arg4 harg4 arg5 harg5 arg6 harg6 arg7 harg7 arg8 harg8 arg9 harg9 arg10 harg10
            arg11 harg11 arg12 harg12 arg1 v0 v72 v77 v87) K) := by
  unfold k0_part18_skel
  simp only [k0_part9_eq_skeleton]
  by_cases h : Scalar.cmpi .ne v87 0#32 = 1#1
  all_goals by_cases h' : IsFirst arg1
  all_goals
    refine ⟨?_, ?_, ?_, ?_, _, _, _, _, _, ?_, ⟨rfl, rfl, rfl, rfl, rfl, ?_, ?_, ?_, ?_, ?_⟩, fun f9 f10 f11 f12 K hfirst => ?_⟩
    rotate_left 10
    first | (have hg : f9 = g9 ∧ f10 = g10 := hfirst (by assumption); obtain ⟨hg9, hg10⟩ := hg; subst f9; subst f10) | skip
    simp only [h, h', if_true, if_false, dite_true, dite_false]
    iintro ⟨H2, H3, H4, H5, H6, H9, H10, H11, H12, Hk⟩
    sl_exec
    sl_step
    first | rw [fill_row harg9 f9 g9, fill_row harg10 f10 g10] | skip
    rw [mid_fill11 c i arg2 harg2 arg3 harg3 arg4 harg4 arg5 harg5 arg6 harg6 arg7 harg7 arg8 harg8 arg9 harg9 arg10 harg10
            arg11 harg11 arg12 harg12 _ _ _ _ _ _ _ _ _ _ _ f11 (harg11.unread fun _ => Scalar.ofBits .f32 0x00000000#32),
      mid_fill12 c i arg2 harg2 arg3 harg3 arg4 harg4 arg5 harg5 arg6 harg6 arg7 harg7 arg8 harg8 arg9 harg9 arg10 harg10
            arg11 harg11 arg12 harg12 _ _ _ _ _ _ _ _ _ _ _ f12 (harg12.unread fun _ => Scalar.ofBits .f32 0x00000000#32)]
    iapply Hk
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [H11]; · iexact H11
    iexact H12
  all_goals
    have e5 : View.readAt (Elt F) arg5.view (Rect.unit ![0, 0] ![1, 128] inb_S1x128_S1x128_0_0).toLoadRect f5
        = View.read (Elt F) arg5.view f5 := View.readAt_full _ _ _
    have e6 : View.readAt (Elt F) arg6.view (Rect.unit ![0, 0] ![1, 128] inb_S1x128_S1x128_0_0).toLoadRect f6
        = View.read (Elt F) arg6.view f6 := View.readAt_full _ _ _
    have e9 : View.readAt (Elt F) arg9.view (Rect.unit ![0, 0] ![1, 128] inb_S1x128_S1x128_0_0).toLoadRect g9
        = View.read (Elt F) arg9.view g9 := View.readAt_full _ _ _
    have e2 : ∀ hh, View.readAt (Elt F) arg2.view (Rect.unit ![0] ![1] inb_S1_S1_0).toLoadRect f2 (Shape.Idx.first hh)
        = View.read (Elt F) arg2.view f2 (ix1 0) := fun hh => congrArg (View.read (Elt F) arg2.view f2) (funext fun a => by
      match a with | ⟨0, _⟩ => rfl)
    first | unfold part18.sl.r_5 | unfold part18.sl.r_4 | unfold part18.sl.r_3 | unfold part18.sl.r_1 | skip
    try rw [e2]
    try rw [e5, e6]
    try first | rw [if_pos h'] | rw [if_neg h']
    all_goals try simp only [h, if_true, if_false]
    all_goals first
      | rfl
      | (refine (View.read_writes_full _ _ _ _ _).trans ?_; first | rfl | exact congrArg (k0_pay321 _ _ _ _ _) e9 | exact congrArg (k0_pay321 _ _ _ _ _) (View.readCov_full _ _ _ _ _))

end Cert.KernelIdeal.Parts

end
-- ==== Proof.KernelIdeal.Trace.lean ====
/- The values the kernel body computes, as a chain of equations. -/
module

public import proofs.«01_k».proof.Proof.Gen.KernelIdeal.Skeleton
public import proofs.«01_k».proof.Proof.Gen.KernelIdeal.Loops
public import proofs.«01_k».proof.Proof.Gen.KernelIdeal.Frame

public import proofs.«01_k».proof.Proof.KernelIdeal.Parts
public import Idealize.ShloMosaic.Lib.Pointwise

@[expose] public section

set_option maxRecDepth 16384

noncomputable section

namespace Cert.KernelIdeal.Parts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (E : Set ℕ) (i : grid0.Coords)
  (arg2 : Memref sig .tc .smem S1 .f32) (harg2 : arg2.IsWhole)
  (arg3 : Memref sig .tc .vmem S1x16384x128 .bf16) (harg3 : arg3.IsWhole)
  (arg4 : Memref sig .tc .vmem S1x16384x128 .fp8e5m2) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x16384x128 .fp8e5m2) (harg7 : arg7.IsWhole)
  (arg8 : Memref sig .tc .vmem S1x1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S16384x128 .f32) (harg11 : arg11.IsWhole)
  (arg12 : Memref sig .tc .vmem S16384x128 .f32) (harg12 : arg12.IsWhole)

/-- The values computed at a grid point, each given by those before it: what the two sweeps sum, the scratch they
    leave, and what the four outputs hold after. `f2`–`f6` are the inputs' contents, `p9`, `p10` what the accumulators held. -/
structure Trace (f2 : BufTy.Contents (Elt F) arg2.view.ty) (f3 : BufTy.Contents (Elt F) arg3.view.ty) (f4 : BufTy.Contents (Elt F) arg4.view.ty)
    (f5 : BufTy.Contents (Elt F) arg5.view.ty) (f6 : BufTy.Contents (Elt F) arg6.view.ty) (p9 p10 : Vec F S1x128 .f32)
    (y7 : Vec F S1x16384x128 .fp8e5m2) (y8 : Vec F S1x1x128 .f32) (y9 y10 : Vec F S1x128 .f32) where
  v14 : FVec F S8x128 .f32
  v72 : FVec F S1x128 .f32
  v77 : FVec F S1x128 .f32
  v89 : FVec F S1x128 .f32
  v93 : FVec F S1x128 .f32
  v95 : FVec F S1x128 .f32
  cs : FVec F S8x128 .f32 × FVec F S8x128 .f32
  s : F .f32
  z11 : BufTy.Contents (Elt F) arg11.view.ty
  z12 : BufTy.Contents (Elt F) arg12.view.ty
  v138 : FVec F S8x128 .f32
  v200 : FVec F S1x128 .f32
  v202 : FVec F S1x128 .f32
  v222 : FVec F S8x128 .f32
  z : BufTy.Contents (Elt F) arg11.view.ty
  v87 : BitVec 32
  v208 : BitVec 1
  e14 : v14 = k0_pay303 (st_k0_t1 (F := F) Variants.none c none i arg2 harg2 arg3 harg3 arg4 harg4 arg5 harg5 arg6 harg6 arg7 harg7 arg8 harg8 arg9 harg9 arg10 harg10
            arg11 harg11 arg12 harg12 f3 (k0_pay301, k0_pay301) k0_t1_loop.trips).1
    (st_k0_t1 (F := F) Variants.none c none i arg2 harg2 arg3 harg3 arg4 harg4 arg5 harg5 arg6 harg6 arg7 harg7 arg8 harg8 arg9 harg9 arg10 harg10
            arg11 harg11 arg12 harg12 f3 (k0_pay301, k0_pay301) k0_t1_loop.trips).2
  e72 : v72 = k0_pay307 v14 k0_pay304 (iota .tc S128x128 32 [1] iota_S128x128_d1_w32) 16#32 k0_pay305
  e77 : v77 = k0_pay308 v14 k0_pay304 (iota .tc S128x128 32 [1] iota_S128x128_d1_w32) 16#32 k0_pay305
  e87 : v87 = Scalar.extui (Scalar.cmpf .oge (k0_pay309 v14 k0_pay304 (iota .tc S128x128 32 [1] iota_S128x128_d1_w32) 16#32 k0_pay305)
    (Scalar.ofBits .f32 0x00000000#32))
  e89 : v89 = if Scalar.cmpi .ne v87 0#32 = 1#1 then
      k0_pay310 (k0_pay120 (st_k0_t2 (F := F) Variants.none c none i arg2 harg2 arg3 harg3 arg4 harg4 arg5 harg5 arg6 harg6 arg7 harg7 arg8 harg8 arg9 harg9 arg10 harg10
            arg11 harg11 arg12 harg12 k0_pay301 v72 f3 k0_pay301 k0_t2_loop.trips)) k0_pay121
        (iota .tc S128x128 32 [1] iota_S128x128_d1_w32) 16#32 k0_pay122 k0_pay123 (Scalar.extui (Scalar.cmpi .sgt 16#32 0#32)) 0#32
    else v77
  e93 : v93 = arg5.view.read (Elt F) f5
  e95 : v95 = arg6.view.read (Elt F) f6
  ecs : cs = (st_k0_t3 (F := F) Variants.none c none i arg2 harg2 arg3 harg3 arg4 harg4 arg5 harg5 arg6 harg6 arg7 harg7 arg8 harg8 arg9 harg9 arg10 harg10
            arg11 harg11 arg12 harg12 (BitVec.ofNat 32 (i 1).val) k0_pay301 v72 v77 v87 v89 v93 v95 f3 f4 (k0_pay301, k0_pay301) k0_t3_loop.trips).1
  es : s = arg2.view.read (Elt F) f2 (ix1 0)
  ez11 : z11 = arg11.view.writes (Elt F) (harg11.unread fun _ => Scalar.ofBits .f32 0x00000000#32)
    (st_k0_t3 (F := F) Variants.none c none i arg2 harg2 arg3 harg3 arg4 harg4 arg5 harg5 arg6 harg6 arg7 harg7 arg8 harg8 arg9 harg9 arg10 harg10
            arg11 harg11 arg12 harg12 (BitVec.ofNat 32 (i 1).val) k0_pay301 v72 v77 v87 v89 v93 v95 f3 f4 (k0_pay301, k0_pay301) k0_t3_loop.trips).2.1
  ez12 : z12 = arg12.view.writes (Elt F) (harg12.unread fun _ => Scalar.ofBits .f32 0x00000000#32)
    (st_k0_t3 (F := F) Variants.none c none i arg2 harg2 arg3 harg3 arg4 harg4 arg5 harg5 arg6 harg6 arg7 harg7 arg8 harg8 arg9 harg9 arg10 harg10
            arg11 harg11 arg12 harg12 (BitVec.ofNat 32 (i 1).val) k0_pay301 v72 v77 v87 v89 v93 v95 f3 f4 (k0_pay301, k0_pay301) k0_t3_loop.trips).2.2
  ey9 : y9 = k0_pay321 v72 v89 cs.1 cs.2 s (if IsFirst (BitVec.ofNat 32 (i 1).val) then k0_pay319 else p9)
  ey10 : y10 = k0_pay322 (k0_pay316 cs.1) (k0_pay318 s) (if IsFirst (BitVec.ofNat 32 (i 1).val) then k0_pay320 else p10)
  e138 : v138 = k0_pay323 (iota .tc S8x128 32 [0] iota_S8x128_d0_w32) (k0_pay312 v93) (k0_pay316 cs.1) (k0_pay317 v72 v89 cs.1 cs.2)
  e200 : v200 = k0_pay328 (k0_pay311 v89) v138 k0_pay324 (iota .tc S128x128 32 [1] iota_S128x128_d1_w32) 16#32 k0_pay325 k0_pay326
  e202 : v202 = k0_pay329 v72 (k0_pay311 v89) v138 k0_pay324 (iota .tc S128x128 32 [1] iota_S128x128_d1_w32) 16#32 k0_pay325 k0_pay326
  e208 : v208 = Scalar.cmpf .oge (k0_pay330 (k0_pay312 v93)) (Scalar.ofBits .f32 0x21800000#32)
  e222 : v222 = if Scalar.cmpi .ne (Scalar.extui v208 : BitVec 32) 0#32 = 1#1 then
      (st_k0_t4 (F := F) Variants.none c none i arg2 harg2 arg3 harg3 arg4 harg4 arg5 harg5 arg6 harg6 arg7 harg7 arg8 harg8 arg9 harg9 arg10 harg10
            arg11 harg11 arg12 harg12 k0_pay301 (k0_pay311 v89) (k0_pay312 v93) (k0_pay318 s) v200 v202 v208 (k0_pay331 (k0_pay312 v93)) k0_pay332 z12 z11 k0_pay301 k0_t4_loop.trips).1
    else (st_k0_t5 (F := F) Variants.none c none i arg2 harg2 arg3 harg3 arg4 harg4 arg5 harg5 arg6 harg6 arg7 harg7 arg8 harg8 arg9 harg9 arg10 harg10
            arg11 harg11 arg12 harg12 k0_pay301 (k0_pay311 v89) (k0_pay312 v93) (k0_pay318 s) v200 v202 v208 (k0_pay331 (k0_pay312 v93)) k0_pay332 z12 z11 k0_pay301 k0_t5_loop.trips).1
  ez : z = if Scalar.cmpi .ne (Scalar.extui v208 : BitVec 32) 0#32 = 1#1 then arg11.view.writes (Elt F) z11
      (st_k0_t4 (F := F) Variants.none c none i arg2 harg2 arg3 harg3 arg4 harg4 arg5 harg5 arg6 harg6 arg7 harg7 arg8 harg8 arg9 harg9 arg10 harg10
            arg11 harg11 arg12 harg12 k0_pay301 (k0_pay311 v89) (k0_pay312 v93) (k0_pay318 s) v200 v202 v208 (k0_pay331 (k0_pay312 v93)) k0_pay332 z12 z11 k0_pay301 k0_t4_loop.trips).2
    else arg11.view.writes (Elt F) z11
      (st_k0_t5 (F := F) Variants.none c none i arg2 harg2 arg3 harg3 arg4 harg4 arg5 harg5 arg6 harg6 arg7 harg7 arg8 harg8 arg9 harg9 arg10 harg10
            arg11 harg11 arg12 harg12 k0_pay301 (k0_pay311 v89) (k0_pay312 v93) (k0_pay318 s) v200 v202 v208 (k0_pay331 (k0_pay312 v93)) k0_pay332 z12 z11 k0_pay301 k0_t5_loop.trips).2
  ey8 : y8 = k0_pay346 (k0_pay341 (k0_pay311 v89) (k0_pay312 v93) (k0_pay318 s) v208 k0_pay332 v222) (k0_pay342 (k0_pay311 v89) (k0_pay312 v93) (k0_pay318 s) v208 k0_pay332 v222)
    (k0_pay343 (k0_pay311 v89) (k0_pay312 v93) (k0_pay318 s) v208 k0_pay332 v222) k0_pay344 0#32
  ey7 : y7 = arg7.view.read (Elt F) (arg7.view.writes (Elt F) (harg7.unread fun _ => Scalar.ofBits .fp8e5m2 0x00#8)
    (pb_k0_t6 (F := F) Variants.none c none i arg2 harg2 arg3 harg3 arg4 harg4 arg5 harg5 arg6 harg6 arg7 harg7 arg8 harg8 arg9 harg9 arg10 harg10
            arg11 harg11 arg12 harg12 (k0_pay333 (k0_pay311 v89) (k0_pay312 v93) (k0_pay318 s) v208 k0_pay332)
      (k0_pay347 (k0_pay341 (k0_pay311 v89) (k0_pay312 v93) (k0_pay318 s) v208 k0_pay332 v222) (k0_pay342 (k0_pay311 v89) (k0_pay312 v93) (k0_pay318 s) v208 k0_pay332 v222)
        (k0_pay343 (k0_pay311 v89) (k0_pay312 v93) (k0_pay318 s) v208 k0_pay332 v222) k0_pay344 0#32) z k0_t6_loop.trips))

end Cert.KernelIdeal.Parts

end
-- ==== Proof.KernelIdeal.Tail.lean ====
/- The loop that stores the codes, as a triple. -/
module

public import proofs.«01_k».proof.Proof.Gen.KernelIdeal.Skeleton
public import proofs.«01_k».proof.Proof.Gen.KernelIdeal.Loops
public import proofs.«01_k».proof.Proof.Gen.KernelIdeal.Frame

public import proofs.«01_k».proof.Proof.KernelIdeal.Parts

@[expose] public section

set_option maxRecDepth 16384

noncomputable section

namespace Cert.KernelIdeal.Parts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (E : Set ℕ) (i : grid0.Coords)
  (arg2 : Memref sig .tc .smem S1 .f32) (harg2 : arg2.IsWhole)
  (arg3 : Memref sig .tc .vmem S1x16384x128 .bf16) (harg3 : arg3.IsWhole)
  (arg4 : Memref sig .tc .vmem S1x16384x128 .fp8e5m2) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x16384x128 .fp8e5m2) (harg7 : arg7.IsWhole)
  (arg8 : Memref sig .tc .vmem S1x1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S16384x128 .f32) (harg11 : arg11.IsWhole)
  (arg12 : Memref sig .tc .vmem S16384x128 .f32) (harg12 : arg12.IsWhole)

set_option maxHeartbeats 400000 in
/-- The last loop's stores. -/
theorem tail (v217 : FVec F S1x128 .f32) (v296 : IVec S1x128 32) (f11 : BufTy.Contents (Elt F) arg11.view.ty) :
    ∃ y7 : BufTy.Contents (Elt F) arg7.view.ty, y7 = arg7.view.writes (Elt F) (harg7.unread fun _ => Scalar.ofBits .fp8e5m2 0x00#8)
        (pb_k0_t6 (F := F) Variants.none c none i arg2 harg2 arg3 harg3 arg4 harg4 arg5 harg5 arg6 harg6 arg7 harg7 arg8 harg8 arg9 harg9 arg10 harg10
            arg11 harg11 arg12 harg12 v217 v296 f11 k0_t6_loop.trips) ∧ ∀ (f7 : BufTy.Contents (Elt F) arg7.view.ty) (K : PUnit → sProp 𝕄),
      iprop((arg7.view.loc (c : Thread nD τ) ↦[arg7.view.set]{fullShare} f7) ∗ (arg11.view.loc (c : Thread nD τ) ↦[arg11.view.set]{fullShare} f11) ∗ (iprop((arg7.view.loc (c : Thread nD τ) ↦[arg7.view.set]{fullShare} y7) ∗ (arg11.view.loc (c : Thread nD τ) ↦[arg11.view.set]{fullShare} f11)) -∗ K ⟨⟩))
      ⊢ wp frame (wpE (defs₀ (F := F)) Variants.none c none) E
          (do Scf.Loop.for k0_t6_loop k0_t6_ok ⟨⟩ (k0_t6_body i arg2 harg2 arg3 harg3 arg4 harg4 arg5 harg5 arg6 harg6 arg7 harg7 arg8 harg8 arg9 harg9 arg10 harg10
            arg11 harg11 arg12 harg12 v217 v296); pure ⟨⟩) K := by
  refine ⟨_, rfl, fun f7 K => ?_⟩
  iintro ⟨H7, H11, Hk⟩
  sl_exec
  sl_step
  rw [last_fill c i arg2 harg2 arg3 harg3 arg4 harg4 arg5 harg5 arg6 harg6 arg7 harg7 arg8 harg8 arg9 harg9 arg10 harg10
            arg11 harg11 arg12 harg12 v217 v296 f11 f7 (harg7.unread fun _ => Scalar.ofBits .fp8e5m2 0x00#8)]
  iapply Hk
  isplitl [H7]
  · iexact H7
  iexact H11

end Cert.KernelIdeal.Parts

end
-- ==== Proof.KernelIdeal.Body.lean ====
/- The whole kernel body as one triple, composed of its parts. -/
module

public import proofs.«01_k».proof.Proof.Gen.KernelIdeal.Skeleton
public import proofs.«01_k».proof.Proof.Gen.KernelIdeal.Loops
public import proofs.«01_k».proof.Proof.Gen.KernelIdeal.Frame

public import proofs.«01_k».proof.Proof.KernelIdeal.Mid
public import proofs.«01_k».proof.Proof.KernelIdeal.Trace

public import proofs.«01_k».proof.Proof.KernelIdeal.Tail

@[expose] public section

set_option maxRecDepth 16384

noncomputable section

namespace Cert.KernelIdeal.Parts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (E : Set ℕ) (i : grid0.Coords)
  (arg2 : Memref sig .tc .smem S1 .f32) (harg2 : arg2.IsWhole)
  (arg3 : Memref sig .tc .vmem S1x16384x128 .bf16) (harg3 : arg3.IsWhole)
  (arg4 : Memref sig .tc .vmem S1x16384x128 .fp8e5m2) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x16384x128 .fp8e5m2) (harg7 : arg7.IsWhole)
  (arg8 : Memref sig .tc .vmem S1x1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S16384x128 .f32) (harg11 : arg11.IsWhole)
  (arg12 : Memref sig .tc .vmem S16384x128 .f32) (harg12 : arg12.IsWhole)

set_option maxHeartbeats 2000000 in
/-- The whole body at grid point `i`. -/
theorem body (f2 : BufTy.Contents (Elt F) arg2.view.ty) (f3 : BufTy.Contents (Elt F) arg3.view.ty) (f4 : BufTy.Contents (Elt F) arg4.view.ty)
    (f5 : BufTy.Contents (Elt F) arg5.view.ty) (f6 : BufTy.Contents (Elt F) arg6.view.ty)
    (g9 : BufTy.Contents (Elt F) arg9.view.ty) (g10 : BufTy.Contents (Elt F) arg10.view.ty) :
    ∃ (y7 : BufTy.Contents (Elt F) arg7.view.ty) (y8 : BufTy.Contents (Elt F) arg8.view.ty)
      (y9 : BufTy.Contents (Elt F) arg9.view.ty) (y10 : BufTy.Contents (Elt F) arg10.view.ty)
      (y11 : BufTy.Contents (Elt F) arg11.view.ty) (y12 : BufTy.Contents (Elt F) arg12.view.ty),
      Nonempty (Trace c i arg2 harg2 arg3 harg3 arg4 harg4 arg5 harg5 arg6 harg6 arg7 harg7 arg8 harg8 arg9 harg9 arg10 harg10
            arg11 harg11 arg12 harg12 f2 f3 f4 f5 f6 (arg9.view.read (Elt F) g9) (arg10.view.read (Elt F) g10)
        (arg7.view.read (Elt F) y7) (arg8.view.read (Elt F) y8) (arg9.view.read (Elt F) y9) (arg10.view.read (Elt F) y10)) ∧
      ∀ (f7 : BufTy.Contents (Elt F) arg7.view.ty) (f8 : BufTy.Contents (Elt F) arg8.view.ty)
        (f9 : BufTy.Contents (Elt F) arg9.view.ty) (f10 : BufTy.Contents (Elt F) arg10.view.ty)
        (f11 : BufTy.Contents (Elt F) arg11.view.ty) (f12 : BufTy.Contents (Elt F) arg12.view.ty) (K : PUnit → sProp 𝕄),
      (¬ IsFirst (BitVec.ofNat 32 (i 1).val) → f9 = g9 ∧ f10 = g10) →
      (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} y7) ∗ (arg8.view.loc (c : Thread nD τ) ↦[arg8.view.set]{fullShare} y8) ∗ (arg9.view.loc (c : Thread nD τ) ↦[arg9.view.set]{fullShare} y9) ∗ (arg10.view.loc (c : Thread nD τ) ↦[arg10.view.set]{fullShare} y10) ∗ (arg11.view.loc (c : Thread nD τ) ↦[arg11.view.set]{fullShare} y11) ∗ (arg12.view.loc (c : Thread nD τ) ↦[arg12.view.set]{fullShare} y12)) -∗ K ⟨⟩))
      ⊢ wp frame (wpE (defs₀ (F := F)) Variants.none c none) E (cc0_gn_silu_bwd i arg2 harg2 arg3 harg3 arg4 harg4 arg5 harg5 arg6 harg6 arg7 harg7 arg8 harg8 arg9 harg9 arg10 harg10
            arg11 harg11 arg12 harg12) K) := by
  simp only [cc0_gn_silu_bwd_eq_skeleton]; unfold cc0_gn_silu_bwd_skel
  simp only [k0_part16_eq_skeleton, k0_part17_eq_skeleton, k0_part18_eq_skeleton, k0_part19_eq_skeleton, k0_part20_eq_skeleton,
    k0_part21_eq_skeleton, k0_part22_eq_skeleton]
  unfold k0_part17_skel k0_part20_skel
  have h16 := part16 c E i arg2 harg2 arg3 harg3 arg4 harg4 arg5 harg5 arg6 harg6 arg7 harg7 arg8 harg8 arg9 harg9 arg10 harg10
            arg11 harg11 arg12 harg12 f3
  obtain ⟨v14, e14, h16⟩ := h16
  have h18 := part18 c E i arg2 harg2 arg3 harg3 arg4 harg4 arg5 harg5 arg6 harg6 arg7 harg7 arg8 harg8 arg9 harg9 arg10 harg10
            arg11 harg11 arg12 harg12 (BitVec.ofNat 32 (i 1).val) k0_pay301 (k0_pay307 v14 k0_pay304 (iota .tc S128x128 32 [1] iota_S128x128_d1_w32) 16#32 k0_pay305) (k0_pay308 v14 k0_pay304 (iota .tc S128x128 32 [1] iota_S128x128_d1_w32) 16#32 k0_pay305)
    (Scalar.extui (Scalar.cmpf .oge (k0_pay309 v14 k0_pay304 (iota .tc S128x128 32 [1] iota_S128x128_d1_w32) 16#32 k0_pay305) (Scalar.ofBits .f32 0x00000000#32))) f2 f3 f4 f5 f6 g9 g10
  obtain ⟨y9, z10, z11, z12, v89, v93, v95, cs, s, r, ⟨e89, e93, e95, ecs, es, ez11, ez12, ey9, ez10, rfl⟩, h18⟩ := h18
  have h19 := part19 c E i arg2 harg2 arg3 harg3 arg4 harg4 arg5 harg5 arg6 harg6 arg7 harg7 arg8 harg8 arg9 harg9 arg10 harg10
            arg11 harg11 arg12 harg12 (iota .tc S8x128 32 [0] iota_S8x128_d0_w32) (k0_pay312 v93) (k0_pay316 cs.1) (k0_pay317 (k0_pay307 v14 k0_pay304 (iota .tc S128x128 32 [1] iota_S128x128_d1_w32) 16#32 k0_pay305) v89 cs.1 cs.2) (k0_pay318 s) z10
  obtain ⟨y10, ey10, h19⟩ := h19
  rw [ez10] at ey10
  have h21 := part21 c E i arg2 harg2 arg3 harg3 arg4 harg4 arg5 harg5 arg6 harg6 arg7 harg7 arg8 harg8 arg9 harg9 arg10 harg10
            arg11 harg11 arg12 harg12 k0_pay301 (k0_pay311 v89) (k0_pay312 v93) (k0_pay318 s)
    (k0_pay328 (k0_pay311 v89) (k0_pay323 (iota .tc S8x128 32 [0] iota_S8x128_d0_w32) (k0_pay312 v93) (k0_pay316 cs.1) (k0_pay317 (k0_pay307 v14 k0_pay304 (iota .tc S128x128 32 [1] iota_S128x128_d1_w32) 16#32 k0_pay305) v89 cs.1 cs.2)) k0_pay324 (iota .tc S128x128 32 [1] iota_S128x128_d1_w32) 16#32 k0_pay325 k0_pay326)
    (k0_pay329 (k0_pay307 v14 k0_pay304 (iota .tc S128x128 32 [1] iota_S128x128_d1_w32) 16#32 k0_pay305) (k0_pay311 v89) (k0_pay323 (iota .tc S8x128 32 [0] iota_S8x128_d0_w32) (k0_pay312 v93) (k0_pay316 cs.1) (k0_pay317 (k0_pay307 v14 k0_pay304 (iota .tc S128x128 32 [1] iota_S128x128_d1_w32) 16#32 k0_pay305) v89 cs.1 cs.2)) k0_pay324 (iota .tc S128x128 32 [1] iota_S128x128_d1_w32) 16#32 k0_pay325 k0_pay326)
    (Scalar.cmpf .oge (k0_pay330 (k0_pay312 v93)) (Scalar.ofBits .f32 0x21800000#32)) (k0_pay331 (k0_pay312 v93)) (k0_pay332 (F := F)) z11 z12
  obtain ⟨y11, v222, e222, ez, h21⟩ := h21
  obtain ⟨y8, ey8, h22⟩ := part22 c E i arg2 harg2 arg3 harg3 arg4 harg4 arg5 harg5 arg6 harg6 arg7 harg7 arg8 harg8 arg9 harg9 arg10 harg10
            arg11 harg11 arg12 harg12 (k0_pay341 (k0_pay311 v89) (k0_pay312 v93) (k0_pay318 s) (Scalar.cmpf .oge (k0_pay330 (k0_pay312 v93)) (Scalar.ofBits .f32 0x21800000#32)) k0_pay332 v222) (k0_pay342 (k0_pay311 v89) (k0_pay312 v93) (k0_pay318 s) (Scalar.cmpf .oge (k0_pay330 (k0_pay312 v93)) (Scalar.ofBits .f32 0x21800000#32)) k0_pay332 v222) (k0_pay343 (k0_pay311 v89) (k0_pay312 v93) (k0_pay318 s) (Scalar.cmpf .oge (k0_pay330 (k0_pay312 v93)) (Scalar.ofBits .f32 0x21800000#32)) k0_pay332 v222) k0_pay344 0#32
  obtain ⟨y7, ey7, h7⟩ := tail c E i arg2 harg2 arg3 harg3 arg4 harg4 arg5 harg5 arg6 harg6 arg7 harg7 arg8 harg8 arg9 harg9 arg10 harg10
            arg11 harg11 arg12 harg12 (k0_pay333 (k0_pay311 v89) (k0_pay312 v93) (k0_pay318 s) (Scalar.cmpf .oge (k0_pay330 (k0_pay312 v93)) (Scalar.ofBits .f32 0x21800000#32)) k0_pay332) (k0_pay347 (k0_pay341 (k0_pay311 v89) (k0_pay312 v93) (k0_pay318 s) (Scalar.cmpf .oge (k0_pay330 (k0_pay312 v93)) (Scalar.ofBits .f32 0x21800000#32)) k0_pay332 v222) (k0_pay342 (k0_pay311 v89) (k0_pay312 v93) (k0_pay318 s) (Scalar.cmpf .oge (k0_pay330 (k0_pay312 v93)) (Scalar.ofBits .f32 0x21800000#32)) k0_pay332 v222) (k0_pay343 (k0_pay311 v89) (k0_pay312 v93) (k0_pay318 s) (Scalar.cmpf .oge (k0_pay330 (k0_pay312 v93)) (Scalar.ofBits .f32 0x21800000#32)) k0_pay332 v222) k0_pay344 0#32) y11
  refine ⟨y7, y8, y9, y10, y11, z12, ⟨⟨v14, _, _, v89, v93, v95, cs, s, z11, z12, _, _, _, v222, y11, _, _, e14, rfl, rfl, rfl, e89, e93, e95, ecs, es,
    ez11, ez12, ey9, ey10, rfl, rfl, rfl, rfl, e222, ez, ey8, congrArg _ ey7⟩⟩, fun f7 f8 f9 f10 f11 f12 K hfirst => ?_⟩
  simp only [wp_bind]
  iintro ⟨H2, H3, H4, H5, H6, H7, H8, H9, H10, H11, H12, Hk⟩
  iapply h16
  isplitl [H3]; · iexact H3
  iintro H3
  sl_step
  dsimp only
  iapply h18 f9 f10 f11 f12 _ hfirst
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [H11]; · iexact H11
  isplitl [H12]; · iexact H12
  iintro ⟨H2, H3, H4, H5, H6, H9, H10, H11, H12⟩
  dsimp only
  iapply h19
  isplitl [H10]; · iexact H10
  iintro H10
  sl_step
  dsimp only
  iapply h21
  isplitl [H11]; · iexact H11
  isplitl [H12]; · iexact H12
  iintro ⟨H11, H12⟩
  dsimp only
  iapply h22
  isplitl [H8]; · iexact H8
  iintro H8
  try dsimp only
  simp only [← wp_bind]
  iapply h7
  isplitl [H7]; · iexact H7
  isplitl [H11]; · iexact H11
  iintro ⟨H7, H11⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal.Parts

end
-- ==== Proof.KernelIdeal.Owned.lean ====
/- The kernel body over owned memrefs. -/
module

public import proofs.«01_k».proof.Proof.Gen.KernelIdeal.Skeleton
public import proofs.«01_k».proof.Proof.Gen.KernelIdeal.Loops
public import proofs.«01_k».proof.Proof.Gen.KernelIdeal.Frame

public import proofs.«01_k».proof.Proof.KernelIdeal.Body

@[expose] public section

set_option maxRecDepth 16384

noncomputable section

namespace Cert.KernelIdeal.Parts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (E : Set ℕ) (i : grid0.Coords)
  (arg2 : Memref sig .tc .smem S1 .f32) (harg2 : arg2.IsWhole)
  (arg3 : Memref sig .tc .vmem S1x16384x128 .bf16) (harg3 : arg3.IsWhole)
  (arg4 : Memref sig .tc .vmem S1x16384x128 .fp8e5m2) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x16384x128 .fp8e5m2) (harg7 : arg7.IsWhole)
  (arg8 : Memref sig .tc .vmem S1x1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S16384x128 .f32) (harg11 : arg11.IsWhole)
  (arg12 : Memref sig .tc .vmem S16384x128 .f32) (harg12 : arg12.IsWhole)

/-- The body over owned memrefs: the outputs it leaves depend on the inputs and, past the first batch element, on
    what the two accumulators held. -/
theorem owned (x2 : Vec F S1 .f32) (x3 : Vec F S1x16384x128 .bf16) (x4 : Vec F S1x16384x128 .fp8e5m2) (x5 : Vec F S1x128 .f32) (x6 : Vec F S1x128 .f32) (p9 p10 : Vec F S1x128 .f32) :
    ∃ (y7 : Vec F S1x16384x128 .fp8e5m2) (y8 : Vec F S1x1x128 .f32) (y9 y10 : Vec F S1x128 .f32),
      Nonempty (Trace c i arg2 harg2 arg3 harg3 arg4 harg4 arg5 harg5 arg6 harg6 arg7 harg7 arg8 harg8 arg9 harg9 arg10 harg10
            arg11 harg11 arg12 harg12 (harg2.unread x2) (harg3.unread x3) (harg4.unread x4) (harg5.unread x5) (harg6.unread x6) p9 p10 y7 y8 y9 y10) ∧
      ∀ (d7 : Vec F S1x16384x128 .fp8e5m2) (d8 : Vec F S1x1x128 .f32) (d9 d10 : Vec F S1x128 .f32) (K : PUnit → sProp 𝕄),
      (¬ IsFirst (BitVec.ofNat 32 (i 1).val) → d9 = p9 ∧ d10 = p10) →
      (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare d8 ∗ owns (c : Thread nD τ) arg9 fullShare d9 ∗ owns (c : Thread nD τ) arg10 fullShare d10 ∗ (∃ d, owns (c : Thread nD τ) arg11 fullShare d) ∗ (∃ d, owns (c : Thread nD τ) arg12 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare y7 ∗ owns (c : Thread nD τ) arg8 fullShare y8 ∗ owns (c : Thread nD τ) arg9 fullShare y9 ∗ owns (c : Thread nD τ) arg10 fullShare y10 ∗ (∃ d, owns (c : Thread nD τ) arg11 fullShare d) ∗ (∃ d, owns (c : Thread nD τ) arg12 fullShare d)) -∗ K ⟨⟩))
      ⊢ wp frame (wpE (defs₀ (F := F)) Variants.none c none) E (cc0_gn_silu_bwd i arg2 harg2 arg3 harg3 arg4 harg4 arg5 harg5 arg6 harg6 arg7 harg7 arg8 harg8 arg9 harg9 arg10 harg10
            arg11 harg11 arg12 harg12) K) := by
  obtain ⟨y7, y8, y9, y10, y11, y12, htr, h⟩ := body c E i arg2 harg2 arg3 harg3 arg4 harg4 arg5 harg5 arg6 harg6 arg7 harg7 arg8 harg8 arg9 harg9 arg10 harg10
            arg11 harg11 arg12 harg12
    (harg2.unread x2) (harg3.unread x3) (harg4.unread x4) (harg5.unread x5) (harg6.unread x6) (harg9.unread p9) (harg10.unread p10)
  refine ⟨arg7.view.read _ y7, arg8.view.read _ y8, arg9.view.read _ y9, arg10.view.read _ y10, by rwa [harg9.read_unread, harg10.read_unread] at htr, fun d7 d8 d9 d10 K hfirst => ?_⟩
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%e11, %f11, -, H11⟩, ⟨%e12, %f12, -, H12⟩, Hk⟩
  obtain rfl := harg2.eq_unread hf2
  obtain rfl := harg3.eq_unread hf3
  obtain rfl := harg4.eq_unread hf4
  obtain rfl := harg5.eq_unread hf5
  obtain rfl := harg6.eq_unread hf6
  iapply h f7 f8 f9 f10 f11 f12 K (fun hn => ⟨(harg9.eq_unread hf9).trans (by rw [(hfirst hn).1]), (harg10.eq_unread hf10).trans (by rw [(hfirst hn).2])⟩)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H2, H3, H4, H5, H6, H7, H8, H9, H10, H11, H12⟩
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists (arg11.view.read _ y11); iexists y11; isplitr; · ipureintro; rfl
    iexact H11
  iexists (arg12.view.read _ y12); iexists y12; isplitr; · ipureintro; rfl
  iexact H12

end Cert.KernelIdeal.Parts

end
-- ==== Proof.KernelIdeal.Run.lean ====
/- The proof data of the pipeline, the launch and the frame. -/
module

public import proofs.«01_k».proof.Proof.Gen.KernelIdeal.Skeleton
public import proofs.«01_k».proof.Proof.Gen.KernelIdeal.Loops
public import proofs.«01_k».proof.Proof.Gen.KernelIdeal.Frame

public import Idealize.ShloMosaic.Lib.Claim
public import proofs.«01_k».proof.Proof.KernelIdeal.Owned

@[expose] public section

set_option maxRecDepth 16384

noncomputable section

namespace Cert.KernelIdeal.Parts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the four outputs' staging buffers hold after a point. -/
abbrev Out (F : FTy → Type) [FloatOps F] : Type :=
  Vec F S1x16384x128 .fp8e5m2 × Vec F S1x1x128 .f32 × Vec F S1x128 .f32 × Vec F S1x128 .f32

/-- `q` is computed from the input blocks at point `t` and the accumulators' contents `p` as the body computes it. -/
abbrev Computed (c : Dev nD) (t : Fin cfg0.N) (p : Vec F S1x128 .f32 × Vec F S1x128 .f32) (q : Out F) : Type :=
  Trace c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _)
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) p.1 p.2 q.1 q.2.1 q.2.2.1 q.2.2.2

/-- `q` is what the body leaves at point `t` when the accumulators hold `p` there. -/
def Leaves (c : Dev nD) (t : Fin cfg0.N) (p : Vec F S1x128 .f32 × Vec F S1x128 .f32) (q : Out F) : Prop :=
  Nonempty (Computed m c t p q) ∧ ∀ (d5 : Vec F S1x16384x128 .fp8e5m2) (d6 : Vec F S1x1x128 .f32) (d7 d8 : Vec F S1x128 .f32) (K : PUnit → sProp 𝕄),
      (¬ IsFirst (BitVec.ofNat 32 (grid0.coords t 1).val) → d7 = p.1 ∧ d8 = p.2) →
      (iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare d5 ∗ owns (c : Thread nD τ) (st0_6 t) fullShare d6 ∗ owns (c : Thread nD τ) (st0_7 t) fullShare d7 ∗ owns (c : Thread nD τ) (st0_8 t) fullShare d8 ∗ (∃ d, owns (c : Thread nD τ) (Memref.whole cc0_scratch0) fullShare d) ∗ (∃ d, owns (c : Thread nD τ) (Memref.whole cc0_scratch1) fullShare d)
        ∗ (iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare q.1 ∗ owns (c : Thread nD τ) (st0_6 t) fullShare q.2.1 ∗ owns (c : Thread nD τ) (st0_7 t) fullShare q.2.2.1 ∗ owns (c : Thread nD τ) (st0_8 t) fullShare q.2.2.2 ∗ (∃ d, owns (c : Thread nD τ) (Memref.whole cc0_scratch0) fullShare d) ∗ (∃ d, owns (c : Thread nD τ) (Memref.whole cc0_scratch1) fullShare d)) -∗ K ⟨⟩))
      ⊢ wp frame (wpE (defs₀ (F := F)) Variants.none c none) Set.univ (bodyAt0 t) K)

theorem exists_leaves (c : Dev nD) (t : Fin cfg0.N) (p : Vec F S1x128 .f32 × Vec F S1x128 .f32) : ∃ q, Leaves m c t p q := by
  obtain ⟨y7, y8, y9, y10, htr, h⟩ := owned c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _)
    (iblk m c 0 t) (iblk m c 1 t) (iblk m c 2 t) (iblk m c 3 t) (iblk m c 4 t) p.1 p.2
  exact ⟨(y7, y8, y9, y10), htr, h⟩

/-- What the body leaves at point `t` when the accumulators hold `p` there. -/
def leaves (c : Dev nD) (t : Fin cfg0.N) (p : Vec F S1x128 .f32 × Vec F S1x128 .f32) : Out F := Classical.choose (exists_leaves m c t p)

theorem leaves_spec (c : Dev nD) (t : Fin cfg0.N) (p : Vec F S1x128 .f32 × Vec F S1x128 .f32) : Leaves m c t p (leaves m c t p) :=
  Classical.choose_spec (exists_leaves m c t p)

/-- The accumulators before point `k`. -/
def acc (c : Dev nD) : ℕ → Vec F S1x128 .f32 × Vec F S1x128 .f32
  | 0 => (fun _ => Scalar.ofBits .f32 0x00000000#32, fun _ => Scalar.ofBits .f32 0x00000000#32)
  | k + 1 => if h : k < cfg0.N then (leaves m c ⟨k, h⟩ (acc c k)).2.2 else acc c k

/-- What the body leaves at point `t`. -/
def outs (c : Dev nD) (t : Fin cfg0.N) : Out F := leaves m c t (acc m c t.val)

/-- What the body leaves is computed as the body computes it. -/
theorem outs_computed (c : Dev nD) (t : Fin cfg0.N) : Nonempty (Computed m c t (acc m c t.val) (outs m c t)) :=
  (leaves_spec m c t (acc m c t.val)).1

theorem acc_succ (c : Dev nD) (k : ℕ) (h : k < cfg0.N) : acc m c (k + 1) = (outs m c ⟨k, h⟩).2.2 := by
  rw [acc, dif_pos h]; rfl

/-- The proof data: each input's buffer at its block, each output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outs m c t).1
    | ⟨6, _⟩ => (outs m c t).2.1
    | ⟨7, _⟩ => (outs m c t).2.2.1
    | ⟨8, _⟩ => (outs m c t).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outs m c t).1 := by dsimp only [dats]
theorem after0_6 (c : Dev nD) (t : Fin cfg0.N) : (dats m 0 c).after 6 t = (outs m c t).2.1 := by dsimp only [dats]
theorem after0_7 (c : Dev nD) (t : Fin cfg0.N) : (dats m 0 c).after 7 t = (outs m c t).2.2.1 := by dsimp only [dats]
theorem after0_8 (c : Dev nD) (t : Fin cfg0.N) : (dats m 0 c).after 8 t = (outs m c t).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The batch coordinate of a point. -/
theorem first_iff : ∀ t : Fin cfg0.N, IsFirst (BitVec.ofNat 32 (grid0.coords t 1).val) ↔ t.val % 5 = 0 := by decide +kernel

/-- Past the first batch element an accumulator's buffer holds what the body left at the point before. -/
theorem before0_7 (c : Dev nD) (t : Fin cfg0.N) (d) (h : ¬ IsFirst (BitVec.ofNat 32 (grid0.coords t 1).val)) :
    (dats m 0 c).before 7 t d = (acc m c t.val).1 := by
  rw [first_iff] at h
  have ht : t.val ≠ 0 := fun h0 => h (by rw [h0])
  have hlt : t.val - 1 < cfg0.N := Nat.lt_of_le_of_lt (Nat.sub_le _ _) t.isLt
  have hfl : (cfg0.win 7).flush ⟨t.val - 1, hlt⟩ = false := by
    rw [Bool.eq_false_iff, Ne, flush0_7]
    show ¬ (t.val - 1) % 5 = 4
    omega
  have hacc : acc m c t.val = (outs m c ⟨t.val - 1, hlt⟩).2.2 := by
    rw [← acc_succ]; congr 1; omega
  rw [(dats m 0 c).before_out_kept 7 rfl t ht hfl (fun _ => rfl) (fun _ _ => rfl), after0_7, hacc]

/-- Past the first batch element an accumulator's buffer holds what the body left at the point before. -/
theorem before0_8 (c : Dev nD) (t : Fin cfg0.N) (d) (h : ¬ IsFirst (BitVec.ofNat 32 (grid0.coords t 1).val)) :
    (dats m 0 c).before 8 t d = (acc m c t.val).2 := by
  rw [first_iff] at h
  have ht : t.val ≠ 0 := fun h0 => h (by rw [h0])
  have hlt : t.val - 1 < cfg0.N := Nat.lt_of_le_of_lt (Nat.sub_le _ _) t.isLt
  have hfl : (cfg0.win 8).flush ⟨t.val - 1, hlt⟩ = false := by
    rw [Bool.eq_false_iff, Ne, flush0_8]
    show ¬ (t.val - 1) % 5 = 4
    omega
  have hacc : acc m c t.val = (outs m c ⟨t.val - 1, hlt⟩).2.2 := by
    rw [← acc_succ]; congr 1; omega
  rw [(dats m 0 c).before_out_kept 8 rfl t ht hfl (fun _ => rfl) (fun _ _ => rfl), after0_8, hacc]

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8]
  unfold Pipeline.ΦA
  rw [scopedRest0_eq]
  simp only [← owns_whole (c : Thread nD τ)]
  iintro ⟨⟨⟨S0, S1⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (leaves_spec m c t (acc m c t.val)).2 _ _ _ _ _ (fun h => ⟨before0_7 m c t d7 h, before0_8 m c t d8 h⟩)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  iintro ⟨H0, H1, H2, H3, H4, H5, H6, H7, H8, S0, S1⟩
  isplitl [S0 S1 HP]
  · isplitl [S0 S1]
    · isplitl [S0]; · iexact S0
      iexact S1
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every execution ends, the arrays at what the proof data compute, the counters at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run_main_quiescent m ρ))

/-- The frame: the run ends, the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Parts

end
-- ==== Proof.KernelIdeal.Sums.lean ====
/- The loops that sum over the rows of a tile: what each leaves, as a sum over all rows. -/
module

public import proofs.«01_k».proof.Proof.Gen.KernelIdeal.Skeleton
public import proofs.«01_k».proof.Proof.Gen.KernelIdeal.Loops
public import Idealize.ShloMosaic.Lib.Pointwise

@[expose] public section

set_option maxRecDepth 16384

noncomputable section

namespace Cert.KernelIdeal.Parts

open Cert.KernelIdeal.Gen
open Idealize.ShloMosaic Idealize.ShloMosaic.TcCoe Idealize.ShloMosaic.Tactic
variable (c : Dev nD) (i : grid0.Coords)
  (arg2 : Memref sig .tc .smem S1 .f32) (harg2 : arg2.IsWhole)
  (arg3 : Memref sig .tc .vmem S1x16384x128 .bf16) (harg3 : arg3.IsWhole)
  (arg4 : Memref sig .tc .vmem S1x16384x128 .fp8e5m2) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x16384x128 .fp8e5m2) (harg7 : arg7.IsWhole)
  (arg8 : Memref sig .tc .vmem S1x1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S16384x128 .f32) (harg11 : arg11.IsWhole)
  (arg12 : Memref sig .tc .vmem S16384x128 .f32) (harg12 : arg12.IsWhole)

/-- A block's row by its number (zero outside the block). -/
def row3 (v : S1x16384x128.Idx → EReal) (l : Fin 128) (n : ℕ) : EReal := if h : n < 16384 then v (ix3 0 ⟨n, h⟩ l) else 0

/-- A row of some rows of a tile by its number (zero outside). -/
def row2 {N : ℕ} (v : (⟨2, ![N, 128]⟩ : Shape).Idx → EReal) (l : Fin 128) (n : ℕ) : EReal :=
  if h : n < N then v (ix2 ⟨n, h⟩ l) else 0

theorem row2_of_lt {N : ℕ} (v : (⟨2, ![N, 128]⟩ : Shape).Idx → EReal) (l : Fin 128) (n : ℕ) (h : n < N) :
    v (ix2 ⟨n, h⟩ l) = row2 v l n := by
  unfold row2; rw [dif_pos h]

theorem sum_pairs (n : ℕ) (g : ℕ → EReal) : ∑ j ∈ Finset.range (n * 2), g j = ∑ j ∈ Finset.range n, (g (2 * j) + g (2 * j + 1)) := by
  induction n with
  | zero => simp
  | succ n ih =>
    rw [show (n + 1) * 2 = n * 2 + 1 + 1 by ring, Finset.sum_range_succ, Finset.sum_range_succ, ih, Finset.sum_range_succ,
      show n * 2 = 2 * n by ring, add_assoc]

/-- The block of scaled derivatives one trip of the second sweep computes. -/
def dhBlock (v72 v89 v93 v95 : FVec Ideal S1x128 .f32) (f3 : BufTy.Contents (Elt Ideal) arg3.view.ty)
    (f4 : BufTy.Contents (Elt Ideal) arg4.view.ty) (k : Fin k0_t3_loop.trips) : FVec Ideal S256x128 .f32 :=
  k0_pay125 (k0_pay313 v89 v93) (k0_pay314 v72 v89 v93 v95)
    (arg3.view.readAt (Elt Ideal) (Rect.unit (s := S1x16384x128) (k0_off3 k) S1x256x128.size (k0_off3_inb k)).toLoadRect f3)
    (arg4.view.readAt (Elt Ideal) (Rect.unit (s := S1x16384x128) (k0_off3 k) S1x256x128.size (k0_off3_inb k)).toLoadRect f4)

/-- A load of rows of a block reads those rows. -/
theorem readAt_row3 {e : EltTy} (m : Memref sig .tc .vmem S1x16384x128 e) (f : BufTy.Contents (Elt Ideal) m.view.ty) {n : ℕ}
    (off : Fin 3 → ℕ) (o : ℕ) (h : off = ![0, o, 0]) (inb : ∀ a, off a + (![1, n, 128] : Fin 3 → ℕ) a ≤ S1x16384x128.size a)
    (r : Fin n) (l : Fin 128) (hr : o + r.val < 16384) :
    m.view.readAt (Elt Ideal) (Rect.unit (s := S1x16384x128) off ![1, n, 128] inb).toLoadRect f (ix3 0 r l)
      = m.view.read (Elt Ideal) f (ix3 0 ⟨o + r.val, hr⟩ l) := by
  subst h
  rw [View.readAt_apply]
  congr 1
  funext a
  match a with
  | ⟨0, _⟩ => rfl
  | ⟨1, _⟩ => exact Fin.ext (show o + 1 * r.val = o + r.val by omega)
  | ⟨2, _⟩ => exact Fin.ext (show 0 + 1 * l.val = l.val by omega)

/-- The offset of the `j`-th sixteen rows of a trip of the first loop. -/
theorem off1_word (k : Fin k0_t1_loop.trips) (w : BitVec 32) (hw : w.toNat < 512) : k0_off1 k w = ![0, 512 * k.val + w.toNat, 0] := by
  have hk : k.val < 32 := k.isLt
  funext a
  match a with
  | ⟨0, _⟩ => rfl
  | ⟨2, _⟩ => rfl
  | ⟨1, _⟩ =>
    show (k0_off1 k w) 1 = 512 * k.val + w.toNat
    simp [k0_off1, Scf.iv, Scalar.muli, Scalar.addi, Scalar.indexCast, IntOp.addi, IntOp.muli]
    omega

/-- One trip of the first loop adds its 64 rows, and their squares. -/
theorem t1_trip (f3 : BufTy.Contents (Elt Ideal) arg3.view.ty)
    (k : Fin k0_t1_loop.trips) (acc : FVec Ideal S8x128 .f32 × FVec Ideal S8x128 .f32) (u : Fin 8) (l : Fin 128) :
    (tripR_k0_t1 (F := Ideal) Variants.none c none i arg2 harg2 arg3 harg3 arg4 harg4 arg5 harg5 arg6 harg6 arg7 harg7 arg8 harg8 arg9 harg9 arg10 harg10 arg11 harg11 arg12 harg12 f3 k acc).1 (ix2 u l)
      = acc.1 (ix2 u l) + ∑ j ∈ Finset.range 64, row3 (arg3.view.read (Elt Ideal) f3) l (512 * k.val + (8 * j + u.val))
    ∧ (tripR_k0_t1 (F := Ideal) Variants.none c none i arg2 harg2 arg3 harg3 arg4 harg4 arg5 harg5 arg6 harg6 arg7 harg7 arg8 harg8 arg9 harg9 arg10 harg10 arg11 harg11 arg12 harg12 f3 k acc).2 (ix2 u l)
      = acc.2 (ix2 u l) + ∑ j ∈ Finset.range 64, row3 (arg3.view.read (Elt Ideal) f3) l (512 * k.val + (8 * j + u.val))
          * row3 (arg3.view.read (Elt Ideal) f3) l (512 * k.val + (8 * j + u.val)) := by
  have hk : k.val < 32 := k.isLt
  have hu := u.isLt
  have key : ∀ (w : BitVec 32) (inb) (r : Fin 16), w.toNat < 497 →
      arg3.view.readAt (Elt Ideal) (Rect.unit (s := S1x16384x128) (k0_off1 k w) ![1, 16, 128] inb).toLoadRect f3 (ix3 0 r l)
        = row3 (arg3.view.read (Elt Ideal) f3) l (512 * k.val + w.toNat + r.val) := by
    intro w inb r hw
    have hr := r.isLt
    rw [readAt_row3 arg3 f3 _ _ (off1_word k w (by omega)) inb r l (by omega)]
    rw [row3, dif_pos]
  have pairs : ∀ g : ℕ → EReal, ∑ j ∈ Finset.range 64, g (512 * k.val + (8 * j + u.val))
      = ∑ j ∈ Finset.range 32, (g (512 * k.val + 16 * j + u.val) + g (512 * k.val + 16 * j + (8 + u.val))) := by
    intro g
    rw [sum_pairs 32]
    exact Finset.sum_congr rfl fun j _ => by
      rw [show 512 * k.val + (8 * (2 * j) + u.val) = 512 * k.val + 16 * j + u.val by omega,
        show 512 * k.val + (8 * (2 * j + 1) + u.val) = 512 * k.val + 16 * j + (8 + u.val) by omega]
  constructor
  · rw [pairs (row3 (arg3.view.read (Elt Ideal) f3) l)]
    unfold tripR_k0_t1 trip_k0_t1
    dsimp only
    pointwise [trip_k0_t1.sl.arg13, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.v300, trip_k0_t1.sl.v340, trip_k0_t1.sl.v428, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay302]
    simp (disch := decide) only [key]
    generalize row3 (arg3.view.read (Elt Ideal) f3) l = g
    simp only [Finset.sum_range_succ, Finset.sum_range_zero, Nat.reduceMul, zero_add, BitVec.reduceToNat]
    abel
  · rw [pairs fun n => row3 (arg3.view.read (Elt Ideal) f3) l n * row3 (arg3.view.read (Elt Ideal) f3) l n]
    unfold tripR_k0_t1 trip_k0_t1
    dsimp only
    pointwise [trip_k0_t1.sl.arg13, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.v300, trip_k0_t1.sl.v340, trip_k0_t1.sl.v428, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay302]
    simp (disch := decide) only [key]
    generalize row3 (arg3.view.read (Elt Ideal) f3) l = g
    simp only [Finset.sum_range_succ, Finset.sum_range_zero, Nat.reduceMul, zero_add, BitVec.reduceToNat]
    abel

/-- The rows a load of 512 rows reads, less the mean. -/
theorem t2_trip (v0 : FVec Ideal S8x128 .f32) (v72 : FVec Ideal S1x128 .f32) (f3 : BufTy.Contents (Elt Ideal) arg3.view.ty)
    (k : Fin k0_t2_loop.trips) (acc : FVec Ideal S8x128 .f32) (u : Fin 8) (l : Fin 128) :
    tripR_k0_t2 (F := Ideal) Variants.none c none i arg2 harg2 arg3 harg3 arg4 harg4 arg5 harg5 arg6 harg6 arg7 harg7 arg8 harg8 arg9 harg9 arg10 harg10 arg11 harg11 arg12 harg12 v0 v72 f3 k acc (ix2 u l)
      = acc (ix2 u l) + ∑ j ∈ Finset.range 64,
          (row3 (arg3.view.read (Elt Ideal) f3) l (512 * k.val + (8 * j + u.val)) - v72 (ix2 0 l))
            * (row3 (arg3.view.read (Elt Ideal) f3) l (512 * k.val + (8 * j + u.val)) - v72 (ix2 0 l)) := by
  have hk : k.val < 32 := k.isLt
  have hu := u.isLt
  have key : ∀ (inb) (r : Fin 512),
      arg3.view.readAt (Elt Ideal) (Rect.unit (s := S1x16384x128) (k0_off2 k) ![1, 512, 128] inb).toLoadRect f3 (ix3 0 r l)
        = row3 (arg3.view.read (Elt Ideal) f3) l (512 * k.val + r.val) := by
    intro inb r
    have hr := r.isLt
    rw [readAt_row3 arg3 f3 _ _ (k0_off2_eq k) inb r l (by omega)]
    rw [row3, dif_pos]
  unfold tripR_k0_t2 trip_k0_t2
  dsimp only
  pointwise [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r_50, trip_k0_t2.sl.r_51, trip_k0_t2.sl.r_52, trip_k0_t2.sl.r_53, trip_k0_t2.sl.r_54, trip_k0_t2.sl.r_55, trip_k0_t2.sl.r_56, trip_k0_t2.sl.r_57, trip_k0_t2.sl.r_58, trip_k0_t2.sl.r_59, trip_k0_t2.sl.r_60, trip_k0_t2.sl.r_61, trip_k0_t2.sl.r_62, trip_k0_t2.sl.r_63, trip_k0_t2.sl.r_64, trip_k0_t2.sl.r_65, trip_k0_t2.sl.r_66, trip_k0_t2.sl.r_67, trip_k0_t2.sl.r_68, trip_k0_t2.sl.v498, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119]
  simp only [key]
  generalize row3 (arg3.view.read (Elt Ideal) f3) l = g
  simp only [Finset.sum_range_succ, Finset.sum_range_zero, Nat.reduceMul, zero_add]

  abel

/-- One trip of the second sweep adds its 32 rows of the scaled derivative, and their products with the input. -/
theorem t3_trip (arg1 : BitVec 32) (v0 : FVec Ideal S8x128 .f32) (v72 v77 : FVec Ideal S1x128 .f32) (v87 : BitVec 32)
    (v89 v93 v95 : FVec Ideal S1x128 .f32) (f3 : BufTy.Contents (Elt Ideal) arg3.view.ty) (f4 : BufTy.Contents (Elt Ideal) arg4.view.ty)
    (k : Fin k0_t3_loop.trips) (acc : FVec Ideal S8x128 .f32 × FVec Ideal S8x128 .f32) (u : Fin 8) (l : Fin 128) :
    (tripR_k0_t3 (F := Ideal) Variants.none c none i arg2 harg2 arg3 harg3 arg4 harg4 arg5 harg5 arg6 harg6 arg7 harg7 arg8 harg8 arg9 harg9 arg10 harg10 arg11 harg11 arg12 harg12 arg1 v0 v72 v77 v87 v89 v93 v95 f3 f4 k acc).1 (ix2 u l)
      = acc.1 (ix2 u l) + ∑ j ∈ Finset.range 32, row2 (dhBlock arg3 arg4 v72 v89 v93 v95 f3 f4 k) l (8 * j + u.val)
    ∧ (tripR_k0_t3 (F := Ideal) Variants.none c none i arg2 harg2 arg3 harg3 arg4 harg4 arg5 harg5 arg6 harg6 arg7 harg7 arg8 harg8 arg9 harg9 arg10 harg10 arg11 harg11 arg12 harg12 arg1 v0 v72 v77 v87 v89 v93 v95 f3 f4 k acc).2 (ix2 u l)
      = acc.2 (ix2 u l) + ∑ j ∈ Finset.range 32, row2 (dhBlock arg3 arg4 v72 v89 v93 v95 f3 f4 k) l (8 * j + u.val)
          * row3 (arg3.view.read (Elt Ideal) f3) l (256 * k.val + (8 * j + u.val)) := by
  have hk : k.val < 64 := k.isLt
  have hu := u.isLt
  have key : ∀ (inb) (r : Fin 256),
      arg3.view.readAt (Elt Ideal) (Rect.unit (s := S1x16384x128) (k0_off3 k) ![1, 256, 128] inb).toLoadRect f3 (ix3 0 r l)
        = row3 (arg3.view.read (Elt Ideal) f3) l (256 * k.val + r.val) := by
    intro inb r
    have hr := r.isLt
    rw [readAt_row3 arg3 f3 _ _ (k0_off3_eq k) inb r l (by omega)]
    rw [row3, dif_pos]
  have key2 : ∀ r : Fin 256, k0_pay125 (k0_pay313 v89 v93) (k0_pay314 v72 v89 v93 v95)
              (arg3.view.readAt (Elt Ideal) (Rect.unit (s := S1x16384x128) (k0_off3 k) S1x256x128.size (k0_off3_inb k)).toLoadRect f3)
              (arg4.view.readAt (Elt Ideal) (Rect.unit (s := S1x16384x128) (k0_off3 k) S1x256x128.size (k0_off3_inb k)).toLoadRect f4) (ix2 r l)
      = row2 (dhBlock arg3 arg4 v72 v89 v93 v95 f3 f4 k) l r.val := fun r => row2_of_lt _ l r.val r.isLt
  constructor
  all_goals
    unfold tripR_k0_t3 trip_k0_t3
    dsimp only
    pointwise [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.r_19, trip_k0_t3.sl.r_20, trip_k0_t3.sl.r_21, trip_k0_t3.sl.r_22, trip_k0_t3.sl.r_23, trip_k0_t3.sl.r_24, trip_k0_t3.sl.r_25, trip_k0_t3.sl.r_26, trip_k0_t3.sl.r_27, trip_k0_t3.sl.r_28, trip_k0_t3.sl.r_29, trip_k0_t3.sl.r_30, trip_k0_t3.sl.r_31, trip_k0_t3.sl.r_32, k0_pay124, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay315]
    simp only [key, key2]
    generalize row3 (arg3.view.read (Elt Ideal) f3) l = g
    generalize row2 (dhBlock arg3 arg4 v72 v89 v93 v95 f3 f4 k) l = g'
    simp only [Finset.sum_range_succ, Finset.sum_range_zero, Nat.reduceMul, zero_add]

    abel

theorem trips1 : k0_t1_loop.trips = 32 := by decide +kernel
theorem trips2 : k0_t2_loop.trips = 32 := by decide +kernel

/-- The rows met by residue `u` in the first `k` trips of `w` row groups. -/
theorem sum_trips (w k : ℕ) (u : ℕ) (g : ℕ → EReal) :
    ∑ j ∈ Finset.range (w * (k + 1)), g (8 * j + u)
      = ∑ j ∈ Finset.range (w * k), g (8 * j + u) + ∑ j ∈ Finset.range w, g (8 * w * k + (8 * j + u)) := by
  rw [show w * (k + 1) = w * k + w by ring, Finset.sum_range_add]
  exact congrArg _ (Finset.sum_congr rfl fun j _ => by congr 1; ring)

/-- The first sweep's two sums before trip `k`. -/
theorem t1_sum (f3 : BufTy.Contents (Elt Ideal) arg3.view.ty) (init : FVec Ideal S8x128 .f32 × FVec Ideal S8x128 .f32)
    (u : Fin 8) (l : Fin 128) : ∀ k ≤ k0_t1_loop.trips,
    (st_k0_t1 (F := Ideal) Variants.none c none i arg2 harg2 arg3 harg3 arg4 harg4 arg5 harg5 arg6 harg6 arg7 harg7 arg8 harg8 arg9 harg9 arg10 harg10 arg11 harg11 arg12 harg12 f3 init k).1 (ix2 u l)
      = init.1 (ix2 u l) + ∑ j ∈ Finset.range (64 * k), row3 (arg3.view.read (Elt Ideal) f3) l (8 * j + u.val)
    ∧ (st_k0_t1 (F := Ideal) Variants.none c none i arg2 harg2 arg3 harg3 arg4 harg4 arg5 harg5 arg6 harg6 arg7 harg7 arg8 harg8 arg9 harg9 arg10 harg10 arg11 harg11 arg12 harg12 f3 init k).2 (ix2 u l)
      = init.2 (ix2 u l) + ∑ j ∈ Finset.range (64 * k), row3 (arg3.view.read (Elt Ideal) f3) l (8 * j + u.val)
          * row3 (arg3.view.read (Elt Ideal) f3) l (8 * j + u.val)
  | 0, _ => by simp [st_k0_t1_zero]
  | k + 1, hk => by
    obtain ⟨h1, h2⟩ := t1_sum f3 init u l k (Nat.le_of_lt hk)
    rw [st_k0_t1_succ (F := Ideal) Variants.none c none i arg2 harg2 arg3 harg3 arg4 harg4 arg5 harg5 arg6 harg6 arg7 harg7 arg8 harg8 arg9 harg9 arg10 harg10 arg11 harg11 arg12 harg12 f3 init ⟨k, hk⟩]
    obtain ⟨e1, e2⟩ := t1_trip c i arg2 harg2 arg3 harg3 arg4 harg4 arg5 harg5 arg6 harg6 arg7 harg7 arg8 harg8 arg9 harg9 arg10 harg10 arg11 harg11 arg12 harg12 f3 ⟨k, hk⟩
      (st_k0_t1 (F := Ideal) Variants.none c none i arg2 harg2 arg3 harg3 arg4 harg4 arg5 harg5 arg6 harg6 arg7 harg7 arg8 harg8 arg9 harg9 arg10 harg10 arg11 harg11 arg12 harg12 f3 init k) u l
    refine ⟨e1.trans ?_, e2.trans ?_⟩
    · rw [h1, add_assoc, sum_trips 64 k u.val]
    · rw [h2, add_assoc, sum_trips 64 k u.val fun n => row3 (arg3.view.read (Elt Ideal) f3) l n * row3 (arg3.view.read (Elt Ideal) f3) l n]

/-- The centred sweep's sum of squares before trip `k`. -/
theorem t2_sum (v0 : FVec Ideal S8x128 .f32) (v72 : FVec Ideal S1x128 .f32) (f3 : BufTy.Contents (Elt Ideal) arg3.view.ty) (init : FVec Ideal S8x128 .f32)
    (u : Fin 8) (l : Fin 128) : ∀ k ≤ k0_t2_loop.trips,
    (st_k0_t2 (F := Ideal) Variants.none c none i arg2 harg2 arg3 harg3 arg4 harg4 arg5 harg5 arg6 harg6 arg7 harg7 arg8 harg8 arg9 harg9 arg10 harg10 arg11 harg11 arg12 harg12 v0 v72 f3 init k) (ix2 u l)
      = init (ix2 u l) + ∑ j ∈ Finset.range (64 * k), (row3 (arg3.view.read (Elt Ideal) f3) l (8 * j + u.val) - v72 (ix2 0 l))
          * (row3 (arg3.view.read (Elt Ideal) f3) l (8 * j + u.val) - v72 (ix2 0 l))
  | 0, _ => by simp [st_k0_t2_zero]
  | k + 1, hk => by
    have h1 := t2_sum v0 v72 f3 init u l k (Nat.le_of_lt hk)
    rw [st_k0_t2_succ (F := Ideal) Variants.none c none i arg2 harg2 arg3 harg3 arg4 harg4 arg5 harg5 arg6 harg6 arg7 harg7 arg8 harg8 arg9 harg9 arg10 harg10 arg11 harg11 arg12 harg12 v0 v72 f3 init ⟨k, hk⟩]
    refine (t2_trip c i arg2 harg2 arg3 harg3 arg4 harg4 arg5 harg5 arg6 harg6 arg7 harg7 arg8 harg8 arg9 harg9 arg10 harg10 arg11 harg11 arg12 harg12 v0 v72 f3 ⟨k, hk⟩
      (st_k0_t2 (F := Ideal) Variants.none c none i arg2 harg2 arg3 harg3 arg4 harg4 arg5 harg5 arg6 harg6 arg7 harg7 arg8 harg8 arg9 harg9 arg10 harg10 arg11 harg11 arg12 harg12 v0 v72 f3 init k) u l).trans ?_
    rw [h1, add_assoc, sum_trips 64 k u.val fun n => (row3 (arg3.view.read (Elt Ideal) f3) l n - v72 (ix2 0 l)) * (row3 (arg3.view.read (Elt Ideal) f3) l n - v72 (ix2 0 l))]

/-- The scaled derivative at a row and lane: the derivative's code times the sigmoid factor of `2 u`, `u = a x + b`. -/
def dhRow (v72 v89 v93 v95 : FVec Ideal S1x128 .f32) (f3 : BufTy.Contents (Elt Ideal) arg3.view.ty)
    (f4 : BufTy.Contents (Elt Ideal) arg4.view.ty) (l : Fin 128) (n : ℕ) : EReal :=
  let u := row3 (arg3.view.read (Elt Ideal) f3) l n * k0_pay313 v89 v93 (ix2 0 l) + k0_pay314 v72 v89 v93 v95 (ix2 0 l)
  row3 (arg4.view.read (Elt Ideal) f4) l n * (1 + Ideal.tanh u + u * (1 - Ideal.tanh u * Ideal.tanh u))

theorem dhBlock_row (v72 v89 v93 v95 : FVec Ideal S1x128 .f32) (f3 : BufTy.Contents (Elt Ideal) arg3.view.ty)
    (f4 : BufTy.Contents (Elt Ideal) arg4.view.ty) (k : Fin k0_t3_loop.trips) (r : ℕ) (hr : r < 256) (l : Fin 128) :
    row2 (dhBlock arg3 arg4 v72 v89 v93 v95 f3 f4 k) l r = dhRow arg3 arg4 v72 v89 v93 v95 f3 f4 l (256 * k.val + r) := by
  have hk : k.val < 64 := k.isLt
  rw [← row2_of_lt _ _ _ hr]
  unfold dhBlock
  pointwise [k0_pay125, k0_pay124]
  rw [readAt_row3 arg3 f3 _ _ (k0_off3_eq k) _ ⟨r, hr⟩ l (by show 256 * k.val + r < 16384; omega),
    readAt_row3 arg4 f4 _ _ (k0_off3_eq k) _ ⟨r, hr⟩ l (by show 256 * k.val + r < 16384; omega)]
  unfold dhRow row3
  rw [dif_pos (show 256 * k.val + r < 16384 by omega), dif_pos (show 256 * k.val + r < 16384 by omega)]

/-- The second sweep's two sums before trip `k`. -/
theorem t3_sum (arg1 : BitVec 32) (v0 : FVec Ideal S8x128 .f32) (v72 v77 : FVec Ideal S1x128 .f32) (v87 : BitVec 32)
    (v89 v93 v95 : FVec Ideal S1x128 .f32) (f3 : BufTy.Contents (Elt Ideal) arg3.view.ty) (f4 : BufTy.Contents (Elt Ideal) arg4.view.ty)
    (init : FVec Ideal S8x128 .f32 × FVec Ideal S8x128 .f32) (u : Fin 8) (l : Fin 128) : ∀ k ≤ k0_t3_loop.trips,
    (st_k0_t3 (F := Ideal) Variants.none c none i arg2 harg2 arg3 harg3 arg4 harg4 arg5 harg5 arg6 harg6 arg7 harg7 arg8 harg8 arg9 harg9 arg10 harg10 arg11 harg11 arg12 harg12 arg1 v0 v72 v77 v87 v89 v93 v95 f3 f4 init k).1.1 (ix2 u l)
      = init.1 (ix2 u l) + ∑ j ∈ Finset.range (32 * k), dhRow arg3 arg4 v72 v89 v93 v95 f3 f4 l (8 * j + u.val)
    ∧ (st_k0_t3 (F := Ideal) Variants.none c none i arg2 harg2 arg3 harg3 arg4 harg4 arg5 harg5 arg6 harg6 arg7 harg7 arg8 harg8 arg9 harg9 arg10 harg10 arg11 harg11 arg12 harg12 arg1 v0 v72 v77 v87 v89 v93 v95 f3 f4 init k).1.2 (ix2 u l)
      = init.2 (ix2 u l) + ∑ j ∈ Finset.range (32 * k), dhRow arg3 arg4 v72 v89 v93 v95 f3 f4 l (8 * j + u.val)
          * row3 (arg3.view.read (Elt Ideal) f3) l (8 * j + u.val)
  | 0, _ => by simp [st_k0_t3_zero]
  | k + 1, hk => by
    obtain ⟨h1, h2⟩ := t3_sum arg1 v0 v72 v77 v87 v89 v93 v95 f3 f4 init u l k (Nat.le_of_lt hk)
    rw [st_k0_t3_succ (F := Ideal) Variants.none c none i arg2 harg2 arg3 harg3 arg4 harg4 arg5 harg5 arg6 harg6 arg7 harg7 arg8 harg8 arg9 harg9 arg10 harg10 arg11 harg11 arg12 harg12 arg1 v0 v72 v77 v87 v89 v93 v95 f3 f4 init ⟨k, hk⟩]
    obtain ⟨e1, e2⟩ := t3_trip c i arg2 harg2 arg3 harg3 arg4 harg4 arg5 harg5 arg6 harg6 arg7 harg7 arg8 harg8 arg9 harg9 arg10 harg10 arg11 harg11 arg12 harg12 arg1 v0 v72 v77 v87 v89 v93 v95 f3 f4 ⟨k, hk⟩
      (st_k0_t3 (F := Ideal) Variants.none c none i arg2 harg2 arg3 harg3 arg4 harg4 arg5 harg5 arg6 harg6 arg7 harg7 arg8 harg8 arg9 harg9 arg10 harg10 arg11 harg11 arg12 harg12 arg1 v0 v72 v77 v87 v89 v93 v95 f3 f4 init k).1 u l
    have hu := u.isLt
    refine ⟨e1.trans ?_, e2.trans ?_⟩
    · rw [h1, add_assoc, sum_trips 32 k u.val]
      refine congrArg _ (congrArg _ (Finset.sum_congr rfl fun j hj => ?_))
      have := Finset.mem_range.mp hj
      rw [dhBlock_row arg3 arg4 v72 v89 v93 v95 f3 f4 ⟨k, hk⟩ _ (by omega)]
    · rw [h2, add_assoc, sum_trips 32 k u.val fun n => dhRow arg3 arg4 v72 v89 v93 v95 f3 f4 l n * row3 (arg3.view.read (Elt Ideal) f3) l n]
      refine congrArg _ (congrArg _ (Finset.sum_congr rfl fun j hj => ?_))
      have := Finset.mem_range.mp hj
      rw [dhBlock_row arg3 arg4 v72 v89 v93 v95 f3 f4 ⟨k, hk⟩ _ (by omega)]

/-- The eight residues' sums make the sum over all rows. -/
theorem sum_residues (n : ℕ) (g : ℕ → EReal) :
    ∑ u : Fin 8, ∑ j ∈ Finset.range n, g (8 * j + u.val) = ∑ j ∈ Finset.range (8 * n), g j := by
  rw [Finset.sum_comm]
  induction n with
  | zero => simp
  | succ n ih =>
    rw [Finset.sum_range_succ, ih, show 8 * (n + 1) = 8 * n + 8 by ring, Finset.sum_range_add]
    exact congrArg _ (by rw [Finset.sum_range])
end Cert.KernelIdeal.Parts
end
-- ==== Proof.GroupNorm.lean ====
/- The backward pass of group norm with SiLU over the reals, one group at a time. -/
module

public import Idealize.ShloMosaic.Lib.Pointwise

@[expose] public section

noncomputable section

namespace Cert.GroupNorm

open Idealize.ShloMosaic

/-! ## The operations on finite values -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

theorem rsqrt_coe (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

theorem tanh_coe (r : ℝ) : Ideal.tanh (r : EReal) = ((Real.tanh r : ℝ) : EReal) := rfl

/-- The logistic function on the reals. -/
def sig (r : ℝ) : ℝ := 1 / (1 + Real.exp (-r))

theorem logistic_coe (r : ℝ) : Ideal.logistic (r : EReal) = ((sig r : ℝ) : EReal) := by
  unfold Ideal.logistic
  rw [← EReal.coe_neg, show Ideal.exp ((-r : ℝ) : EReal) = ((Real.exp (-r) : ℝ) : EReal) from rfl, ← EReal.coe_one, ← EReal.coe_add,
    div_coe _ _ (by positivity)]
  rfl

/-- The number of entries of a group. -/
theorem count_coe : Ideal.ofBits .f32 1216348160#32 = ((262144 : ℝ) : EReal) := by
  simp [Ideal.ofBits, Ideal.ieee]; norm_num [← EReal.coe_mul]

theorem half_coe : Ideal.ofBits .f32 1056964608#32 = ((1 / 2 : ℝ) : EReal) := by
  simp [Ideal.ofBits, Ideal.ieee]; norm_num [← EReal.coe_mul]

/-- The term added to the variance. -/
def eps : ℝ := 10995116 * (2 : ℝ) ^ (-40 : ℤ)

theorem eps_coe : Ideal.ofBits .f32 925353388#32 = ((eps : ℝ) : EReal) := by
  simp [Ideal.ofBits, Ideal.ieee, eps]

theorem eps_pos : 0 < eps := by unfold eps; positivity

/-! ## One group -/

/-- One group's inputs: 16 channels of 16384 rows, the channels' gains and offsets, and the derivative's scale. -/
structure Slab where
  x : Fin 16 → Fin 16384 → ℝ
  dy : Fin 16 → Fin 16384 → ℝ
  g : Fin 16 → ℝ
  b : Fin 16 → ℝ
  s : ℝ

namespace Slab

variable (S : Slab)

def mean : ℝ := (∑ k, ∑ n, S.x k n) / 262144
def var : ℝ := (∑ k, ∑ n, (S.x k n - S.mean) * (S.x k n - S.mean)) / 262144
def rstd : ℝ := (Real.sqrt (S.var + eps))⁻¹
def xhat (k : Fin 16) (n : Fin 16384) : ℝ := (S.x k n - S.mean) * S.rstd
def h (k : Fin 16) (n : Fin 16384) : ℝ := S.xhat k n * S.g k + S.b k
def dh (k : Fin 16) (n : Fin 16384) : ℝ := S.dy k n * S.s * sig (S.h k n) * (1 + S.h k n * (1 - sig (S.h k n)))
def dgamma (k : Fin 16) : ℝ := ∑ n, S.dh k n * S.xhat k n
def dbeta (k : Fin 16) : ℝ := ∑ n, S.dh k n
def meanG : ℝ := (∑ k, ∑ n, S.dh k n * S.g k) / 262144
def meanGx : ℝ := (∑ k, ∑ n, S.dh k n * S.g k * S.xhat k n) / 262144
def dx (k : Fin 16) (n : Fin 16384) : ℝ := S.rstd * (S.dh k n * S.g k - S.meanG - S.xhat k n * S.meanGx)

theorem var_nonneg : 0 ≤ S.var := by
  unfold var
  exact div_nonneg (Finset.sum_nonneg fun k _ => Finset.sum_nonneg fun n _ => mul_self_nonneg _) (by norm_num)

theorem var_eps_pos : 0 < S.var + eps := add_pos_of_nonneg_of_pos S.var_nonneg eps_pos

/-- The variance from the sum of squares. -/
theorem var_eq : (∑ k, ∑ n, S.x k n * S.x k n) / 262144 - S.mean * S.mean = S.var := by
  have hs : ∑ k, ∑ n, S.x k n = 262144 * S.mean := by unfold mean; ring
  have : ∑ k, ∑ n, (S.x k n - S.mean) * (S.x k n - S.mean)
      = ∑ k, ∑ n, S.x k n * S.x k n - 2 * S.mean * (∑ k, ∑ n, S.x k n) + 262144 * (S.mean * S.mean) := by
    have e : ∀ k n, (S.x k n - S.mean) * (S.x k n - S.mean) = S.x k n * S.x k n - 2 * S.mean * S.x k n + S.mean * S.mean := fun k n => by ring
    simp only [e, Finset.sum_add_distrib, Finset.sum_sub_distrib, Finset.mul_sum, Finset.sum_const, Finset.card_univ, Fintype.card_fin,
      nsmul_eq_mul]
    norm_num; ring
  unfold var
  rw [this, hs]; ring

/-- The sigmoid factor by the hyperbolic tangent of half the argument. -/
theorem tanh_half (r : ℝ) : Real.tanh (r / 2) = 2 * sig r - 1 := by
  have hp := Real.exp_pos (r / 2)
  have e1 : Real.exp (-r) = (Real.exp (r / 2))⁻¹ * (Real.exp (r / 2))⁻¹ := by
    rw [← Real.exp_neg, ← Real.exp_add]; congr 1; ring
  rw [Real.tanh_eq_sinh_div_cosh, Real.sinh_eq, Real.cosh_eq, sig, e1, Real.exp_neg]
  generalize Real.exp (r / 2) = E at hp
  field_simp
  ring

/-- The kernel's form of the scaled derivative. -/
def kdh (k : Fin 16) (n : Fin 16384) : ℝ :=
  S.dy k n * (1 + Real.tanh (S.h k n / 2) + S.h k n / 2 * (1 - Real.tanh (S.h k n / 2) * Real.tanh (S.h k n / 2)))

theorem kdh_eq (k : Fin 16) (n : Fin 16384) : 1 / 2 * S.s * S.kdh k n = S.dh k n := by
  unfold kdh dh; rw [tanh_half]; ring

theorem half_h (k : Fin 16) (n : Fin 16384) :
    S.x k n * (S.rstd * S.g k * (1 / 2)) + (1 / 2 * S.b k - S.mean * (S.rstd * S.g k * (1 / 2))) = S.h k n / 2 := by
  unfold h xhat; ring

theorem dgamma_eq (k : Fin 16) :
    1 / 2 * S.s * ((∑ n, S.kdh k n * S.x k n - S.mean * ∑ n, S.kdh k n) * S.rstd) = S.dgamma k := by
  unfold dgamma
  have : ∀ n, S.dh k n * S.xhat k n = 1 / 2 * S.s * S.rstd * (S.kdh k n * S.x k n) - 1 / 2 * S.s * S.rstd * S.mean * S.kdh k n := fun n => by
    rw [← kdh_eq]; unfold xhat; ring
  simp only [this, Finset.sum_sub_distrib, ← Finset.mul_sum]
  ring

theorem dbeta_eq (k : Fin 16) : 1 / 2 * S.s * ∑ n, S.kdh k n = S.dbeta k := by
  unfold dbeta
  rw [Finset.mul_sum]
  exact Finset.sum_congr rfl fun n _ => S.kdh_eq k n

end Slab

/-- All the inputs as real numbers: five batches of 16384 rows of 512 channels, the gains, the offsets and the scale. -/
structure Data where
  x : Fin 5 → Fin 16384 → Fin 512 → ℝ
  dy : Fin 5 → Fin 16384 → Fin 512 → ℝ
  g : Fin 512 → ℝ
  b : Fin 512 → ℝ
  s : ℝ

/-- The `k`-th channel of a channel's group. -/
def chan (ch : Fin 512) (k : Fin 16) : Fin 512 := ⟨ch.val / 16 * 16 + k.val, by omega⟩

/-- A channel's place in its group. -/
def spot (ch : Fin 512) : Fin 16 := ⟨ch.val % 16, by omega⟩

theorem chan_spot (ch : Fin 512) : chan ch (spot ch) = ch := Fin.ext (by unfold chan spot; dsimp only; omega)
theorem spot_chan (ch : Fin 512) (k : Fin 16) : spot (chan ch k) = k := Fin.ext (by unfold chan spot; dsimp only; omega)

namespace Data

variable (D : Data)

/-- The group of a channel in a batch. -/
def slab (b : Fin 5) (ch : Fin 512) : Slab :=
  ⟨fun k n => D.x b n (chan ch k), fun k n => D.dy b n (chan ch k), fun k => D.g (chan ch k), fun k => D.b (chan ch k), D.s⟩

theorem slab_chan (b : Fin 5) (ch : Fin 512) (k : Fin 16) : D.slab b (chan ch k) = D.slab b ch := by
  have h : ∀ j, chan (chan ch k) j = chan ch j := fun j => Fin.ext (by unfold chan; dsimp only; omega)
  unfold slab; simp only [h]

theorem slab_x (b : Fin 5) (ch : Fin 512) (n : Fin 16384) : (D.slab b ch).x (spot ch) n = D.x b n ch := by
  show D.x b n (chan ch (spot ch)) = _; rw [chan_spot]
theorem slab_dy (b : Fin 5) (ch : Fin 512) (n : Fin 16384) : (D.slab b ch).dy (spot ch) n = D.dy b n ch := by
  show D.dy b n (chan ch (spot ch)) = _; rw [chan_spot]
theorem slab_g (b : Fin 5) (ch : Fin 512) : (D.slab b ch).g (spot ch) = D.g ch := by
  show D.g (chan ch (spot ch)) = _; rw [chan_spot]
theorem slab_b (b : Fin 5) (ch : Fin 512) : (D.slab b ch).b (spot ch) = D.b ch := by
  show D.b (chan ch (spot ch)) = _; rw [chan_spot]

/-- The gradient of the gains. -/
def dgamma (ch : Fin 512) : ℝ := ∑ b, (D.slab b ch).dgamma (spot ch)
/-- The gradient of the offsets. -/
def dbeta (ch : Fin 512) : ℝ := ∑ b, (D.slab b ch).dbeta (spot ch)
/-- The gradient of the input. -/
def dx (b : Fin 5) (n : Fin 16384) (ch : Fin 512) : ℝ := (D.slab b ch).dx (spot ch) n

end Data

end Cert.GroupNorm

end
-- ==== Proof.KernelIdeal.Vals.lean ====
/- The first sweeps' values at a grid point, over finite inputs. -/
module

public import proofs.«01_k».proof.Proof.KernelIdeal.Sums
public import proofs.«01_k».proof.Proof.KernelIdeal.Trace
public import proofs.«01_k».proof.Proof.GroupNorm

@[expose] public section

set_option maxRecDepth 16384

noncomputable section

namespace Cert.KernelIdeal.Parts

open Cert.KernelIdeal.Gen Cert.GroupNorm
open Idealize.ShloMosaic Idealize.ShloMosaic.TcCoe

/-- A tile's finite inputs: 128 channels of 16384 rows, the channels' gains and offsets, and the derivative's scale. -/
structure Tile where
  x : Fin 128 → Fin 16384 → ℝ
  dy : Fin 128 → Fin 16384 → ℝ
  g : Fin 128 → ℝ
  b : Fin 128 → ℝ
  s : ℝ

/-- The `k`-th lane of a lane's group. -/
def lane (l : Fin 128) (k : Fin 16) : Fin 128 := ⟨l.val / 16 * 16 + k.val, by omega⟩

/-- A lane's place in its group. -/
def place (l : Fin 128) : Fin 16 := ⟨l.val % 16, by omega⟩

theorem lane_place (l : Fin 128) : lane l (place l) = l := Fin.ext (by unfold lane place; dsimp only; omega)

/-- The group of a lane. -/
def Tile.slab (T : Tile) (l : Fin 128) : Slab :=
  ⟨fun k => T.x (lane l k), fun k => T.dy (lane l k), fun k => T.g (lane l k), fun k => T.b (lane l k), T.s⟩

theorem slab_lane (T : Tile) (l : Fin 128) (k : Fin 16) : T.slab (lane l k) = T.slab l := by
  have h : ∀ j, lane (lane l k) j = lane l j := fun j => Fin.ext (by unfold lane; dsimp only; omega)
  unfold Tile.slab; simp only [h]

theorem place_lane (l : Fin 128) (k : Fin 16) : place (lane l k) = k := Fin.ext (by unfold lane place; dsimp only; omega)

theorem slab_x (T : Tile) (l : Fin 128) (n : Fin 16384) : (T.slab l).x (place l) n = T.x l n := by
  show T.x (lane l (place l)) n = _; rw [lane_place]
theorem slab_dy (T : Tile) (l : Fin 128) (n : Fin 16384) : (T.slab l).dy (place l) n = T.dy l n := by
  show T.dy (lane l (place l)) n = _; rw [lane_place]
theorem slab_g (T : Tile) (l : Fin 128) : (T.slab l).g (place l) = T.g l := by
  show T.g (lane l (place l)) = _; rw [lane_place]
theorem slab_b (T : Tile) (l : Fin 128) : (T.slab l).b (place l) = T.b l := by
  show T.b (lane l (place l)) = _; rw [lane_place]

/-- Two lanes share a group when their words' quotients by 16 agree, as the kernel computes them. -/
theorem word_quot : ∀ x : Fin 128, Scalar.select
    (IntOp.andi
      (IntOp.cmpi CmpIPredicate.ne
        (IntOp.subi (BitVec.setWidth 32 (IntOp.cmpi CmpIPredicate.sgt (BitVec.ofNat 32 x.val) 0#32))
          (BitVec.setWidth 32 (IntOp.cmpi CmpIPredicate.slt (BitVec.ofNat 32 x.val) 0#32)))
        (Scalar.subi (Scalar.extui (Scalar.cmpi CmpIPredicate.sgt 16#32 0#32))
          (Scalar.extui (Scalar.cmpi CmpIPredicate.slt 16#32 0#32))))
      (IntOp.cmpi CmpIPredicate.ne (IntOp.remsi ArithUnit.vector (BitVec.ofNat 32 x.val) 16#32) 0#32))
    (IntOp.subi (IntOp.divsi ArithUnit.vector (BitVec.ofNat 32 x.val) 16#32) 1#32)
    (IntOp.divsi ArithUnit.vector (BitVec.ofNat 32 x.val) 16#32) = BitVec.ofNat 32 (x.val / 16) := by decide +kernel

theorem same_group (x l : Fin 128) (a : EReal) :
    Scalar.select (IntOp.cmpi CmpIPredicate.eq (BitVec.ofNat 32 (x.val / 16)) (BitVec.ofNat 32 (l.val / 16))) a 0
      = if x.val / 16 = l.val / 16 then a else 0 := by
  have h : (BitVec.ofNat 32 (x.val / 16) = BitVec.ofNat 32 (l.val / 16)) ↔ x.val / 16 = l.val / 16 := by
    rw [← BitVec.toNat_inj, BitVec.toNat_ofNat, BitVec.toNat_ofNat]; omega
  by_cases hx : x.val / 16 = l.val / 16
  · rw [if_pos hx, hx]; simp [Scalar.select, IntOp.cmpi]
  · have hb : (BitVec.ofNat 32 (x.val / 16) == BitVec.ofNat 32 (l.val / 16)) = false := by rw [beq_eq_false_iff_ne]; exact fun e => hx (h.mp e)
    rw [if_neg hx]; simp [Scalar.select, IntOp.cmpi, hb]

/-- A sum over the lanes of a lane's group. -/
theorem sum_group (l : Fin 128) (f : Fin 128 → EReal) :
    ∑ x : Fin 128, (if x.val / 16 = l.val / 16 then f x else 0) = ∑ k : Fin 16, f (lane l k) := by
  rw [← Finset.sum_filter]
  refine (Finset.sum_bij (fun k _ => lane l k) (fun k _ => ?_) (fun a _ b _ h => ?_) (fun x hx => ?_) (fun _ _ => rfl)).symm
  · simp only [Finset.mem_filter, Finset.mem_univ, true_and]; unfold lane; dsimp only; omega
  · have := congrArg Fin.val h; unfold lane at this; dsimp only at this; exact Fin.ext (by omega)
  · have hx := (Finset.mem_filter.mp hx).2
    exact ⟨place x, Finset.mem_univ _, Fin.ext (by unfold lane place; dsimp only; omega)⟩

/-- The one product with the 0/1 matrix of the groups. -/
theorem groups (v14 : FVec Ideal S8x128 .f32) (r : Fin 8) (l : Fin 128) :
    k0_pay306 v14 k0_pay304 (iota .tc S128x128 32 [1] iota_S128x128_d1_w32) 16#32 k0_pay305 (ix2 r l) = ∑ k : Fin 16, v14 (ix2 r (lane l k)) := by
  pointwise [k0_pay306, k0_pay304, k0_pay305]
  simp only [word_quot, same_group]
  exact sum_group l _

theorem pay307 (v14 : FVec Ideal S8x128 .f32) (l : Fin 128) :
    k0_pay307 v14 k0_pay304 (iota .tc S128x128 32 [1] iota_S128x128_d1_w32) 16#32 k0_pay305 (ix2 0 l)
      = Ideal.div (∑ k : Fin 16, v14 (ix2 0 (lane l k))) (Ideal.ofBits .f32 1216348160#32) := by
  pointwise [k0_pay307]
  rw [groups]

theorem pay308 (v14 : FVec Ideal S8x128 .f32) (l : Fin 128) :
    k0_pay308 v14 k0_pay304 (iota .tc S128x128 32 [1] iota_S128x128_d1_w32) 16#32 k0_pay305 (ix2 0 l)
      = Ideal.div (∑ k : Fin 16, v14 (ix2 1 (lane l k))) (Ideal.ofBits .f32 1216348160#32)
        - k0_pay307 v14 k0_pay304 (iota .tc S128x128 32 [1] iota_S128x128_d1_w32) 16#32 k0_pay305 (ix2 0 l)
          * k0_pay307 v14 k0_pay304 (iota .tc S128x128 32 [1] iota_S128x128_d1_w32) 16#32 k0_pay305 (ix2 0 l) := by
  pointwise [k0_pay308]
  rw [groups]

theorem pay310 (a : FVec Ideal S8x128 .f32) (l : Fin 128) :
    k0_pay310 (F := Ideal) (k0_pay120 a) k0_pay121 (iota .tc S128x128 32 [1] iota_S128x128_d1_w32) 16#32 k0_pay122 k0_pay123
      (Scalar.extui (Scalar.cmpi .sgt 16#32 0#32)) 0#32 (ix2 0 l)
      = Ideal.div (∑ k : Fin 16, ∑ u : Fin 8, a (ix2 u (lane l k))) (Ideal.ofBits .f32 1216348160#32) := by
  pointwise [k0_pay310, k0_pay120, k0_pay121, k0_pay122, k0_pay123]
  simp only [word_quot, same_group]
  rw [sum_group l]

theorem row3_coe (v : S1x16384x128.Idx → EReal) (l : Fin 128) (x : Fin 16384 → ℝ)
    (h : ∀ n, v (ix3 0 n l) = ((x n : ℝ) : EReal)) (n : Fin 16384) : row3 v l n.val = ((x n : ℝ) : EReal) := by
  rw [row3, dif_pos n.isLt]; exact h n

/-- The rows' residues together are all the rows. -/
theorem sum_rows (f : ℕ → EReal) : ∑ u : Fin 8, ∑ j ∈ Finset.range 2048, f (8 * j + u.val) = ∑ n : Fin 16384, f n.val := by
  rw [sum_residues, Finset.sum_range]

variable (c : Dev nD) (i : grid0.Coords)
  (arg2 : Memref sig .tc .smem S1 .f32) (harg2 : arg2.IsWhole)
  (arg3 : Memref sig .tc .vmem S1x16384x128 .bf16) (harg3 : arg3.IsWhole)
  (arg4 : Memref sig .tc .vmem S1x16384x128 .fp8e5m2) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x16384x128 .fp8e5m2) (harg7 : arg7.IsWhole)
  (arg8 : Memref sig .tc .vmem S1x1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S16384x128 .f32) (harg11 : arg11.IsWhole)
  (arg12 : Memref sig .tc .vmem S16384x128 .f32) (harg12 : arg12.IsWhole)

/-- The blocks at a grid point hold the tile `T`. -/
structure Holds (T : Tile) (f2 : BufTy.Contents (Elt Ideal) arg2.view.ty) (f3 : BufTy.Contents (Elt Ideal) arg3.view.ty)
    (f4 : BufTy.Contents (Elt Ideal) arg4.view.ty) (f5 : BufTy.Contents (Elt Ideal) arg5.view.ty)
    (f6 : BufTy.Contents (Elt Ideal) arg6.view.ty) : Prop where
  s : arg2.view.read (Elt Ideal) f2 (ix1 0) = ((T.s : ℝ) : EReal)
  x : ∀ l n, arg3.view.read (Elt Ideal) f3 (ix3 0 n l) = ((T.x l n : ℝ) : EReal)
  dy : ∀ l n, arg4.view.read (Elt Ideal) f4 (ix3 0 n l) = ((T.dy l n : ℝ) : EReal)
  g : ∀ l, arg5.view.read (Elt Ideal) f5 (ix2 0 l) = ((T.g l : ℝ) : EReal)
  b : ∀ l, arg6.view.read (Elt Ideal) f6 (ix2 0 l) = ((T.b l : ℝ) : EReal)

variable {f2 : BufTy.Contents (Elt Ideal) arg2.view.ty} {f3 : BufTy.Contents (Elt Ideal) arg3.view.ty}
  {f4 : BufTy.Contents (Elt Ideal) arg4.view.ty} {f5 : BufTy.Contents (Elt Ideal) arg5.view.ty}
  {f6 : BufTy.Contents (Elt Ideal) arg6.view.ty} {p9 p10 : Vec Ideal S1x128 .f32}
  {y7 : Vec Ideal S1x16384x128 .fp8e5m2} {y8 : Vec Ideal S1x1x128 .f32} {y9 y10 : Vec Ideal S1x128 .f32}

variable (T : Tile) (W : Trace (F := Ideal) c i arg2 harg2 arg3 harg3 arg4 harg4 arg5 harg5 arg6 harg6 arg7 harg7 arg8 harg8 arg9 harg9 arg10 harg10 arg11 harg11 arg12 harg12 f2 f3 f4 f5 f6 p9 p10 y7 y8 y9 y10) (H : Holds arg2 arg3 arg4 arg5 arg6 T f2 f3 f4 f5 f6)

include H in
theorem rowx (l : Fin 128) (n : Fin 16384) : row3 (arg3.view.read (Elt Ideal) f3) l n.val = ((T.x l n : ℝ) : EReal) :=
  row3_coe _ l (T.x l) (H.x l) n

include H in
theorem rowdy (l : Fin 128) (n : Fin 16384) : row3 (arg4.view.read (Elt Ideal) f4) l n.val = ((T.dy l n : ℝ) : EReal) :=
  row3_coe _ l (T.dy l) (H.dy l) n

theorem zero8 (u : Fin 8) (l : Fin 128) : (k0_pay301 : FVec Ideal S8x128 .f32) (ix2 u l) = 0 := by pointwise [k0_pay301]

include H in
/-- The first row of the sums. -/
theorem v14_sum (l : Fin 128) : W.v14 (ix2 0 l) = ((∑ n, T.x l n : ℝ) : EReal) := by
  rw [W.e14]
  pointwise [k0_pay303]
  simp only [(t1_sum c i arg2 harg2 arg3 harg3 arg4 harg4 arg5 harg5 arg6 harg6 arg7 harg7 arg8 harg8 arg9 harg9 arg10 harg10 arg11 harg11 arg12 harg12 f3 (k0_pay301, k0_pay301) _ l k0_t1_loop.trips le_rfl).1, zero8, zero_add]
  rw [trips1]
  rw [show 64 * 32 = 2048 from rfl, sum_rows fun n => row3 (arg3.view.read (Elt Ideal) f3) l n]
  simp only [rowx arg2 arg3 arg4 arg5 arg6 T H, coe_sum]

include H in
/-- The second row: the sums of squares. -/
theorem v14_squares (l : Fin 128) : W.v14 (ix2 1 l) = ((∑ n, T.x l n * T.x l n : ℝ) : EReal) := by
  rw [W.e14]
  pointwise [k0_pay303]
  simp only [(t1_sum c i arg2 harg2 arg3 harg3 arg4 harg4 arg5 harg5 arg6 harg6 arg7 harg7 arg8 harg8 arg9 harg9 arg10 harg10 arg11 harg11 arg12 harg12 f3 (k0_pay301, k0_pay301) _ l k0_t1_loop.trips le_rfl).2, zero8, zero_add]
  rw [trips1]
  rw [show 64 * 32 = 2048 from rfl, sum_rows fun n => row3 (arg3.view.read (Elt Ideal) f3) l n * row3 (arg3.view.read (Elt Ideal) f3) l n]
  simp only [rowx arg2 arg3 arg4 arg5 arg6 T H, ← EReal.coe_mul, coe_sum]
  rfl

include H in
theorem v72_mean (l : Fin 128) : W.v72 (ix2 0 l) = (((T.slab l).mean : ℝ) : EReal) := by
  rw [W.e72, pay307]
  simp only [v14_sum c i arg2 harg2 arg3 harg3 arg4 harg4 arg5 harg5 arg6 harg6 arg7 harg7 arg8 harg8 arg9 harg9 arg10 harg10 arg11 harg11 arg12 harg12 T W H, coe_sum, count_coe]
  rw [div_coe _ _ (by norm_num)]
  rfl

include H in
theorem v77_var (l : Fin 128) : W.v77 (ix2 0 l) = (((T.slab l).var : ℝ) : EReal) := by
  rw [W.e77, pay308, ← W.e72, v72_mean c i arg2 harg2 arg3 harg3 arg4 harg4 arg5 harg5 arg6 harg6 arg7 harg7 arg8 harg8 arg9 harg9 arg10 harg10 arg11 harg11 arg12 harg12 T W H]
  simp only [v14_squares c i arg2 harg2 arg3 harg3 arg4 harg4 arg5 harg5 arg6 harg6 arg7 harg7 arg8 harg8 arg9 harg9 arg10 harg10 arg11 harg11 arg12 harg12 T W H, coe_sum, count_coe]
  rw [div_coe _ _ (by norm_num), ← EReal.coe_mul, ← EReal.coe_sub, ← Slab.var_eq]
  rfl

include H in
theorem v89_var (l : Fin 128) : W.v89 (ix2 0 l) = (((T.slab l).var : ℝ) : EReal) := by
  rw [W.e89]
  split
  · rw [pay310]
    simp only [t2_sum c i arg2 harg2 arg3 harg3 arg4 harg4 arg5 harg5 arg6 harg6 arg7 harg7 arg8 harg8 arg9 harg9 arg10 harg10 arg11 harg11 arg12 harg12 k0_pay301 W.v72 f3 k0_pay301 _ _ k0_t2_loop.trips le_rfl, zero8, zero_add]
    rw [trips2]
    rw [show 64 * 32 = 2048 from rfl]
    have e : ∀ m : Fin 128, ∑ u : Fin 8, ∑ j ∈ Finset.range 2048, (row3 (arg3.view.read (Elt Ideal) f3) m (8 * j + u.val) - W.v72 (ix2 0 m))
        * (row3 (arg3.view.read (Elt Ideal) f3) m (8 * j + u.val) - W.v72 (ix2 0 m))
        = ((∑ n, (T.x m n - (T.slab m).mean) * (T.x m n - (T.slab m).mean) : ℝ) : EReal) := fun m => by
      rw [sum_rows fun n => (row3 (arg3.view.read (Elt Ideal) f3) m n - W.v72 (ix2 0 m)) * (row3 (arg3.view.read (Elt Ideal) f3) m n - W.v72 (ix2 0 m))]
      simp only [rowx arg2 arg3 arg4 arg5 arg6 T H, v72_mean c i arg2 harg2 arg3 harg3 arg4 harg4 arg5 harg5 arg6 harg6 arg7 harg7 arg8 harg8 arg9 harg9 arg10 harg10 arg11 harg11 arg12 harg12 T W H, ← EReal.coe_sub, ← EReal.coe_mul, coe_sum]
    simp only [e, coe_sum, count_coe, slab_lane]
    rw [div_coe _ _ (by norm_num)]
    rfl
  · exact v77_var c i arg2 harg2 arg3 harg3 arg4 harg4 arg5 harg5 arg6 harg6 arg7 harg7 arg8 harg8 arg9 harg9 arg10 harg10 arg11 harg11 arg12 harg12 T W H l

include H in
theorem rstd_coe (l : Fin 128) : Ideal.rsqrt (W.v89 (ix2 0 l) + Ideal.ofBits .f32 925353388#32) = (((T.slab l).rstd : ℝ) : EReal) := by
  rw [v89_var c i arg2 harg2 arg3 harg3 arg4 harg4 arg5 harg5 arg6 harg6 arg7 harg7 arg8 harg8 arg9 harg9 arg10 harg10 arg11 harg11 arg12 harg12 T W H, eps_coe, ← EReal.coe_add, rsqrt_coe _ (T.slab l).var_eps_pos]
  rfl

include H in
theorem g_coe (l : Fin 128) : W.v93 (ix2 0 l) = ((T.g l : ℝ) : EReal) := by rw [W.e93]; exact H.g l
include H in
theorem b_coe (l : Fin 128) : W.v95 (ix2 0 l) = ((T.b l : ℝ) : EReal) := by rw [W.e95]; exact H.b l
include H in
theorem s_coe : W.s = ((T.s : ℝ) : EReal) := by rw [W.es]; exact H.s

include H in
/-- The scaled derivative at a row. -/
theorem dhRow_coe (l : Fin 128) (n : Fin 16384) :
    dhRow arg3 arg4 W.v72 W.v89 W.v93 W.v95 f3 f4 l n.val = (((T.slab l).kdh (place l) n : ℝ) : EReal) := by
  have e1 : k0_pay313 W.v89 W.v93 (ix2 0 l) = (((T.slab l).rstd * T.g l * (1 / 2) : ℝ) : EReal) := by
    pointwise [k0_pay313, k0_pay311, k0_pay312]
    rw [rstd_coe c i arg2 harg2 arg3 harg3 arg4 harg4 arg5 harg5 arg6 harg6 arg7 harg7 arg8 harg8 arg9 harg9 arg10 harg10 arg11 harg11 arg12 harg12 T W H, g_coe c i arg2 harg2 arg3 harg3 arg4 harg4 arg5 harg5 arg6 harg6 arg7 harg7 arg8 harg8 arg9 harg9 arg10 harg10 arg11 harg11 arg12 harg12 T W H, half_coe, ← EReal.coe_mul, ← EReal.coe_mul]
  have e2 : k0_pay314 W.v72 W.v89 W.v93 W.v95 (ix2 0 l)
      = ((1 / 2 * T.b l - (T.slab l).mean * ((T.slab l).rstd * T.g l * (1 / 2)) : ℝ) : EReal) := by
    pointwise [k0_pay314, k0_pay313, k0_pay311, k0_pay312]
    rw [rstd_coe c i arg2 harg2 arg3 harg3 arg4 harg4 arg5 harg5 arg6 harg6 arg7 harg7 arg8 harg8 arg9 harg9 arg10 harg10 arg11 harg11 arg12 harg12 T W H, g_coe c i arg2 harg2 arg3 harg3 arg4 harg4 arg5 harg5 arg6 harg6 arg7 harg7 arg8 harg8 arg9 harg9 arg10 harg10 arg11 harg11 arg12 harg12 T W H, b_coe c i arg2 harg2 arg3 harg3 arg4 harg4 arg5 harg5 arg6 harg6 arg7 harg7 arg8 harg8 arg9 harg9 arg10 harg10 arg11 harg11 arg12 harg12 T W H, v72_mean c i arg2 harg2 arg3 harg3 arg4 harg4 arg5 harg5 arg6 harg6 arg7 harg7 arg8 harg8 arg9 harg9 arg10 harg10 arg11 harg11 arg12 harg12 T W H, half_coe]
    simp only [← EReal.coe_mul, ← EReal.coe_sub]
  unfold dhRow
  rw [e1, e2, rowx arg2 arg3 arg4 arg5 arg6 T H, rowdy arg2 arg3 arg4 arg5 arg6 T H]
  simp only [← EReal.coe_mul, ← EReal.coe_add, tanh_coe, ← EReal.coe_one, ← EReal.coe_sub]
  rw [← slab_g T l, ← slab_b T l, ← slab_x T l n, ← slab_dy T l n, Slab.half_h]
  rfl

include H in
/-- The sum of a lane's scaled derivatives. -/
theorem sum_dh (l : Fin 128) : ∑ u : Fin 8, W.cs.1 (ix2 u l) = ((∑ n, (T.slab l).kdh (place l) n : ℝ) : EReal) := by
  simp only [W.ecs, (t3_sum c i arg2 harg2 arg3 harg3 arg4 harg4 arg5 harg5 arg6 harg6 arg7 harg7 arg8 harg8 arg9 harg9 arg10 harg10 arg11 harg11 arg12 harg12 _ k0_pay301 W.v72 W.v77 W.v87 W.v89 W.v93 W.v95 f3 f4 (k0_pay301, k0_pay301) _ l k0_t3_loop.trips le_rfl).1, zero8, zero_add]
  rw [trips3]
  rw [show 32 * 64 = 2048 from rfl, sum_rows fun n => dhRow arg3 arg4 W.v72 W.v89 W.v93 W.v95 f3 f4 l n]
  simp only [dhRow_coe c i arg2 harg2 arg3 harg3 arg4 harg4 arg5 harg5 arg6 harg6 arg7 harg7 arg8 harg8 arg9 harg9 arg10 harg10 arg11 harg11 arg12 harg12 T W H, coe_sum]

include H in
/-- The sum of a lane's scaled derivatives times its entries. -/
theorem sum_dhx (l : Fin 128) : ∑ u : Fin 8, W.cs.2 (ix2 u l) = ((∑ n, (T.slab l).kdh (place l) n * (T.slab l).x (place l) n : ℝ) : EReal) := by
  simp only [W.ecs, (t3_sum c i arg2 harg2 arg3 harg3 arg4 harg4 arg5 harg5 arg6 harg6 arg7 harg7 arg8 harg8 arg9 harg9 arg10 harg10 arg11 harg11 arg12 harg12 _ k0_pay301 W.v72 W.v77 W.v87 W.v89 W.v93 W.v95 f3 f4 (k0_pay301, k0_pay301) _ l k0_t3_loop.trips le_rfl).2, zero8, zero_add]
  rw [trips3]
  rw [show 32 * 64 = 2048 from rfl, sum_rows fun n => dhRow arg3 arg4 W.v72 W.v89 W.v93 W.v95 f3 f4 l n * row3 (arg3.view.read (Elt Ideal) f3) l n]
  simp only [dhRow_coe c i arg2 harg2 arg3 harg3 arg4 harg4 arg5 harg5 arg6 harg6 arg7 harg7 arg8 harg8 arg9 harg9 arg10 harg10 arg11 harg11 arg12 harg12 T W H, rowx arg2 arg3 arg4 arg5 arg6 T H, ← EReal.coe_mul, coe_sum, slab_x]

include W H in
/-- The gain accumulator's step. -/
theorem dgamma_step (l : Fin 128) : y9 (ix2 0 l) = (if IsFirst (BitVec.ofNat 32 (i 1).val) then 0 else p9 (ix2 0 l))
    + (((T.slab l).dgamma (place l) : ℝ) : EReal) := by
  have e : y9 (ix2 0 l) = (if IsFirst (BitVec.ofNat 32 (i 1).val) then (k0_pay319 : FVec Ideal S1x128 .f32) else p9) (ix2 0 l)
      + (((T.slab l).dgamma (place l) : ℝ) : EReal) := by
    rw [W.ey9]
    generalize (if IsFirst (BitVec.ofNat 32 (i 1).val) then (k0_pay319 : FVec Ideal S1x128 .f32) else p9) = q
    pointwise [k0_pay321, k0_pay317, k0_pay318, k0_pay316, k0_pay311]
    rw [sum_dh c i arg2 harg2 arg3 harg3 arg4 harg4 arg5 harg5 arg6 harg6 arg7 harg7 arg8 harg8 arg9 harg9 arg10 harg10 arg11 harg11 arg12 harg12 T W H, sum_dhx c i arg2 harg2 arg3 harg3 arg4 harg4 arg5 harg5 arg6 harg6 arg7 harg7 arg8 harg8 arg9 harg9 arg10 harg10 arg11 harg11 arg12 harg12 T W H, rstd_coe c i arg2 harg2 arg3 harg3 arg4 harg4 arg5 harg5 arg6 harg6 arg7 harg7 arg8 harg8 arg9 harg9 arg10 harg10 arg11 harg11 arg12 harg12 T W H, s_coe c i arg2 harg2 arg3 harg3 arg4 harg4 arg5 harg5 arg6 harg6 arg7 harg7 arg8 harg8 arg9 harg9 arg10 harg10 arg11 harg11 arg12 harg12 T W H, v72_mean c i arg2 harg2 arg3 harg3 arg4 harg4 arg5 harg5 arg6 harg6 arg7 harg7 arg8 harg8 arg9 harg9 arg10 harg10 arg11 harg11 arg12 harg12 T W H, half_coe]
    simp only [← EReal.coe_mul, ← EReal.coe_sub]
    rw [← Slab.dgamma_eq]
    rfl
  rw [e]
  split
  · congr 1; pointwise [k0_pay319]
  · rfl

include W H in
/-- The offset accumulator's step. -/
theorem dbeta_step (l : Fin 128) : y10 (ix2 0 l) = (if IsFirst (BitVec.ofNat 32 (i 1).val) then 0 else p10 (ix2 0 l))
    + (((T.slab l).dbeta (place l) : ℝ) : EReal) := by
  have e : y10 (ix2 0 l) = (if IsFirst (BitVec.ofNat 32 (i 1).val) then (k0_pay320 : FVec Ideal S1x128 .f32) else p10) (ix2 0 l)
      + (((T.slab l).dbeta (place l) : ℝ) : EReal) := by
    rw [W.ey10]
    generalize (if IsFirst (BitVec.ofNat 32 (i 1).val) then (k0_pay320 : FVec Ideal S1x128 .f32) else p10) = q
    pointwise [k0_pay322, k0_pay316, k0_pay318]
    rw [sum_dh c i arg2 harg2 arg3 harg3 arg4 harg4 arg5 harg5 arg6 harg6 arg7 harg7 arg8 harg8 arg9 harg9 arg10 harg10 arg11 harg11 arg12 harg12 T W H, s_coe c i arg2 harg2 arg3 harg3 arg4 harg4 arg5 harg5 arg6 harg6 arg7 harg7 arg8 harg8 arg9 harg9 arg10 harg10 arg11 harg11 arg12 harg12 T W H, half_coe]
    simp only [← EReal.coe_mul]
    rw [← Slab.dbeta_eq]
    rfl
  rw [e]
  split
  · congr 1; pointwise [k0_pay320]
  · rfl

end Cert.KernelIdeal.Parts

end
-- ==== Proof.KernelIdeal.Rows.lean ====
/- The loops that keep rows between sweeps: what the two scratch tiles and the codes hold after each, and the largest
   magnitudes met. -/
module

public import proofs.«01_k».proof.Proof.KernelIdeal.Sums
public import Idealize.ShloMosaic.Lib.WritesUnit

@[expose] public section

set_option maxRecDepth 16384

noncomputable section

namespace Cert.KernelIdeal.Parts

open Cert.KernelIdeal.Gen
open Idealize.ShloMosaic Idealize.ShloMosaic.TcCoe Idealize.ShloMosaic.Tactic
variable (c : Dev nD) (i : grid0.Coords)
  (arg2 : Memref sig .tc .smem S1 .f32) (harg2 : arg2.IsWhole)
  (arg3 : Memref sig .tc .vmem S1x16384x128 .bf16) (harg3 : arg3.IsWhole)
  (arg4 : Memref sig .tc .vmem S1x16384x128 .fp8e5m2) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x16384x128 .fp8e5m2) (harg7 : arg7.IsWhole)
  (arg8 : Memref sig .tc .vmem S1x1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S16384x128 .f32) (harg11 : arg11.IsWhole)
  (arg12 : Memref sig .tc .vmem S16384x128 .f32) (harg12 : arg12.IsWhole)

/-- A load of rows of a tile reads those rows. -/
theorem readAt_row2 {e : EltTy} (m : Memref sig .tc .vmem S16384x128 e) (f : BufTy.Contents (Elt Ideal) m.view.ty) {n : ℕ}
    (off : Fin 2 → ℕ) (o : ℕ) (h : off = ![o, 0]) (inb : ∀ a, off a + (![n, 128] : Fin 2 → ℕ) a ≤ S16384x128.size a)
    (r : Fin n) (l : Fin 128) (hr : o + r.val < 16384) :
    m.view.readAt (Elt Ideal) (Rect.unit (s := S16384x128) off ![n, 128] inb).toLoadRect f (ix2 r l)
      = m.view.read (Elt Ideal) f (ix2 ⟨o + r.val, hr⟩ l) := by
  subst h
  rw [View.readAt_apply]
  congr 1
  funext a
  match a with
  | ⟨0, _⟩ => exact Fin.ext (show o + 1 * r.val = o + r.val by omega)
  | ⟨1, _⟩ => exact Fin.ext (show 0 + 1 * l.val = l.val by omega)

/-- A row's multiple of the derivative, before the factor common to its lane: the scaled derivative times `w`, less the
    line `q x + p`. -/
def lin (z x : S16384x128.Idx → EReal) (w q p : EReal) (l : Fin 128) (n : ℕ) : EReal :=
  row2 z l n * w - (row2 x l n * q + p)

/-- As `lin`, with no factor. -/
def lin1 (z x : S16384x128.Idx → EReal) (q p : EReal) (l : Fin 128) (n : ℕ) : EReal :=
  row2 z l n - (row2 x l n * q + p)

/-- The rows met by residue `u` in the first `k` trips of `w` row groups, for the largest of some values. -/
theorem sup_trips (w k u : ℕ) (g : ℕ → EReal) :
    ((Finset.range (w * (k + 1))).sup fun j => g (8 * j + u))
      = max ((Finset.range (w * k)).sup fun j => g (8 * j + u)) ((Finset.range w).sup fun j => g (8 * w * k + (8 * j + u))) := by
  apply le_antisymm
  · refine Finset.sup_le fun j hj => ?_
    have hj' := Finset.mem_range.mp hj
    rw [Nat.mul_succ] at hj'
    by_cases h : j < w * k
    · exact le_max_of_le_left (Finset.le_sup (f := fun j => g (8 * j + u)) (Finset.mem_range.mpr h))
    · obtain ⟨r, rfl⟩ := Nat.exists_eq_add_of_le (Nat.le_of_not_lt h)
      have := Finset.le_sup (f := fun j => g (8 * w * k + (8 * j + u))) (Finset.mem_range.mpr (show r < w by omega))
      refine le_max_of_le_right (le_of_eq_of_le ?_ this)
      congr 1
      ring
  · refine max_le (Finset.sup_le fun j hj => ?_) (Finset.sup_le fun j hj => ?_)
    · have hj' := Finset.mem_range.mp hj
      exact Finset.le_sup (f := fun j => g (8 * j + u)) (Finset.mem_range.mpr (by rw [Nat.mul_succ]; omega))
    · have hj' := Finset.mem_range.mp hj
      have := Finset.le_sup (f := fun j => g (8 * j + u)) (s := Finset.range (w * (k + 1))) (b := w * k + j) (Finset.mem_range.mpr (by rw [Nat.mul_succ]; omega))
      refine le_of_eq_of_le ?_ this
      congr 1
      ring

/-- The scaled derivatives one trip of the second sweep stores. -/
theorem t3_store_arg11 (arg1 : BitVec 32) (v0 : FVec Ideal S8x128 .f32) (v72 v77 : FVec Ideal S1x128 .f32) (v87 : BitVec 32) (v89 v93 v95 : FVec Ideal S1x128 .f32) (f3 : BufTy.Contents (Elt Ideal) arg3.view.ty) (f4 : BufTy.Contents (Elt Ideal) arg4.view.ty)
    (k : Fin k0_t3_loop.trips) (acc : FVec Ideal S8x128 .f32 × FVec Ideal S8x128 .f32) (f' : BufTy.Contents (Elt Ideal) arg11.view.ty)
    (L : List (View.Piece (Elt Ideal) S16384x128 .f32)) (n : ℕ) (hn : n < 16384) (l : Fin 128) :
    arg11.view.read (Elt Ideal) (arg11.view.writes (Elt Ideal) f' ((tripL_k0_t3 (F := Ideal) Variants.none c none i arg2 harg2 arg3 harg3 arg4 harg4 arg5 harg5 arg6 harg6 arg7 harg7 arg8 harg8 arg9 harg9 arg10 harg10 arg11 harg11 arg12 harg12 arg1 v0 v72 v77 v87 v89 v93 v95 f3 f4 k acc).1 ++ L)) (ix2 ⟨n, hn⟩ l)
      = if 256 * k.val ≤ n ∧ n < 256 * k.val + 256 then dhRow arg3 arg4 v72 v89 v93 v95 f3 f4 l n else arg11.view.read (Elt Ideal) (arg11.view.writes (Elt Ideal) f' L) (ix2 ⟨n, hn⟩ l) := by
  have hk : k.val < 64 := k.isLt
  unfold tripL_k0_t3 trip_k0_t3
  dsimp only
  split
  · next h =>
    rw [List.singleton_append]
    refine (View.read_writes_cons_rows_of_mem (d := ![16384, 128]) (size := ![256, 128]) (o := 256 * k.val) arg11.view f' _ _ L (ix2 ⟨n, hn⟩ l) (ix2 ⟨n - 256 * k.val, by omega⟩ l) (k0_off4_eq k)
      (show n = 256 * k.val + (n - 256 * k.val) by omega) rfl).trans ?_
    pointwise [k0_pay126]
    refine (row2_of_lt _ l (n - 256 * k.val) (by omega)).trans ((dhBlock_row arg3 arg4 v72 v89 v93 v95 f3 f4 k _ (by omega) l).trans ?_)
    rw [show 256 * k.val + (n - 256 * k.val) = n by omega]
  · next h =>
    rw [List.singleton_append]
    exact View.read_writes_cons_rows_of_not_mem (d := ![16384, 128]) (size := ![256, 128]) (o := 256 * k.val) (W := 256) arg11.view f' _ _ L (ix2 ⟨n, hn⟩ l) (k0_off4_eq k) rfl
      (show n < 256 * k.val ∨ 256 * k.val + 256 ≤ n by omega)

/-- The scaled derivatives the second sweep has stored before trip `k`. -/
theorem t3_all_arg11 (arg1 : BitVec 32) (v0 : FVec Ideal S8x128 .f32) (v72 v77 : FVec Ideal S1x128 .f32) (v87 : BitVec 32) (v89 v93 v95 : FVec Ideal S1x128 .f32) (f3 : BufTy.Contents (Elt Ideal) arg3.view.ty) (f4 : BufTy.Contents (Elt Ideal) arg4.view.ty) (init : FVec Ideal S8x128 .f32 × FVec Ideal S8x128 .f32) (G : BufTy.Contents (Elt Ideal) arg11.view.ty) (l : Fin 128) (n : ℕ) (hn : n < 16384) : ∀ k ≤ k0_t3_loop.trips,
    n < 256 * k → arg11.view.read (Elt Ideal) (arg11.view.writes (Elt Ideal) G (st_k0_t3 (F := Ideal) Variants.none c none i arg2 harg2 arg3 harg3 arg4 harg4 arg5 harg5 arg6 harg6 arg7 harg7 arg8 harg8 arg9 harg9 arg10 harg10 arg11 harg11 arg12 harg12 arg1 v0 v72 v77 v87 v89 v93 v95 f3 f4 init k).2.1) (ix2 ⟨n, hn⟩ l) = dhRow arg3 arg4 v72 v89 v93 v95 f3 f4 l n
  | 0, _, h => absurd h (by omega)
  | k + 1, hk, h => by
    have ih := t3_all_arg11 arg1 v0 v72 v77 v87 v89 v93 v95 f3 f4 init G l n hn k (Nat.le_of_lt hk)
    rw [st_k0_t3_succ (F := Ideal) Variants.none c none i arg2 harg2 arg3 harg3 arg4 harg4 arg5 harg5 arg6 harg6 arg7 harg7 arg8 harg8 arg9 harg9 arg10 harg10 arg11 harg11 arg12 harg12 arg1 v0 v72 v77 v87 v89 v93 v95 f3 f4 init ⟨k, hk⟩]
    refine (t3_store_arg11 c i arg2 harg2 arg3 harg3 arg4 harg4 arg5 harg5 arg6 harg6 arg7 harg7 arg8 harg8 arg9 harg9 arg10 harg10 arg11 harg11 arg12 harg12 arg1 v0 v72 v77 v87 v89 v93 v95 f3 f4 ⟨k, hk⟩ _ G _ n hn l).trans ?_
    split
    · rfl
    · next h' => exact ih (by dsimp only at h'; omega)

/-- The inputs one trip of the second sweep stores. -/
theorem t3_store_arg12 (arg1 : BitVec 32) (v0 : FVec Ideal S8x128 .f32) (v72 v77 : FVec Ideal S1x128 .f32) (v87 : BitVec 32) (v89 v93 v95 : FVec Ideal S1x128 .f32) (f3 : BufTy.Contents (Elt Ideal) arg3.view.ty) (f4 : BufTy.Contents (Elt Ideal) arg4.view.ty)
    (k : Fin k0_t3_loop.trips) (acc : FVec Ideal S8x128 .f32 × FVec Ideal S8x128 .f32) (f' : BufTy.Contents (Elt Ideal) arg12.view.ty)
    (L : List (View.Piece (Elt Ideal) S16384x128 .f32)) (n : ℕ) (hn : n < 16384) (l : Fin 128) :
    arg12.view.read (Elt Ideal) (arg12.view.writes (Elt Ideal) f' ((tripL_k0_t3 (F := Ideal) Variants.none c none i arg2 harg2 arg3 harg3 arg4 harg4 arg5 harg5 arg6 harg6 arg7 harg7 arg8 harg8 arg9 harg9 arg10 harg10 arg11 harg11 arg12 harg12 arg1 v0 v72 v77 v87 v89 v93 v95 f3 f4 k acc).2 ++ L)) (ix2 ⟨n, hn⟩ l)
      = if 256 * k.val ≤ n ∧ n < 256 * k.val + 256 then row3 (arg3.view.read (Elt Ideal) f3) l n else arg12.view.read (Elt Ideal) (arg12.view.writes (Elt Ideal) f' L) (ix2 ⟨n, hn⟩ l) := by
  have hk : k.val < 64 := k.isLt
  unfold tripL_k0_t3 trip_k0_t3
  dsimp only
  split
  · next h =>
    rw [List.singleton_append]
    refine (View.read_writes_cons_rows_of_mem (d := ![16384, 128]) (size := ![256, 128]) (o := 256 * k.val) arg12.view f' _ _ L (ix2 ⟨n, hn⟩ l) (ix2 ⟨n - 256 * k.val, by omega⟩ l) (k0_off4_eq k)
      (show n = 256 * k.val + (n - 256 * k.val) by omega) rfl).trans ?_
    pointwise [k0_pay127, k0_pay124]
    rw [readAt_row3 arg3 f3 _ _ (k0_off3_eq k) _ ⟨n - 256 * k.val, by omega⟩ l (by show 256 * k.val + (n - 256 * k.val) < 16384; omega)]
    have hm : 256 * k.val + (n - 256 * k.val) = n := by omega
    unfold row3
    rw [dif_pos hn]
    simp only [hm]
  · next h =>
    rw [List.singleton_append]
    exact View.read_writes_cons_rows_of_not_mem (d := ![16384, 128]) (size := ![256, 128]) (o := 256 * k.val) (W := 256) arg12.view f' _ _ L (ix2 ⟨n, hn⟩ l) (k0_off4_eq k) rfl
      (show n < 256 * k.val ∨ 256 * k.val + 256 ≤ n by omega)

/-- The inputs the second sweep has stored before trip `k`. -/
theorem t3_all_arg12 (arg1 : BitVec 32) (v0 : FVec Ideal S8x128 .f32) (v72 v77 : FVec Ideal S1x128 .f32) (v87 : BitVec 32) (v89 v93 v95 : FVec Ideal S1x128 .f32) (f3 : BufTy.Contents (Elt Ideal) arg3.view.ty) (f4 : BufTy.Contents (Elt Ideal) arg4.view.ty) (init : FVec Ideal S8x128 .f32 × FVec Ideal S8x128 .f32) (G : BufTy.Contents (Elt Ideal) arg12.view.ty) (l : Fin 128) (n : ℕ) (hn : n < 16384) : ∀ k ≤ k0_t3_loop.trips,
    n < 256 * k → arg12.view.read (Elt Ideal) (arg12.view.writes (Elt Ideal) G (st_k0_t3 (F := Ideal) Variants.none c none i arg2 harg2 arg3 harg3 arg4 harg4 arg5 harg5 arg6 harg6 arg7 harg7 arg8 harg8 arg9 harg9 arg10 harg10 arg11 harg11 arg12 harg12 arg1 v0 v72 v77 v87 v89 v93 v95 f3 f4 init k).2.2) (ix2 ⟨n, hn⟩ l) = row3 (arg3.view.read (Elt Ideal) f3) l n
  | 0, _, h => absurd h (by omega)
  | k + 1, hk, h => by
    have ih := t3_all_arg12 arg1 v0 v72 v77 v87 v89 v93 v95 f3 f4 init G l n hn k (Nat.le_of_lt hk)
    rw [st_k0_t3_succ (F := Ideal) Variants.none c none i arg2 harg2 arg3 harg3 arg4 harg4 arg5 harg5 arg6 harg6 arg7 harg7 arg8 harg8 arg9 harg9 arg10 harg10 arg11 harg11 arg12 harg12 arg1 v0 v72 v77 v87 v89 v93 v95 f3 f4 init ⟨k, hk⟩]
    refine (t3_store_arg12 c i arg2 harg2 arg3 harg3 arg4 harg4 arg5 harg5 arg6 harg6 arg7 harg7 arg8 harg8 arg9 harg9 arg10 harg10 arg11 harg11 arg12 harg12 arg1 v0 v72 v77 v87 v89 v93 v95 f3 f4 ⟨k, hk⟩ _ G _ n hn l).trans ?_
    split
    · rfl
    · next h' => exact ih (by dsimp only at h'; omega)

/-- The code a row's multiple is stored as: times the lane's factor, held to the format's largest magnitude. -/
def code (v217 : FVec Ideal S1x128 .f32) (v296 : IVec S1x128 32) (l : Fin 128) (a : EReal) : EReal :=
  min (Ideal.ofBits .f32 0x47600000#32) (max (Ideal.ofBits .f32 0xC7600000#32) (a * (v217 (ix2 0 l) * Ideal.ofBits .f32 (v296 (ix2 0 l)))))

/-- The codes one trip of the last sweep stores. -/
theorem t6_store (v217 : FVec Ideal S1x128 .f32) (v296 : IVec S1x128 32) (X : BufTy.Contents (Elt Ideal) arg11.view.ty) (k : Fin k0_t6_loop.trips) (f' : BufTy.Contents (Elt Ideal) arg7.view.ty)
    (L : List (View.Piece (Elt Ideal) S1x16384x128 .fp8e5m2)) (n : ℕ) (hn : n < 16384) (l : Fin 128) :
    arg7.view.read (Elt Ideal) (arg7.view.writes (Elt Ideal) f' (tripL_k0_t6 (F := Ideal) Variants.none c none i arg2 harg2 arg3 harg3 arg4 harg4 arg5 harg5 arg6 harg6 arg7 harg7 arg8 harg8 arg9 harg9 arg10 harg10 arg11 harg11 arg12 harg12 v217 v296 X k ++ L)) (ix3 0 ⟨n, hn⟩ l)
      = if 512 * k.val ≤ n ∧ n < 512 * k.val + 512 then code v217 v296 l (row2 (arg11.view.read (Elt Ideal) X) l n) else arg7.view.read (Elt Ideal) (arg7.view.writes (Elt Ideal) f' L) (ix3 0 ⟨n, hn⟩ l) := by
  have hk : k.val < 32 := k.isLt
  unfold tripL_k0_t6 trip_k0_t6
  dsimp only
  split
  · next h =>
    rw [List.singleton_append]
    refine (View.read_writes_cons_unit_of_mem (s := S1x16384x128) (off' := ![0, 512 * k.val, 0]) (size := ![1, 512, 128]) arg7.view f' _ _ L (ix3 0 ⟨n, hn⟩ l) (ix3 0 ⟨n - 512 * k.val, by omega⟩ l) (k0_off8_eq k) (fun a => ?_)).trans ?_
    · match a with
      | ⟨0, _⟩ => rfl
      | ⟨1, _⟩ => exact (show n = 512 * k.val + (n - 512 * k.val) by omega)
      | ⟨2, _⟩ => exact (show l.val = 0 + l.val by omega)
    pointwise [k0_pay1]
    rw [readAt_row2 arg11 X _ _ (k0_off7_eq k) _ ⟨n - 512 * k.val, by omega⟩ l (by show 512 * k.val + (n - 512 * k.val) < 16384; omega)]
    have hm : 512 * k.val + (n - 512 * k.val) = n := by omega
    unfold code row2
    rw [dif_pos hn]
    simp only [hm]
  · next h =>
    rw [List.singleton_append]
    exact View.read_writes_cons_unit_of_not_mem (s := S1x16384x128) (off' := ![0, 512 * k.val, 0]) (size := ![1, 512, 128]) arg7.view f' _ _ L (ix3 0 ⟨n, hn⟩ l) (k0_off8_eq k) (1 : Fin 3)
      (show n < 512 * k.val ∨ 512 * k.val + 512 ≤ n by omega)

/-- The codes the last sweep has stored before trip `k`. -/
theorem t6_all (v217 : FVec Ideal S1x128 .f32) (v296 : IVec S1x128 32) (X : BufTy.Contents (Elt Ideal) arg11.view.ty) (G : BufTy.Contents (Elt Ideal) arg7.view.ty) (l : Fin 128) (n : ℕ) (hn : n < 16384) : ∀ k ≤ k0_t6_loop.trips,
    n < 512 * k → arg7.view.read (Elt Ideal) (arg7.view.writes (Elt Ideal) G (pb_k0_t6 (F := Ideal) Variants.none c none i arg2 harg2 arg3 harg3 arg4 harg4 arg5 harg5 arg6 harg6 arg7 harg7 arg8 harg8 arg9 harg9 arg10 harg10 arg11 harg11 arg12 harg12 v217 v296 X k)) (ix3 0 ⟨n, hn⟩ l) = code v217 v296 l (row2 (arg11.view.read (Elt Ideal) X) l n)
  | 0, _, h => absurd h (by omega)
  | k + 1, hk, h => by
    have ih := t6_all v217 v296 X G l n hn k (Nat.le_of_lt hk)
    rw [pb_k0_t6_succ (F := Ideal) Variants.none c none i arg2 harg2 arg3 harg3 arg4 harg4 arg5 harg5 arg6 harg6 arg7 harg7 arg8 harg8 arg9 harg9 arg10 harg10 arg11 harg11 arg12 harg12 v217 v296 X ⟨k, hk⟩]
    refine (t6_store c i arg2 harg2 arg3 harg3 arg4 harg4 arg5 harg5 arg6 harg6 arg7 harg7 arg8 harg8 arg9 harg9 arg10 harg10 arg11 harg11 arg12 harg12 v217 v296 X ⟨k, hk⟩ G _ n hn l).trans ?_
    split
    · rfl
    · next h' => exact ih (by dsimp only at h'; omega)

/-- One trip of the third sweep, without the gain: the largest magnitude of its 64 rows. -/
theorem t4_max (v0 : FVec Ideal S8x128 .f32) (v92 v94 : FVec Ideal S1x128 .f32) (v114 : EReal) (v200 v202 : FVec Ideal S1x128 .f32) (v208 : BitVec 1) (v212 v213 : FVec Ideal S1x128 .f32) (X : BufTy.Contents (Elt Ideal) arg12.view.ty)
    (k : Fin k0_t4_loop.trips) (acc : FVec Ideal S8x128 .f32) (f : BufTy.Contents (Elt Ideal) arg11.view.ty) (u : Fin 8) (l : Fin 128) :
    tripR_k0_t4 (F := Ideal) Variants.none c none i arg2 harg2 arg3 harg3 arg4 harg4 arg5 harg5 arg6 harg6 arg7 harg7 arg8 harg8 arg9 harg9 arg10 harg10 arg11 harg11 arg12 harg12 v0 v92 v94 v114 v200 v202 v208 v212 v213 X k acc f (ix2 u l)
      = max (acc (ix2 u l)) ((Finset.range 64).sup fun j => FloatOps.absf (F := Ideal) (φ := .f32) (lin1 (arg11.view.read (Elt Ideal) f) (arg12.view.read (Elt Ideal) X) (k0_pay334 v200 v212 (ix2 0 l)) (k0_pay335 v202 v212 (ix2 0 l)) l (512 * k.val + (8 * j + u.val)))) := by
  have hk : k.val < 32 := k.isLt
  have hu := u.isLt
  have key : ∀ (m : Memref sig .tc .vmem S16384x128 .f32) (f : BufTy.Contents (Elt Ideal) m.view.ty) (inb) (r : Fin 512),
      m.view.readAt (Elt Ideal) (Rect.unit (s := S16384x128) (k0_off5 k) ![512, 128] inb).toLoadRect f (ix2 r l)
        = row2 (m.view.read (Elt Ideal) f) l (512 * k.val + r.val) := by
    intro m f inb r
    have hr := r.isLt
    rw [readAt_row2 m f _ _ (k0_off5_eq k) inb r l (by omega)]
    exact row2_of_lt _ l _ _
  unfold tripR_k0_t4 trip_k0_t4
  dsimp only
  pointwise [trip_k0_t4.sl.r, trip_k0_t4.sl.r_1, trip_k0_t4.sl.r_2, trip_k0_t4.sl.r_3, trip_k0_t4.sl.r_4, trip_k0_t4.sl.r_5, trip_k0_t4.sl.r_6, trip_k0_t4.sl.r_7, trip_k0_t4.sl.r_8, trip_k0_t4.sl.r_9, trip_k0_t4.sl.r_10, trip_k0_t4.sl.r_11, trip_k0_t4.sl.r_12, trip_k0_t4.sl.r_13, trip_k0_t4.sl.r_14, trip_k0_t4.sl.r_15, trip_k0_t4.sl.r_16, trip_k0_t4.sl.r_17, trip_k0_t4.sl.r_18, trip_k0_t4.sl.r_19, trip_k0_t4.sl.r_20, trip_k0_t4.sl.r_21, trip_k0_t4.sl.r_22, trip_k0_t4.sl.r_23, trip_k0_t4.sl.r_24, trip_k0_t4.sl.r_25, trip_k0_t4.sl.r_26, trip_k0_t4.sl.r_27, trip_k0_t4.sl.r_28, trip_k0_t4.sl.r_29, trip_k0_t4.sl.r_30, trip_k0_t4.sl.r_31, trip_k0_t4.sl.r_32, trip_k0_t4.sl.r_33, trip_k0_t4.sl.r_34, trip_k0_t4.sl.r_35, trip_k0_t4.sl.r_36, trip_k0_t4.sl.r_37, trip_k0_t4.sl.r_38, trip_k0_t4.sl.r_39, trip_k0_t4.sl.r_40, trip_k0_t4.sl.r_41, trip_k0_t4.sl.r_42, trip_k0_t4.sl.r_43, trip_k0_t4.sl.r_44, trip_k0_t4.sl.r_45, trip_k0_t4.sl.r_46, trip_k0_t4.sl.r_47, trip_k0_t4.sl.r_48, trip_k0_t4.sl.r_49, trip_k0_t4.sl.r_50, trip_k0_t4.sl.r_51, trip_k0_t4.sl.r_52, trip_k0_t4.sl.r_53, trip_k0_t4.sl.r_54, trip_k0_t4.sl.r_55, trip_k0_t4.sl.r_56, trip_k0_t4.sl.r_57, trip_k0_t4.sl.r_58, trip_k0_t4.sl.r_59, trip_k0_t4.sl.r_60, trip_k0_t4.sl.r_61, trip_k0_t4.sl.r_62, trip_k0_t4.sl.r_63, trip_k0_t4.sl.r_64, trip_k0_t4.sl.r_65, trip_k0_t4.sl.r_66, trip_k0_t4.sl.r_67, trip_k0_t4.sl.r_68, trip_k0_t4.sl.v443, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay336, k0_pay337]
  simp only [key]
  unfold lin1
  generalize row2 (arg11.view.read (Elt Ideal) f) l = g
  generalize row2 (arg12.view.read (Elt Ideal) X) l = g'
  simp only [Finset.range_add_one, Finset.range_zero, Finset.sup_insert, Finset.sup_empty, Nat.reduceMul, zero_add, max_bot_right]
  ac_rfl

/-- The rows one trip of that sweep stores. -/
theorem t4_store (v0 : FVec Ideal S8x128 .f32) (v92 v94 : FVec Ideal S1x128 .f32) (v114 : EReal) (v200 v202 : FVec Ideal S1x128 .f32) (v208 : BitVec 1) (v212 v213 : FVec Ideal S1x128 .f32) (X : BufTy.Contents (Elt Ideal) arg12.view.ty)
    (k : Fin k0_t4_loop.trips) (acc : FVec Ideal S8x128 .f32) (f f' : BufTy.Contents (Elt Ideal) arg11.view.ty) (L : List (View.Piece (Elt Ideal) S16384x128 .f32)) (n : ℕ) (hn : n < 16384) (l : Fin 128) :
    arg11.view.read (Elt Ideal) (arg11.view.writes (Elt Ideal) f' (tripL_k0_t4 (F := Ideal) Variants.none c none i arg2 harg2 arg3 harg3 arg4 harg4 arg5 harg5 arg6 harg6 arg7 harg7 arg8 harg8 arg9 harg9 arg10 harg10 arg11 harg11 arg12 harg12 v0 v92 v94 v114 v200 v202 v208 v212 v213 X k acc f ++ L)) (ix2 ⟨n, hn⟩ l)
      = if 512 * k.val ≤ n ∧ n < 512 * k.val + 512 then lin1 (arg11.view.read (Elt Ideal) f) (arg12.view.read (Elt Ideal) X) (k0_pay334 v200 v212 (ix2 0 l)) (k0_pay335 v202 v212 (ix2 0 l)) l n else arg11.view.read (Elt Ideal) (arg11.view.writes (Elt Ideal) f' (L)) (ix2 ⟨n, hn⟩ l) := by
  have hk : k.val < 32 := k.isLt
  unfold tripL_k0_t4 trip_k0_t4
  dsimp only
  split
  · next h =>
    rw [List.singleton_append]
    refine (View.read_writes_cons_rows_of_mem (d := ![16384, 128]) (size := ![512, 128]) (o := 512 * k.val) arg11.view f' _ _ L (ix2 ⟨n, hn⟩ l) (ix2 ⟨n - 512 * k.val, by omega⟩ l) (k0_off5_eq k)
      (show n = 512 * k.val + (n - 512 * k.val) by omega) rfl).trans ?_
    pointwise [trip_k0_t4.sl.r, trip_k0_t4.sl.r_1, trip_k0_t4.sl.r_2, trip_k0_t4.sl.r_3, trip_k0_t4.sl.r_4, trip_k0_t4.sl.r_5, trip_k0_t4.sl.r_6, trip_k0_t4.sl.r_7, trip_k0_t4.sl.r_8, trip_k0_t4.sl.r_9, trip_k0_t4.sl.r_10, trip_k0_t4.sl.r_11, trip_k0_t4.sl.r_12, trip_k0_t4.sl.r_13, trip_k0_t4.sl.r_14, trip_k0_t4.sl.r_15, trip_k0_t4.sl.r_16, trip_k0_t4.sl.r_17, trip_k0_t4.sl.r_18, trip_k0_t4.sl.r_19, trip_k0_t4.sl.r_20, trip_k0_t4.sl.r_21, trip_k0_t4.sl.r_22, trip_k0_t4.sl.r_23, trip_k0_t4.sl.r_24, trip_k0_t4.sl.r_25, trip_k0_t4.sl.r_26, trip_k0_t4.sl.r_27, trip_k0_t4.sl.r_28, trip_k0_t4.sl.r_29, trip_k0_t4.sl.r_30, trip_k0_t4.sl.r_31, trip_k0_t4.sl.r_32, trip_k0_t4.sl.r_33, trip_k0_t4.sl.r_34, trip_k0_t4.sl.r_35, trip_k0_t4.sl.r_36, trip_k0_t4.sl.r_37, trip_k0_t4.sl.r_38, trip_k0_t4.sl.r_39, trip_k0_t4.sl.r_40, trip_k0_t4.sl.r_41, trip_k0_t4.sl.r_42, trip_k0_t4.sl.r_43, trip_k0_t4.sl.r_44, trip_k0_t4.sl.r_45, trip_k0_t4.sl.r_46, trip_k0_t4.sl.r_47, trip_k0_t4.sl.r_48, trip_k0_t4.sl.r_49, trip_k0_t4.sl.r_50, trip_k0_t4.sl.r_51, trip_k0_t4.sl.r_52, trip_k0_t4.sl.r_53, trip_k0_t4.sl.r_54, trip_k0_t4.sl.r_55, trip_k0_t4.sl.r_56, trip_k0_t4.sl.r_57, trip_k0_t4.sl.r_58, trip_k0_t4.sl.r_59, trip_k0_t4.sl.r_60, trip_k0_t4.sl.r_61, trip_k0_t4.sl.r_62, trip_k0_t4.sl.r_63, trip_k0_t4.sl.r_64, trip_k0_t4.sl.r_65, trip_k0_t4.sl.r_66, trip_k0_t4.sl.r_67, trip_k0_t4.sl.r_68, trip_k0_t4.sl.v443, k0_pay160, k0_pay159]
    rw [readAt_row2 arg11 f _ _ (k0_off5_eq k) _ ⟨n - 512 * k.val, by omega⟩ l (by show 512 * k.val + (n - 512 * k.val) < 16384; omega),
      readAt_row2 arg12 X _ _ (k0_off5_eq k) _ ⟨n - 512 * k.val, by omega⟩ l (by show 512 * k.val + (n - 512 * k.val) < 16384; omega)]
    have hm : 512 * k.val + (n - 512 * k.val) = n := by omega
    unfold lin1 row2
    rw [dif_pos hn, dif_pos hn]
    simp only [hm]
  · next h =>
    rw [List.singleton_append]
    exact View.read_writes_cons_rows_of_not_mem (d := ![16384, 128]) (size := ![512, 128]) (o := 512 * k.val) (W := 512) arg11.view f' _ _ L (ix2 ⟨n, hn⟩ l) (k0_off5_eq k) rfl
      (show n < 512 * k.val ∨ 512 * k.val + 512 ≤ n by omega)

/-- That sweep before trip `k`: the largest magnitudes so far, and the rows stored so far. -/
theorem t4_all (v0 : FVec Ideal S8x128 .f32) (v92 v94 : FVec Ideal S1x128 .f32) (v114 : EReal) (v200 v202 : FVec Ideal S1x128 .f32) (v208 : BitVec 1) (v212 v213 : FVec Ideal S1x128 .f32) (X : BufTy.Contents (Elt Ideal) arg12.view.ty) (G : BufTy.Contents (Elt Ideal) arg11.view.ty) (init : FVec Ideal S8x128 .f32) (l : Fin 128) : ∀ k ≤ k0_t4_loop.trips,
    (∀ u : Fin 8, (st_k0_t4 (F := Ideal) Variants.none c none i arg2 harg2 arg3 harg3 arg4 harg4 arg5 harg5 arg6 harg6 arg7 harg7 arg8 harg8 arg9 harg9 arg10 harg10 arg11 harg11 arg12 harg12 v0 v92 v94 v114 v200 v202 v208 v212 v213 X G init k).1 (ix2 u l)
      = max (init (ix2 u l)) ((Finset.range (64 * k)).sup fun j => FloatOps.absf (F := Ideal) (φ := .f32) (lin1 (arg11.view.read (Elt Ideal) G) (arg12.view.read (Elt Ideal) X) (k0_pay334 v200 v212 (ix2 0 l)) (k0_pay335 v202 v212 (ix2 0 l)) l (8 * j + u.val))))
    ∧ ∀ (n : ℕ) (hn : n < 16384), arg11.view.read (Elt Ideal) (arg11.view.writes (Elt Ideal) G (st_k0_t4 (F := Ideal) Variants.none c none i arg2 harg2 arg3 harg3 arg4 harg4 arg5 harg5 arg6 harg6 arg7 harg7 arg8 harg8 arg9 harg9 arg10 harg10 arg11 harg11 arg12 harg12 v0 v92 v94 v114 v200 v202 v208 v212 v213 X G init k).2) (ix2 ⟨n, hn⟩ l)
      = if n < 512 * k then lin1 (arg11.view.read (Elt Ideal) G) (arg12.view.read (Elt Ideal) X) (k0_pay334 v200 v212 (ix2 0 l)) (k0_pay335 v202 v212 (ix2 0 l)) l n else arg11.view.read (Elt Ideal) G (ix2 ⟨n, hn⟩ l)
  | 0, _ => by
    refine ⟨fun u => ?_, fun n hn => ?_⟩
    · rw [st_k0_t4_zero]; simp only [Nat.mul_zero, Finset.range_zero, Finset.sup_empty, max_bot_right]
    · rw [if_neg (by omega)]; rfl
  | k + 1, hk => by
    obtain ⟨h1, h2⟩ := t4_all v0 v92 v94 v114 v200 v202 v208 v212 v213 X G init l k (Nat.le_of_lt hk)
    have hk32 : k < 32 := hk
    rw [st_k0_t4_succ (F := Ideal) Variants.none c none i arg2 harg2 arg3 harg3 arg4 harg4 arg5 harg5 arg6 harg6 arg7 harg7 arg8 harg8 arg9 harg9 arg10 harg10 arg11 harg11 arg12 harg12 v0 v92 v94 v114 v200 v202 v208 v212 v213 X G init ⟨k, hk⟩]
    generalize st_k0_t4 (F := Ideal) Variants.none c none i arg2 harg2 arg3 harg3 arg4 harg4 arg5 harg5 arg6 harg6 arg7 harg7 arg8 harg8 arg9 harg9 arg10 harg10 arg11 harg11 arg12 harg12 v0 v92 v94 v114 v200 v202 v208 v212 v213 X G init k = st at h1 h2 ⊢
    have same : ∀ n, 512 * k ≤ n → lin1 (arg11.view.read (Elt Ideal) (arg11.view.writes (Elt Ideal) G st.2)) (arg12.view.read (Elt Ideal) X) (k0_pay334 v200 v212 (ix2 0 l)) (k0_pay335 v202 v212 (ix2 0 l)) l n = lin1 (arg11.view.read (Elt Ideal) G) (arg12.view.read (Elt Ideal) X) (k0_pay334 v200 v212 (ix2 0 l)) (k0_pay335 v202 v212 (ix2 0 l)) l n := by
      intro n hn
      have : row2 (arg11.view.read (Elt Ideal) (arg11.view.writes (Elt Ideal) G st.2)) l n = row2 (arg11.view.read (Elt Ideal) G) l n := by
        unfold row2
        split
        · next h => rw [h2 n h, if_neg (by omega)]
        · rfl
      unfold lin1
      rw [this]
    refine ⟨fun u => ?_, fun n hn => ?_⟩
    · refine (t4_max c i arg2 harg2 arg3 harg3 arg4 harg4 arg5 harg5 arg6 harg6 arg7 harg7 arg8 harg8 arg9 harg9 arg10 harg10 arg11 harg11 arg12 harg12 v0 v92 v94 v114 v200 v202 v208 v212 v213 X ⟨k, hk⟩ st.1 _ u l).trans ?_
      rw [h1 u, max_assoc, sup_trips 64 k u.val fun n => FloatOps.absf (F := Ideal) (φ := .f32) (lin1 (arg11.view.read (Elt Ideal) G) (arg12.view.read (Elt Ideal) X) (k0_pay334 v200 v212 (ix2 0 l)) (k0_pay335 v202 v212 (ix2 0 l)) l n)]
      refine congrArg _ (congrArg _ (Finset.sup_congr rfl fun j _ => ?_))
      rw [same _ (by dsimp only; omega)]
    · refine (t4_store c i arg2 harg2 arg3 harg3 arg4 harg4 arg5 harg5 arg6 harg6 arg7 harg7 arg8 harg8 arg9 harg9 arg10 harg10 arg11 harg11 arg12 harg12 v0 v92 v94 v114 v200 v202 v208 v212 v213 X ⟨k, hk⟩ st.1 _ G st.2 n hn l).trans ?_
      rw [h2 n hn]
      dsimp only
      split
      · next h => rw [if_pos (by omega), same n h.1]
      · next h =>
        by_cases h' : n < 512 * k
        · rw [if_pos h', if_pos (by omega)]
        · rw [if_neg h', if_neg (by omega)]

end Cert.KernelIdeal.Parts
end
-- ==== Proof.KernelIdeal.RowsGain.lean ====
/- The loop that weighs the kept rows by the gain: what the scratch tile holds after it, and the largest magnitudes met. -/
module

public import proofs.«01_k».proof.Proof.KernelIdeal.Rows
public import Idealize.ShloMosaic.Lib.WritesUnit

@[expose] public section

set_option maxRecDepth 16384

noncomputable section

namespace Cert.KernelIdeal.Parts

open Cert.KernelIdeal.Gen
open Idealize.ShloMosaic Idealize.ShloMosaic.TcCoe Idealize.ShloMosaic.Tactic
variable (c : Dev nD) (i : grid0.Coords)
  (arg2 : Memref sig .tc .smem S1 .f32) (harg2 : arg2.IsWhole)
  (arg3 : Memref sig .tc .vmem S1x16384x128 .bf16) (harg3 : arg3.IsWhole)
  (arg4 : Memref sig .tc .vmem S1x16384x128 .fp8e5m2) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x16384x128 .fp8e5m2) (harg7 : arg7.IsWhole)
  (arg8 : Memref sig .tc .vmem S1x1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S16384x128 .f32) (harg11 : arg11.IsWhole)
  (arg12 : Memref sig .tc .vmem S16384x128 .f32) (harg12 : arg12.IsWhole)

/-- One trip of the third sweep, with the gain: the largest magnitude of its 64 rows. -/
theorem t5_max (v0 : FVec Ideal S8x128 .f32) (v92 v94 : FVec Ideal S1x128 .f32) (v114 : EReal) (v200 v202 : FVec Ideal S1x128 .f32) (v208 : BitVec 1) (v212 v213 : FVec Ideal S1x128 .f32) (X : BufTy.Contents (Elt Ideal) arg12.view.ty)
    (k : Fin k0_t5_loop.trips) (acc : FVec Ideal S8x128 .f32) (f : BufTy.Contents (Elt Ideal) arg11.view.ty) (u : Fin 8) (l : Fin 128) :
    tripR_k0_t5 (F := Ideal) Variants.none c none i arg2 harg2 arg3 harg3 arg4 harg4 arg5 harg5 arg6 harg6 arg7 harg7 arg8 harg8 arg9 harg9 arg10 harg10 arg11 harg11 arg12 harg12 v0 v92 v94 v114 v200 v202 v208 v212 v213 X k acc f (ix2 u l)
      = max (acc (ix2 u l)) ((Finset.range 64).sup fun j => FloatOps.absf (F := Ideal) (φ := .f32) (lin (arg11.view.read (Elt Ideal) f) (arg12.view.read (Elt Ideal) X) (v94 (ix2 0 l)) (k0_pay334 v200 v212 (ix2 0 l)) (k0_pay335 v202 v212 (ix2 0 l)) l (512 * k.val + (8 * j + u.val)))) := by
  have hk : k.val < 32 := k.isLt
  have hu := u.isLt
  have key : ∀ (m : Memref sig .tc .vmem S16384x128 .f32) (f : BufTy.Contents (Elt Ideal) m.view.ty) (inb) (r : Fin 512),
      m.view.readAt (Elt Ideal) (Rect.unit (s := S16384x128) (k0_off6 k) ![512, 128] inb).toLoadRect f (ix2 r l)
        = row2 (m.view.read (Elt Ideal) f) l (512 * k.val + r.val) := by
    intro m f inb r
    have hr := r.isLt
    rw [readAt_row2 m f _ _ (k0_off6_eq k) inb r l (by omega)]
    exact row2_of_lt _ l _ _
  unfold tripR_k0_t5 trip_k0_t5
  dsimp only
  pointwise [trip_k0_t5.sl.r, trip_k0_t5.sl.r_1, trip_k0_t5.sl.r_2, trip_k0_t5.sl.r_3, trip_k0_t5.sl.r_4, trip_k0_t5.sl.r_5, trip_k0_t5.sl.r_6, trip_k0_t5.sl.r_7, trip_k0_t5.sl.r_8, trip_k0_t5.sl.r_9, trip_k0_t5.sl.r_10, trip_k0_t5.sl.r_11, trip_k0_t5.sl.r_12, trip_k0_t5.sl.r_13, trip_k0_t5.sl.r_14, trip_k0_t5.sl.r_15, trip_k0_t5.sl.r_16, trip_k0_t5.sl.r_17, trip_k0_t5.sl.r_18, trip_k0_t5.sl.r_19, trip_k0_t5.sl.r_20, trip_k0_t5.sl.r_21, trip_k0_t5.sl.r_22, trip_k0_t5.sl.r_23, trip_k0_t5.sl.r_24, trip_k0_t5.sl.r_25, trip_k0_t5.sl.r_26, trip_k0_t5.sl.r_27, trip_k0_t5.sl.r_28, trip_k0_t5.sl.r_29, trip_k0_t5.sl.r_30, trip_k0_t5.sl.r_31, trip_k0_t5.sl.r_32, trip_k0_t5.sl.r_33, trip_k0_t5.sl.r_34, trip_k0_t5.sl.r_35, trip_k0_t5.sl.r_36, trip_k0_t5.sl.r_37, trip_k0_t5.sl.r_38, trip_k0_t5.sl.r_39, trip_k0_t5.sl.r_40, trip_k0_t5.sl.r_41, trip_k0_t5.sl.r_42, trip_k0_t5.sl.r_43, trip_k0_t5.sl.r_44, trip_k0_t5.sl.r_45, trip_k0_t5.sl.r_46, trip_k0_t5.sl.r_47, trip_k0_t5.sl.r_48, trip_k0_t5.sl.r_49, trip_k0_t5.sl.r_50, trip_k0_t5.sl.r_51, trip_k0_t5.sl.r_52, trip_k0_t5.sl.r_53, trip_k0_t5.sl.r_54, trip_k0_t5.sl.r_55, trip_k0_t5.sl.r_56, trip_k0_t5.sl.r_57, trip_k0_t5.sl.r_58, trip_k0_t5.sl.r_59, trip_k0_t5.sl.r_60, trip_k0_t5.sl.r_61, trip_k0_t5.sl.r_62, trip_k0_t5.sl.r_63, trip_k0_t5.sl.r_64, trip_k0_t5.sl.r_65, trip_k0_t5.sl.r_66, trip_k0_t5.sl.r_67, trip_k0_t5.sl.r_68, trip_k0_t5.sl.v442, trip_k0_t5.sl.v444, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay338, k0_pay339, k0_pay340]
  simp only [key]
  unfold lin
  generalize row2 (arg11.view.read (Elt Ideal) f) l = g
  generalize row2 (arg12.view.read (Elt Ideal) X) l = g'
  simp only [Finset.range_add_one, Finset.range_zero, Finset.sup_insert, Finset.sup_empty, Nat.reduceMul, zero_add, max_bot_right]
  ac_rfl

/-- The rows one trip of that sweep stores. -/
theorem t5_store (v0 : FVec Ideal S8x128 .f32) (v92 v94 : FVec Ideal S1x128 .f32) (v114 : EReal) (v200 v202 : FVec Ideal S1x128 .f32) (v208 : BitVec 1) (v212 v213 : FVec Ideal S1x128 .f32) (X : BufTy.Contents (Elt Ideal) arg12.view.ty)
    (k : Fin k0_t5_loop.trips) (acc : FVec Ideal S8x128 .f32) (f f' : BufTy.Contents (Elt Ideal) arg11.view.ty) (L : List (View.Piece (Elt Ideal) S16384x128 .f32)) (n : ℕ) (hn : n < 16384) (l : Fin 128) :
    arg11.view.read (Elt Ideal) (arg11.view.writes (Elt Ideal) f' (tripL_k0_t5 (F := Ideal) Variants.none c none i arg2 harg2 arg3 harg3 arg4 harg4 arg5 harg5 arg6 harg6 arg7 harg7 arg8 harg8 arg9 harg9 arg10 harg10 arg11 harg11 arg12 harg12 v0 v92 v94 v114 v200 v202 v208 v212 v213 X k acc f ++ L)) (ix2 ⟨n, hn⟩ l)
      = if 512 * k.val ≤ n ∧ n < 512 * k.val + 512 then lin (arg11.view.read (Elt Ideal) f) (arg12.view.read (Elt Ideal) X) (v94 (ix2 0 l)) (k0_pay334 v200 v212 (ix2 0 l)) (k0_pay335 v202 v212 (ix2 0 l)) l n else arg11.view.read (Elt Ideal) (arg11.view.writes (Elt Ideal) f' (L)) (ix2 ⟨n, hn⟩ l) := by
  have hk : k.val < 32 := k.isLt
  unfold tripL_k0_t5 trip_k0_t5
  dsimp only
  split
  · next h =>
    rw [List.singleton_append]
    refine (View.read_writes_cons_rows_of_mem (d := ![16384, 128]) (size := ![512, 128]) (o := 512 * k.val) arg11.view f' _ _ L (ix2 ⟨n, hn⟩ l) (ix2 ⟨n - 512 * k.val, by omega⟩ l) (k0_off6_eq k)
      (show n = 512 * k.val + (n - 512 * k.val) by omega) rfl).trans ?_
    pointwise [trip_k0_t5.sl.r, trip_k0_t5.sl.r_1, trip_k0_t5.sl.r_2, trip_k0_t5.sl.r_3, trip_k0_t5.sl.r_4, trip_k0_t5.sl.r_5, trip_k0_t5.sl.r_6, trip_k0_t5.sl.r_7, trip_k0_t5.sl.r_8, trip_k0_t5.sl.r_9, trip_k0_t5.sl.r_10, trip_k0_t5.sl.r_11, trip_k0_t5.sl.r_12, trip_k0_t5.sl.r_13, trip_k0_t5.sl.r_14, trip_k0_t5.sl.r_15, trip_k0_t5.sl.r_16, trip_k0_t5.sl.r_17, trip_k0_t5.sl.r_18, trip_k0_t5.sl.r_19, trip_k0_t5.sl.r_20, trip_k0_t5.sl.r_21, trip_k0_t5.sl.r_22, trip_k0_t5.sl.r_23, trip_k0_t5.sl.r_24, trip_k0_t5.sl.r_25, trip_k0_t5.sl.r_26, trip_k0_t5.sl.r_27, trip_k0_t5.sl.r_28, trip_k0_t5.sl.r_29, trip_k0_t5.sl.r_30, trip_k0_t5.sl.r_31, trip_k0_t5.sl.r_32, trip_k0_t5.sl.r_33, trip_k0_t5.sl.r_34, trip_k0_t5.sl.r_35, trip_k0_t5.sl.r_36, trip_k0_t5.sl.r_37, trip_k0_t5.sl.r_38, trip_k0_t5.sl.r_39, trip_k0_t5.sl.r_40, trip_k0_t5.sl.r_41, trip_k0_t5.sl.r_42, trip_k0_t5.sl.r_43, trip_k0_t5.sl.r_44, trip_k0_t5.sl.r_45, trip_k0_t5.sl.r_46, trip_k0_t5.sl.r_47, trip_k0_t5.sl.r_48, trip_k0_t5.sl.r_49, trip_k0_t5.sl.r_50, trip_k0_t5.sl.r_51, trip_k0_t5.sl.r_52, trip_k0_t5.sl.r_53, trip_k0_t5.sl.r_54, trip_k0_t5.sl.r_55, trip_k0_t5.sl.r_56, trip_k0_t5.sl.r_57, trip_k0_t5.sl.r_58, trip_k0_t5.sl.r_59, trip_k0_t5.sl.r_60, trip_k0_t5.sl.r_61, trip_k0_t5.sl.r_62, trip_k0_t5.sl.r_63, trip_k0_t5.sl.r_64, trip_k0_t5.sl.r_65, trip_k0_t5.sl.r_66, trip_k0_t5.sl.r_67, trip_k0_t5.sl.r_68, trip_k0_t5.sl.v442, trip_k0_t5.sl.v444, k0_pay231, k0_pay230]
    rw [readAt_row2 arg11 f _ _ (k0_off6_eq k) _ ⟨n - 512 * k.val, by omega⟩ l (by show 512 * k.val + (n - 512 * k.val) < 16384; omega),
      readAt_row2 arg12 X _ _ (k0_off6_eq k) _ ⟨n - 512 * k.val, by omega⟩ l (by show 512 * k.val + (n - 512 * k.val) < 16384; omega)]
    have hm : 512 * k.val + (n - 512 * k.val) = n := by omega
    unfold lin row2
    rw [dif_pos hn, dif_pos hn]
    simp only [hm]
  · next h =>
    rw [List.singleton_append]
    exact View.read_writes_cons_rows_of_not_mem (d := ![16384, 128]) (size := ![512, 128]) (o := 512 * k.val) (W := 512) arg11.view f' _ _ L (ix2 ⟨n, hn⟩ l) (k0_off6_eq k) rfl
      (show n < 512 * k.val ∨ 512 * k.val + 512 ≤ n by omega)

/-- That sweep before trip `k`: the largest magnitudes so far, and the rows stored so far. -/
theorem t5_all (v0 : FVec Ideal S8x128 .f32) (v92 v94 : FVec Ideal S1x128 .f32) (v114 : EReal) (v200 v202 : FVec Ideal S1x128 .f32) (v208 : BitVec 1) (v212 v213 : FVec Ideal S1x128 .f32) (X : BufTy.Contents (Elt Ideal) arg12.view.ty) (G : BufTy.Contents (Elt Ideal) arg11.view.ty) (init : FVec Ideal S8x128 .f32) (l : Fin 128) : ∀ k ≤ k0_t5_loop.trips,
    (∀ u : Fin 8, (st_k0_t5 (F := Ideal) Variants.none c none i arg2 harg2 arg3 harg3 arg4 harg4 arg5 harg5 arg6 harg6 arg7 harg7 arg8 harg8 arg9 harg9 arg10 harg10 arg11 harg11 arg12 harg12 v0 v92 v94 v114 v200 v202 v208 v212 v213 X G init k).1 (ix2 u l)
      = max (init (ix2 u l)) ((Finset.range (64 * k)).sup fun j => FloatOps.absf (F := Ideal) (φ := .f32) (lin (arg11.view.read (Elt Ideal) G) (arg12.view.read (Elt Ideal) X) (v94 (ix2 0 l)) (k0_pay334 v200 v212 (ix2 0 l)) (k0_pay335 v202 v212 (ix2 0 l)) l (8 * j + u.val))))
    ∧ ∀ (n : ℕ) (hn : n < 16384), arg11.view.read (Elt Ideal) (arg11.view.writes (Elt Ideal) G (st_k0_t5 (F := Ideal) Variants.none c none i arg2 harg2 arg3 harg3 arg4 harg4 arg5 harg5 arg6 harg6 arg7 harg7 arg8 harg8 arg9 harg9 arg10 harg10 arg11 harg11 arg12 harg12 v0 v92 v94 v114 v200 v202 v208 v212 v213 X G init k).2) (ix2 ⟨n, hn⟩ l)
      = if n < 512 * k then lin (arg11.view.read (Elt Ideal) G) (arg12.view.read (Elt Ideal) X) (v94 (ix2 0 l)) (k0_pay334 v200 v212 (ix2 0 l)) (k0_pay335 v202 v212 (ix2 0 l)) l n else arg11.view.read (Elt Ideal) G (ix2 ⟨n, hn⟩ l)
  | 0, _ => by
    refine ⟨fun u => ?_, fun n hn => ?_⟩
    · rw [st_k0_t5_zero]; simp only [Nat.mul_zero, Finset.range_zero, Finset.sup_empty, max_bot_right]
    · rw [if_neg (by omega)]; rfl
  | k + 1, hk => by
    obtain ⟨h1, h2⟩ := t5_all v0 v92 v94 v114 v200 v202 v208 v212 v213 X G init l k (Nat.le_of_lt hk)
    have hk32 : k < 32 := hk
    rw [st_k0_t5_succ (F := Ideal) Variants.none c none i arg2 harg2 arg3 harg3 arg4 harg4 arg5 harg5 arg6 harg6 arg7 harg7 arg8 harg8 arg9 harg9 arg10 harg10 arg11 harg11 arg12 harg12 v0 v92 v94 v114 v200 v202 v208 v212 v213 X G init ⟨k, hk⟩]
    generalize st_k0_t5 (F := Ideal) Variants.none c none i arg2 harg2 arg3 harg3 arg4 harg4 arg5 harg5 arg6 harg6 arg7 harg7 arg8 harg8 arg9 harg9 arg10 harg10 arg11 harg11 arg12 harg12 v0 v92 v94 v114 v200 v202 v208 v212 v213 X G init k = st at h1 h2 ⊢
    have same : ∀ n, 512 * k ≤ n → lin (arg11.view.read (Elt Ideal) (arg11.view.writes (Elt Ideal) G st.2)) (arg12.view.read (Elt Ideal) X) (v94 (ix2 0 l)) (k0_pay334 v200 v212 (ix2 0 l)) (k0_pay335 v202 v212 (ix2 0 l)) l n = lin (arg11.view.read (Elt Ideal) G) (arg12.view.read (Elt Ideal) X) (v94 (ix2 0 l)) (k0_pay334 v200 v212 (ix2 0 l)) (k0_pay335 v202 v212 (ix2 0 l)) l n := by
      intro n hn
      have : row2 (arg11.view.read (Elt Ideal) (arg11.view.writes (Elt Ideal) G st.2)) l n = row2 (arg11.view.read (Elt Ideal) G) l n := by
        unfold row2
        split
        · next h => rw [h2 n h, if_neg (by omega)]
        · rfl
      unfold lin
      rw [this]
    refine ⟨fun u => ?_, fun n hn => ?_⟩
    · refine (t5_max c i arg2 harg2 arg3 harg3 arg4 harg4 arg5 harg5 arg6 harg6 arg7 harg7 arg8 harg8 arg9 harg9 arg10 harg10 arg11 harg11 arg12 harg12 v0 v92 v94 v114 v200 v202 v208 v212 v213 X ⟨k, hk⟩ st.1 _ u l).trans ?_
      rw [h1 u, max_assoc, sup_trips 64 k u.val fun n => FloatOps.absf (F := Ideal) (φ := .f32) (lin (arg11.view.read (Elt Ideal) G) (arg12.view.read (Elt Ideal) X) (v94 (ix2 0 l)) (k0_pay334 v200 v212 (ix2 0 l)) (k0_pay335 v202 v212 (ix2 0 l)) l n)]
      refine congrArg _ (congrArg _ (Finset.sup_congr rfl fun j _ => ?_))
      rw [same _ (by dsimp only; omega)]
    · refine (t5_store c i arg2 harg2 arg3 harg3 arg4 harg4 arg5 harg5 arg6 harg6 arg7 harg7 arg8 harg8 arg9 harg9 arg10 harg10 arg11 harg11 arg12 harg12 v0 v92 v94 v114 v200 v202 v208 v212 v213 X ⟨k, hk⟩ st.1 _ G st.2 n hn l).trans ?_
      rw [h2 n hn]
      dsimp only
      split
      · next h => rw [if_pos (by omega), same n h.1]
      · next h =>
        by_cases h' : n < 512 * k
        · rw [if_pos h', if_pos (by omega)]
        · rw [if_neg h', if_neg (by omega)]

end Cert.KernelIdeal.Parts
end
-- ==== Proof.Exponent.lean ====
/- The power of two a group's codes are scaled by: its exponent counted over the powers of two, and as a floored logarithm. -/
module

public import proofs.«01_k».proof.Proof.GroupNorm
public import Idealize.ShloMosaic.Lib.IndicatorCount

@[expose] public section

noncomputable section

namespace Cert.GroupNorm

open Idealize.ShloMosaic

/-- The reciprocal of the format's largest magnitude, as rounded. -/
def cst : ℝ := 9586981 * (2 : ℝ) ^ (-39 : ℤ)

theorem cst_coe : Ideal.ofBits .f32 932333861#32 = ((cst : ℝ) : EReal) := by
  simp [Ideal.ofBits, Ideal.ieee, cst]

theorem cst_pos : 0 < cst := by unfold cst; positivity

/-- The floored logarithm to base two. -/
def lg (w : ℝ) : ℤ := ⌊Real.log w / Real.log 2⌋

theorem pow_le_iff (w : ℝ) (h0 : 0 < w) (x : ℤ) : (2 : ℝ) ^ x ≤ w ↔ x ≤ lg w := by
  unfold lg
  rw [Int.le_floor, le_div_iff₀ (Real.log_pos one_lt_two), ← Real.log_zpow, Real.log_le_log_iff (by positivity) h0]

/-- The exponent of the scale of a group whose largest magnitude times `cst` is `w`. -/
def expo (w : ℝ) : ℤ := if w = 0 then 0 else max (lg w + 1) (-126)

theorem log_lt (w : ℝ) (h0 : 0 < w) (h : w < (2 : ℝ) ^ (126 : ℤ)) : lg w < 126 := by
  by_contra hc
  exact absurd h (not_lt.mpr ((pow_le_iff w h0 126).mpr (not_lt.mp hc)))

theorem expo_ge (w : ℝ) : -126 ≤ expo w := by
  unfold expo
  split
  · omega
  · exact le_max_right _ _

theorem expo_le (w : ℝ) (h0 : 0 ≤ w) (h : w < (2 : ℝ) ^ (126 : ℤ)) : expo w ≤ 126 := by
  unfold expo
  split
  · omega
  · next hw =>
    have := log_lt w (lt_of_le_of_ne h0 (Ne.symm hw)) h
    exact max_le (by omega) (by omega)

/-! ## Powers of two by their words -/

theorem pow_parts : ∀ m : Fin 255, 1 ≤ m.val →
    ((IntOp.shli .vector (BitVec.ofNat 32 m.val) 23#32).extractLsb' (8 + 23) 1 == 1#1) = false
    ∧ ((IntOp.shli .vector (BitVec.ofNat 32 m.val) 23#32).extractLsb' 23 8).toNat = m.val
    ∧ ((IntOp.shli .vector (BitVec.ofNat 32 m.val) 23#32).extractLsb' 0 23).toNat = 0 := by decide +kernel

theorem pow_of_parts (v : BitVec 32) (m : ℕ) (a : (v.extractLsb' (8 + 23) 1 == 1#1) = false) (b : (v.extractLsb' 23 8).toNat = m)
    (d : (v.extractLsb' 0 23).toNat = 0) (h1 : 1 ≤ m) (h2 : m < 255) :
    Ideal.ieee 8 23 v = (((2 : ℝ) ^ ((m : ℤ) - 127) : ℝ) : EReal) := by
  unfold Ideal.ieee
  simp only [a, b, d]
  rw [if_neg (by norm_num; omega), if_neg (by omega)]
  congr 1
  have e : ((m : ℤ) - (2 ^ (8 - 1) - 1) - ((23 : ℕ) : ℤ)) = ((m : ℤ) - 127) + (-23) := by norm_num; ring
  rw [e, zpow_add₀ two_ne_zero]
  norm_num
  ring

/-- The word with exponent field `m` and no fraction is the power `m - 127` of two. -/
theorem pow_field (m : ℕ) (h1 : 1 ≤ m) (h2 : m < 255) :
    Ideal.ofBits .f32 (IntOp.shli .vector (BitVec.ofNat 32 m) 23#32) = (((2 : ℝ) ^ ((m : ℤ) - 127) : ℝ) : EReal) := by
  obtain ⟨a, b, d⟩ := pow_parts ⟨m, h2⟩ h1
  exact pow_of_parts _ m a b d h1 h2

/-- The word with exponent field 255 and no fraction is above every real. -/
theorem pow_top : Ideal.ofBits .f32 (IntOp.shli .vector (BitVec.ofNat 32 255) 23#32) = ⊤ := by
  have e : IntOp.shli .vector (BitVec.ofNat 32 255) 23#32 = 0x7F800000#32 := by decide +kernel
  rw [e]
  simp [Ideal.ofBits, Ideal.ieee]

theorem field_up : ∀ j : Fin 253, IntOp.addi (BitVec.ofInt 32 ((j.val : ℤ) - 126)) 127#32 = BitVec.ofNat 32 (j.val + 1) := by decide +kernel
theorem field_down : ∀ j : Fin 253, IntOp.addi (IntOp.subi 0#32 (BitVec.ofInt 32 ((j.val : ℤ) - 126))) 127#32 = BitVec.ofNat 32 (253 - j.val) := by decide +kernel
theorem field_count : ∀ j : Fin 255, IntOp.addi (IntOp.subi (BitVec.ofNat 32 j.val) 126#32) 127#32 = BitVec.ofNat 32 (j.val + 1) := by decide +kernel
theorem word_count : ∀ j : Fin 253, IntOp.subi (BitVec.ofNat 32 j.val) 126#32 = BitVec.ofInt 32 ((j.val : ℤ) - 126) := by decide +kernel
theorem card_below : ∀ j : Fin 255, (Finset.univ.filter fun x : Fin 255 => x.val < j.val).card = j.val := by decide +kernel

/-- The power of two with exponent `e`, as built from the word of `e`. -/
theorem pow_word (e : ℤ) (h1 : -126 ≤ e) (h2 : e ≤ 126) :
    Ideal.ofBits .f32 (IntOp.shli .vector (IntOp.addi (BitVec.ofInt 32 e) 127#32) 23#32) = (((2 : ℝ) ^ e : ℝ) : EReal) := by
  obtain ⟨j, rfl⟩ : ∃ j : Fin 253, e = (j.val : ℤ) - 126 := ⟨⟨(e + 126).toNat, by omega⟩, by dsimp only; omega⟩
  rw [field_up, pow_field _ (by omega) (by omega), show ((j.val + 1 : ℕ) : ℤ) - 127 = (j.val : ℤ) - 126 by push_cast; ring]

/-- The power of two with exponent `-e`, as built from the word of `e`. -/
theorem pow_neg_word (e : ℤ) (h1 : -126 ≤ e) (h2 : e ≤ 126) :
    Ideal.ofBits .f32 (IntOp.shli .vector (IntOp.addi (IntOp.subi 0#32 (BitVec.ofInt 32 e)) 127#32) 23#32) = (((2 : ℝ) ^ (-e) : ℝ) : EReal) := by
  obtain ⟨j, rfl⟩ : ∃ j : Fin 253, e = (j.val : ℤ) - 126 := ⟨⟨(e + 126).toNat, by omega⟩, by dsimp only; omega⟩
  rw [field_down, pow_field _ (by omega) (by omega), show ((253 - j.val : ℕ) : ℤ) - 127 = -((j.val : ℤ) - 126) by have := j.isLt; omega]

/-! ## The two ways to the exponent -/

theorem count_iff (w : ℝ) (h0 : 0 < w) (h : w < (2 : ℝ) ^ (126 : ℤ)) (x : Fin 255) :
    Ideal.ofBits .f32 (IntOp.shli .vector (IntOp.addi (IntOp.subi (BitVec.ofNat 32 x.val) 126#32) 127#32) 23#32) ≤ (w : EReal)
      ↔ x.val < (lg w + 127).toNat := by
  have hl := log_lt w h0 h
  rw [field_count]
  by_cases hx : x.val = 254
  · rw [hx, pow_top]
    constructor
    · intro hc; exact absurd (top_le_iff.mp hc) (EReal.coe_ne_top w)
    · intro hc; omega
  · rw [pow_field _ (by omega) (by omega), EReal.coe_le_coe_iff, pow_le_iff w h0]
    push_cast
    omega

/-- The exponent's word: the count of the powers of two that are at most `w`, less 126. -/
theorem expo_word (w : ℝ) (h0 : 0 ≤ w) (h : w < (2 : ℝ) ^ (126 : ℤ)) :
    (if (w : EReal) = 0 then 0#32 else IntOp.subi (Finset.univ.fold IntOp.addi 0#32 fun x : Fin 255 =>
        if Ideal.ofBits .f32 (IntOp.shli .vector (IntOp.addi (IntOp.subi (BitVec.ofNat 32 x.val) 126#32) 127#32) 23#32) ≤ (w : EReal)
          then 1#32 else 0#32) 126#32)
      = BitVec.ofInt 32 (expo w) := by
  unfold expo
  by_cases hw : w = 0
  · rw [if_pos hw, if_pos (by rw [hw]; rfl)]; rfl
  · rw [if_neg hw, if_neg (fun e => hw (by exact_mod_cast e))]
    have h0' : 0 < w := lt_of_le_of_ne h0 (Ne.symm hw)
    have hl := log_lt w h0' h
    simp only [count_iff w h0' h]
    have e : (fun x : Fin 255 => if x.val < (lg w + 127).toNat then 1#32 else 0#32)
        = fun x => ((if x.val < (lg w + 127).toNat then 1#1 else 0#1 : BitVec 1)).setWidth 32 := by
      funext x; split <;> rfl
    rw [e, IndicatorCount.fold_addi_setWidth_eq_card]
    have e2 : (Finset.univ.filter fun x : Fin 255 => (if x.val < (lg w + 127).toNat then 1#1 else 0#1 : BitVec 1) = 1#1)
        = Finset.univ.filter fun x : Fin 255 => x.val < (lg w + 127).toNat := by
      refine Finset.filter_congr fun x _ => ?_
      split <;> simp_all
    rw [e2, card_below ⟨(lg w + 127).toNat, by omega⟩, word_count ⟨(lg w + 127).toNat, by omega⟩]
    congr 1
    dsimp only
    rcases max_cases (lg w + 1) (-126) with ⟨h1, h2⟩ | ⟨h1, h2⟩ <;> rw [h1] <;> omega

end Cert.GroupNorm

end
-- ==== Proof.KernelIdeal.GroupMax.lean ====
/- The largest over a lane's group, taken by four exchanges between lanes. -/
module

public import proofs.«01_k».proof.Proof.KernelIdeal.Vals
public import proofs.«01_k».proof.Proof.Exponent

@[expose] public section

set_option maxRecDepth 16384

noncomputable section

namespace Cert.KernelIdeal.Parts

open Cert.KernelIdeal.Gen Cert.GroupNorm
open Idealize.ShloMosaic Idealize.ShloMosaic.TcCoe

/-- The lane whose number differs in the bit `s`, or the lane itself. -/
def fl (s : ℕ) (b : Bool) (l : Fin 128) : Fin 128 := if b then ⟨(l.val ^^^ s) % 128, Nat.mod_lt _ (by norm_num)⟩ else l

/-- Each lane's larger of its own value and its partner's, the partner read by a rotation one way or the other. -/
def stage (a b : BitVec 32) (v : FVec Ideal S1x128 .f32) : FVec Ideal S1x128 .f32 :=
  maximumf v (select (cmpi .ne (andi (iota .tc S1x128 32 [1] iota_S1x128_d1_w32) (broadcast S1x128 a)) (broadcast S1x128 0#32))
    (dynamicRotate 1 a none v rotates_S1x128_d1) (dynamicRotate 1 b none v rotates_S1x128_d1))

/-- The two rotations meet at the partner. -/
theorem partner (s : ℕ) (l i j : Fin 128) (v : FVec Ideal S1x128 .f32)
    (h : (IntOp.cmpi .ne (IntOp.andi (BitVec.ofNat 32 l.val) (BitVec.ofNat 32 s)) 0#32 = 1#1 ∧ i = fl s true l)
      ∨ (IntOp.cmpi .ne (IntOp.andi (BitVec.ofNat 32 l.val) (BitVec.ofNat 32 s)) 0#32 = 0#1 ∧ j = fl s true l)) (B : EReal) :
    max (v (ix2 0 l)) (Scalar.select (IntOp.cmpi .ne (IntOp.andi (BitVec.ofNat 32 l.val) (BitVec.ofNat 32 s)) 0#32) (v (ix2 0 i)) (v (ix2 0 j))) ≤ B
      ↔ ∀ b, v (ix2 0 (fl s b l)) ≤ B := by
  have e : Scalar.select (IntOp.cmpi .ne (IntOp.andi (BitVec.ofNat 32 l.val) (BitVec.ofNat 32 s)) 0#32) (v (ix2 0 i)) (v (ix2 0 j))
      = v (ix2 0 (fl s true l)) := by
    rcases h with ⟨h, rfl⟩ | ⟨h, rfl⟩ <;> rw [h] <;> rfl
  rw [e, max_le_iff, Bool.forall_bool]
  rfl

theorem stage1 (v : FVec Ideal S1x128 .f32) (l : Fin 128) (B : EReal) : stage 1#32 127#32 v (ix2 0 l) ≤ B ↔ ∀ b, v (ix2 0 (fl 1 b l)) ≤ B := by
  pointwise [stage]
  exact partner 1 l _ _ v (by revert l; decide +kernel) B

theorem stage2 (v : FVec Ideal S1x128 .f32) (l : Fin 128) (B : EReal) : stage 2#32 126#32 v (ix2 0 l) ≤ B ↔ ∀ b, v (ix2 0 (fl 2 b l)) ≤ B := by
  pointwise [stage]
  exact partner 2 l _ _ v (by revert l; decide +kernel) B

theorem stage4 (v : FVec Ideal S1x128 .f32) (l : Fin 128) (B : EReal) : stage 4#32 124#32 v (ix2 0 l) ≤ B ↔ ∀ b, v (ix2 0 (fl 4 b l)) ≤ B := by
  pointwise [stage]
  exact partner 4 l _ _ v (by revert l; decide +kernel) B

theorem stage8 (v : FVec Ideal S1x128 .f32) (l : Fin 128) (B : EReal) : stage 8#32 120#32 v (ix2 0 l) ≤ B ↔ ∀ b, v (ix2 0 (fl 8 b l)) ≤ B := by
  pointwise [stage]
  exact partner 8 l _ _ v (by revert l; decide +kernel) B

theorem lane_fl : ∀ (l : Fin 128) (k : Fin 16), ∃ d c b a, lane l k = fl 1 a (fl 2 b (fl 4 c (fl 8 d l))) := by decide +kernel
theorem fl_lane : ∀ (l : Fin 128) (d c b a : Bool), ∃ k, fl 1 a (fl 2 b (fl 4 c (fl 8 d l))) = lane l k := by decide +kernel

/-- The four exchanges. -/
def peak (r : FVec Ideal S1x128 .f32) : FVec Ideal S1x128 .f32 := stage 8#32 120#32 (stage 4#32 124#32 (stage 2#32 126#32 (stage 1#32 127#32 r)))

/-- They leave in each lane the largest of its group. -/
theorem peak_le (r : FVec Ideal S1x128 .f32) (l : Fin 128) (B : EReal) : peak r (ix2 0 l) ≤ B ↔ ∀ k, r (ix2 0 (lane l k)) ≤ B := by
  unfold peak
  simp only [stage8, stage4, stage2, stage1]
  constructor
  · intro h k
    obtain ⟨d, c, b, a, e⟩ := lane_fl l k
    rw [e]; exact h d c b a
  · intro h d c b a
    obtain ⟨k, e⟩ := fl_lane l d c b a
    rw [e]; exact h k

/-- What each lane brings to the exchanges. -/
def peakOf (v92 v94 : FVec Ideal S1x128 .f32) (v114 : EReal) (v208 : BitVec 1) (v222 : FVec Ideal S8x128 .f32) : FVec Ideal S1x128 .f32 :=
  mulf (shapeCast S1x128 (multiReduction .maximumf [0] S128 v222 0xFF800000#32 reduces_S8x128_S128 (.inl rfl) rfl) shapeCasts_S128_S1x128)
    (absf (k0_pay333 v92 v94 v114 v208 k0_pay332))

theorem peakOf_eq (v92 v94 : FVec Ideal S1x128 .f32) (v114 : EReal) (v208 : BitVec 1) (v222 : FVec Ideal S8x128 .f32) (l : Fin 128) :
    peakOf v92 v94 v114 v208 v222 (ix2 0 l) = Finset.fold max (Ideal.ofBits .f32 4286578688#32) (fun u : Fin 8 => v222 (ix2 u l)) Finset.univ
      * FloatOps.absf (F := Ideal) (φ := .f32) (k0_pay333 v92 v94 v114 v208 k0_pay332 (ix2 0 l)) := by
  pointwise [peakOf]

theorem pay341 (v92 v94 : FVec Ideal S1x128 .f32) (v114 : EReal) (v208 : BitVec 1) (v222 : FVec Ideal S8x128 .f32) :
    k0_pay341 (F := Ideal) v92 v94 v114 v208 k0_pay332 v222
      = stage 4#32 124#32 (stage 2#32 126#32 (stage 1#32 127#32 (peakOf v92 v94 v114 v208 v222))) := rfl

/-- The exponent's word, from a group's largest magnitude. -/
theorem exponent (v92 v94 : FVec Ideal S1x128 .f32) (v114 : EReal) (v208 : BitVec 1) (v222 : FVec Ideal S8x128 .f32) (l : Fin 128) (M : ℝ)
    (hM : peak (peakOf v92 v94 v114 v208 v222) (ix2 0 l) = ((M : ℝ) : EReal)) (h0 : 0 ≤ M) (h1 : M * cst < (2 : ℝ) ^ (126 : ℤ)) :
    k0_pay345 (k0_pay341 (F := Ideal) v92 v94 v114 v208 k0_pay332 v222) (k0_pay342 (F := Ideal) v92 v94 v114 v208 k0_pay332 v222)
      (k0_pay343 (F := Ideal) v92 v94 v114 v208 k0_pay332 v222) k0_pay344 0#32 (ix2 0 l) = BitVec.ofInt 32 (expo (M * cst)) := by
  have e : maximumf (k0_pay341 (F := Ideal) v92 v94 v114 v208 k0_pay332 v222) (select (cmpi .ne (andi (iota .tc S1x128 32 [1] iota_S1x128_d1_w32) (broadcast S1x128 8#32)) (broadcast S1x128 0#32))
      (k0_pay342 (F := Ideal) v92 v94 v114 v208 k0_pay332 v222) (k0_pay343 (F := Ideal) v92 v94 v114 v208 k0_pay332 v222)) (ix2 0 l) = ((M : ℝ) : EReal) := hM
  generalize k0_pay342 (F := Ideal) v92 v94 v114 v208 k0_pay332 v222 = b at e ⊢
  generalize k0_pay343 (F := Ideal) v92 v94 v114 v208 k0_pay332 v222 = c at e ⊢
  generalize k0_pay341 (F := Ideal) v92 v94 v114 v208 k0_pay332 v222 = a at e ⊢
  revert e
  pointwise [k0_pay345, k0_pay344]
  intro e
  simp only [e, cst_coe, ← EReal.coe_mul]
  convert expo_word _ (mul_nonneg h0 cst_pos.le) h1

end Cert.KernelIdeal.Parts

end
-- ==== Proof.Bound.lean ====
/- How large the input's gradient can be, and the kernel's way to it. -/
module

public import proofs.«01_k».proof.Proof.GroupNorm
public import proofs.«01_k».proof.Proof.Exponent

@[expose] public section

noncomputable section

namespace Cert.GroupNorm

open Idealize.ShloMosaic

theorem sig_pos (r : ℝ) : 0 < sig r := by unfold sig; positivity

theorem sig_le (r : ℝ) : sig r ≤ 1 := by
  unfold sig
  rw [div_le_one (by positivity)]
  linarith [Real.exp_pos (-r)]

/-- The derivative of the activation is at most two. -/
theorem slope_le (r : ℝ) : |sig r * (1 + r * (1 - sig r))| ≤ 2 := by
  have ht := Real.exp_pos (-r)
  have h1 : r * Real.exp (-r) ≤ 1 := by
    have h := Real.add_one_le_exp r
    have : Real.exp r * Real.exp (-r) = 1 := by rw [← Real.exp_add]; simp
    nlinarith
  have h2 : -r ≤ Real.exp (-r) := by linarith [Real.add_one_le_exp (-r)]
  have e : sig r * (1 + r * (1 - sig r)) = 1 / (1 + Real.exp (-r)) + r * Real.exp (-r) / ((1 + Real.exp (-r)) * (1 + Real.exp (-r))) := by
    unfold sig
    field_simp
    ring
  rw [e]
  generalize Real.exp (-r) = t at *
  have hq : 0 < (1 + t) * (1 + t) := by positivity
  have a1 : 1 / (1 + t) ≤ 1 := by rw [div_le_one (by positivity)]; linarith
  have a2 : 0 ≤ 1 / (1 + t) := by positivity
  have b1 : r * t / ((1 + t) * (1 + t)) ≤ 1 := by rw [div_le_one hq]; nlinarith
  have b2 : -1 ≤ r * t / ((1 + t) * (1 + t)) := by rw [le_div_iff₀ hq]; nlinarith
  rw [abs_le]
  constructor <;> linarith

theorem abs_mean_le (f : Fin 16 → Fin 16384 → ℝ) (B : ℝ) (h : ∀ k n, |f k n| ≤ B) : |(∑ k, ∑ n, f k n) / 262144| ≤ B := by
  rw [abs_div, abs_of_pos (by norm_num : (0 : ℝ) < 262144), div_le_iff₀ (by norm_num)]
  calc |∑ k, ∑ n, f k n| ≤ ∑ k, |∑ n, f k n| := Finset.abs_sum_le_sum_abs _ _
    _ ≤ ∑ k : Fin 16, ∑ n : Fin 16384, B := Finset.sum_le_sum fun k _ => (Finset.abs_sum_le_sum_abs _ _).trans (Finset.sum_le_sum fun n _ => h k n)
    _ = B * 262144 := by simp; ring

/-! ## Largest magnitudes -/

theorem absf_coe (r : ℝ) : FloatOps.absf (F := Ideal) (φ := .f32) (r : EReal) = ((|r| : ℝ) : EReal) := by
  show max (r : EReal) (-(r : EReal)) = _
  rw [← EReal.coe_neg, abs_eq_max_neg]
  exact (EReal.coe_strictMono.monotone.map_max).symm

/-- What has the same bounds as some magnitudes is the largest of them. -/
theorem largest_of_bounds {ι : Type} [Fintype ι] [Nonempty ι] (f : ι → ℝ) (X : EReal) (h : ∀ B : EReal, X ≤ B ↔ ∀ i, ((|f i| : ℝ) : EReal) ≤ B) :
    ∃ M : ℝ, X = (M : EReal) ∧ (∀ i, |f i| ≤ M) ∧ ∃ i, M = |f i| := by
  obtain ⟨i, _, hi⟩ := Finset.exists_max_image (Finset.univ : Finset ι) (fun i => |f i|) Finset.univ_nonempty
  refine ⟨|f i|, le_antisymm ((h _).mpr fun j => EReal.coe_le_coe_iff.mpr (hi j (Finset.mem_univ _))) ((h X).mp le_rfl i),
    fun j => hi j (Finset.mem_univ _), i, rfl⟩

/-- A factor's magnitude may be applied to the largest. -/
theorem bounds_mul {ι : Type} [Fintype ι] [Nonempty ι] (f : ι → ℝ) (κ : ℝ) (X : EReal) (h : ∀ B : EReal, X ≤ B ↔ ∀ i, ((|f i| : ℝ) : EReal) ≤ B)
    (B : EReal) : X * ((|κ| : ℝ) : EReal) ≤ B ↔ ∀ i, ((|f i * κ| : ℝ) : EReal) ≤ B := by
  obtain ⟨M, rfl, h1, j, rfl⟩ := largest_of_bounds f X h
  rw [← EReal.coe_mul, ← abs_mul]
  refine ⟨fun hB i => le_trans (EReal.coe_le_coe_iff.mpr ?_) hB, fun hB => hB j⟩
  rw [abs_mul, abs_mul]
  exact mul_le_mul_of_nonneg_right (h1 i) (abs_nonneg _)

theorem least_coe : Ideal.ofBits .f32 4286578688#32 = ⊥ := by simp [Ideal.ofBits, Ideal.ieee]
theorem bound_coe : Ideal.ofBits .f32 0x47600000#32 = ((57344 : ℝ) : EReal) := by
  simp [Ideal.ofBits, Ideal.ieee]
  norm_num [← EReal.coe_mul]
theorem neg_bound_coe : Ideal.ofBits .f32 0xC7600000#32 = ((-57344 : ℝ) : EReal) := by
  simp [Ideal.ofBits, Ideal.ieee]
  norm_num [← EReal.coe_mul, ← EReal.coe_neg]

/-- A value held to the format's range. -/
theorem clamp_coe (r : ℝ) : min (Ideal.ofBits .f32 0x47600000#32) (max (Ideal.ofBits .f32 0xC7600000#32) (r : EReal))
    = ((min 57344 (max (-57344) r) : ℝ) : EReal) := by
  rw [bound_coe, neg_bound_coe, EReal.coe_strictMono.monotone.map_min, EReal.coe_strictMono.monotone.map_max]

namespace Slab
variable (S : Slab)

/-- A group whose derivative is a code's value, and whose gains and scale are moderate. -/
structure Small : Prop where
  dy : ∀ k n, |S.dy k n| ≤ 2 ^ 16
  g : ∀ k, |S.g k| ≤ 2 ^ 40
  s : |S.s| ≤ 2 ^ 40

theorem rstd_pos : 0 < S.rstd := inv_pos.mpr (Real.sqrt_pos.mpr S.var_eps_pos)

theorem rstd_sq : S.rstd * S.rstd * (S.var + eps) = 1 := by
  have h := S.var_eps_pos
  unfold rstd
  rw [← mul_inv, Real.mul_self_sqrt h.le, inv_mul_cancel₀ h.ne']

theorem rstd_le : S.rstd ≤ 512 := by
  have h := S.rstd_sq
  have h0 := S.rstd_pos
  have hv := S.var_nonneg
  have he : (1 : ℝ) / 262144 ≤ eps := by unfold eps; norm_num
  by_contra hc
  have hc' : 512 < S.rstd := not_le.mp hc
  have : (262144 : ℝ) < S.rstd * S.rstd := by nlinarith
  nlinarith

theorem xhat_le (k : Fin 16) (n : Fin 16384) : |S.xhat k n| ≤ 512 := by
  apply abs_le_of_sq_le_sq _ (by norm_num)
  have h := S.rstd_sq
  have h1 : (S.x k n - S.mean) * (S.x k n - S.mean) ≤ S.var * 262144 := by
    unfold var
    rw [div_mul_cancel₀ _ (by norm_num)]
    have i1 := Finset.single_le_sum (f := fun n => (S.x k n - S.mean) * (S.x k n - S.mean)) (fun n _ => mul_self_nonneg _) (Finset.mem_univ n)
    have i2 := Finset.single_le_sum (f := fun k => ∑ n, (S.x k n - S.mean) * (S.x k n - S.mean))
      (fun k _ => Finset.sum_nonneg fun n _ => mul_self_nonneg _) (Finset.mem_univ k)
    exact i1.trans i2
  have h2 : 0 ≤ S.rstd * S.rstd := mul_self_nonneg _
  have he := eps_pos
  unfold xhat
  have : ((S.x k n - S.mean) * S.rstd) ^ 2 = (S.x k n - S.mean) * (S.x k n - S.mean) * (S.rstd * S.rstd) := by ring
  rw [this]
  nlinarith [mul_le_mul_of_nonneg_right h1 h2, mul_nonneg h2 he.le]

variable (hS : S.Small)

include hS in
theorem dhg_le (k : Fin 16) (n : Fin 16384) : |S.dh k n * S.g k| ≤ 2 ^ 97 := by
  have e : S.dh k n * S.g k = S.dy k n * S.s * S.g k * (sig (S.h k n) * (1 + S.h k n * (1 - sig (S.h k n)))) := by unfold dh; ring
  rw [e, abs_mul, abs_mul, abs_mul]
  calc |S.dy k n| * |S.s| * |S.g k| * |sig (S.h k n) * (1 + S.h k n * (1 - sig (S.h k n)))|
      ≤ 2 ^ 16 * 2 ^ 40 * 2 ^ 40 * 2 := by
        gcongr
        · exact hS.dy k n
        · exact hS.s
        · exact hS.g k
        · exact slope_le _
    _ = 2 ^ 97 := by norm_num

include hS in
theorem dx_le (k : Fin 16) (n : Fin 16384) : |S.dx k n| ≤ 2 ^ 125 := by
  have h1 := S.dhg_le hS k n
  have h2 : |S.meanG| ≤ 2 ^ 97 := abs_mean_le _ _ (S.dhg_le hS)
  have h3 : |S.meanGx| ≤ 2 ^ 106 := abs_mean_le _ _ fun k n => by
    rw [abs_mul]
    calc |S.dh k n * S.g k| * |S.xhat k n| ≤ 2 ^ 97 * 512 := by
          gcongr
          · exact S.dhg_le hS k n
          · exact S.xhat_le k n
      _ = 2 ^ 106 := by norm_num
  have h4 : |S.xhat k n * S.meanGx| ≤ 2 ^ 115 := by
    rw [abs_mul]
    calc |S.xhat k n| * |S.meanGx| ≤ 512 * 2 ^ 106 := by
          gcongr
          exact S.xhat_le k n
      _ = 2 ^ 115 := by norm_num
  unfold dx
  rw [abs_mul, abs_of_pos S.rstd_pos]
  calc S.rstd * |S.dh k n * S.g k - S.meanG - S.xhat k n * S.meanGx| ≤ 512 * (2 ^ 97 + 2 ^ 97 + 2 ^ 115) := by
        refine mul_le_mul S.rstd_le ?_ (abs_nonneg _) (by norm_num)
        refine (abs_sub _ _).trans (add_le_add ((abs_sub _ _).trans (add_le_add h1 h2)) h4)
    _ ≤ 2 ^ 125 := by norm_num

/-! ## The largest magnitude -/

/-- The largest magnitude of a group's gradient. -/
def amax : ℝ := (Finset.univ : Finset (Fin 16 × Fin 16384)).sup' ⟨(0, 0), Finset.mem_univ _⟩ fun p => |S.dx p.1 p.2|

theorem le_amax (k : Fin 16) (n : Fin 16384) : |S.dx k n| ≤ S.amax :=
  Finset.le_sup' (fun p : Fin 16 × Fin 16384 => |S.dx p.1 p.2|) (Finset.mem_univ (k, n))

theorem amax_mem : ∃ k n, S.amax = |S.dx k n| := by
  obtain ⟨p, _, h⟩ := Finset.exists_mem_eq_sup' (s := (Finset.univ : Finset (Fin 16 × Fin 16384))) ⟨(0, 0), Finset.mem_univ _⟩ fun p => |S.dx p.1 p.2|
  exact ⟨p.1, p.2, h⟩

theorem amax_nonneg : 0 ≤ S.amax := (abs_nonneg _).trans (S.le_amax 0 0)

/-- What is at most every bound of the gradient's magnitudes, and one itself, is the largest. -/
theorem amax_of_bounds (X : EReal) (h : ∀ B : EReal, X ≤ B ↔ ∀ k n, ((|S.dx k n| : ℝ) : EReal) ≤ B) : X = ((S.amax : ℝ) : EReal) := by
  apply le_antisymm
  · exact (h _).mpr fun k n => EReal.coe_le_coe_iff.mpr (S.le_amax k n)
  · obtain ⟨k, n, e⟩ := S.amax_mem
    rw [e]
    exact (h X).mp le_rfl k n

include hS in
theorem amax_lt : S.amax * cst < (2 : ℝ) ^ (126 : ℤ) := by
  obtain ⟨k, n, e⟩ := S.amax_mem
  have h := S.dx_le hS k n
  have h0 := S.amax_nonneg
  rw [← e] at h
  have hc : cst ≤ 1 := by unfold cst; norm_num
  calc S.amax * cst ≤ 2 ^ 125 * 1 := mul_le_mul h hc cst_pos.le (by norm_num)
    _ < (2 : ℝ) ^ (126 : ℤ) := by norm_num

/-- The exponent of the group's scale. -/
def e : ℤ := expo (S.amax * cst)

theorem e_ge : -126 ≤ S.e := expo_ge _

include hS in
theorem e_le : S.e ≤ 126 := expo_le _ (mul_nonneg S.amax_nonneg cst_pos.le) (S.amax_lt hS)

/-- The group's scale. -/
def scale : ℝ := 2 ^ S.e

/-- A code: the gradient over the scale, held to the format's largest magnitude. -/
def code (k : Fin 16) (n : Fin 16384) : ℝ := min 57344 (max (-57344) (S.dx k n * 2 ^ (-S.e)))

/-! ## The kernel's way to the gradient -/

def s1 (k : Fin 16) : ℝ := ∑ n, S.kdh k n
def s2 (k : Fin 16) : ℝ := (∑ n, S.kdh k n * S.x k n - S.mean * ∑ n, S.kdh k n) * S.rstd
/-- The slope of the line taken from each row's term. -/
def q : ℝ := S.rstd * ((∑ k, S.s2 k * S.g k) / 262144)
/-- The line's value at zero. -/
def p : ℝ := (∑ k, S.s1 k * S.g k) / 262144 - S.mean * S.q

theorem meanG_eq : S.meanG = 1 / 2 * S.s * ((∑ k, S.s1 k * S.g k) / 262144) := by
  unfold meanG s1
  simp only [← kdh_eq, Finset.sum_mul, Finset.mul_sum, Finset.sum_div]
  exact Finset.sum_congr rfl fun k _ => Finset.sum_congr rfl fun n _ => by ring

theorem meanGx_eq : S.meanGx = 1 / 2 * S.s * ((∑ k, S.s2 k * S.g k) / 262144) := by
  have h : ∀ k, ∑ n, S.dh k n * S.g k * S.xhat k n = 1 / 2 * S.s * (S.s2 k * S.g k) := fun k => by
    unfold s2 xhat
    simp only [← kdh_eq, Finset.mul_sum, ← Finset.sum_sub_distrib, Finset.sum_mul]
    exact Finset.sum_congr rfl fun n _ => by ring
  unfold meanGx
  simp only [h, ← Finset.mul_sum]
  ring

theorem dx_eq (k : Fin 16) (n : Fin 16384) :
    S.dx k n = (S.kdh k n * S.g k - (S.x k n * S.q + S.p)) * (S.rstd * (1 / 2 * S.s)) := by
  unfold dx
  rw [S.meanG_eq, S.meanGx_eq, ← kdh_eq]
  unfold p q xhat
  ring

/-- Where the gain is divided out of each row's term, and so out of the line. -/
theorem dx_eq_gain (k : Fin 16) (n : Fin 16384) (h : S.g k ≠ 0) :
    S.dx k n = (S.kdh k n - (S.x k n * (S.q * (1 / S.g k)) + S.p * (1 / S.g k))) * (S.g k * S.rstd * (1 / 2 * S.s)) := by
  rw [S.dx_eq]
  field_simp

end Slab

/-- The first channel of a group. -/
def first (k : Fin 32) : Fin 512 := ⟨k.val * 16, by omega⟩

namespace Data
variable (D : Data)

/-- Inputs with codes' values for the derivative and moderate gains and scale. -/
structure Small : Prop where
  dy : ∀ b n ch, |D.dy b n ch| ≤ 2 ^ 16
  g : ∀ ch, |D.g ch| ≤ 2 ^ 40
  s : |D.s| ≤ 2 ^ 40

theorem small_slab (h : D.Small) (b : Fin 5) (ch : Fin 512) : (D.slab b ch).Small := ⟨fun _ _ => h.dy _ _ _, fun _ => h.g _, h.s⟩

/-- The scale of a batch's group. -/
def scale (b : Fin 5) (k : Fin 32) : ℝ := (D.slab b (first k)).scale
/-- The codes. -/
def code (b : Fin 5) (n : Fin 16384) (ch : Fin 512) : ℝ := (D.slab b ch).code (spot ch) n

end Data

end Cert.GroupNorm

end
-- ==== Proof.KernelIdeal.Codes.lean ====
/- The second half of a grid point's values, over finite inputs: the line through each group, the rows of the
   input's gradient, the scale and the codes. -/
module

public import proofs.«01_k».proof.Proof.KernelIdeal.Vals
public import proofs.«01_k».proof.Proof.KernelIdeal.Rows
public import proofs.«01_k».proof.Proof.KernelIdeal.RowsGain
public import proofs.«01_k».proof.Proof.KernelIdeal.GroupMax
public import proofs.«01_k».proof.Proof.Bound

@[expose] public section

set_option maxRecDepth 16384

noncomputable section

namespace Cert.KernelIdeal.Parts

open Cert.KernelIdeal.Gen Cert.GroupNorm
open Idealize.ShloMosaic Idealize.ShloMosaic.TcCoe

/-- The product with the 0/1 matrix of the groups, once more. -/
theorem groups2 (v138 : FVec Ideal S8x128 .f32) (r : Fin 8) (l : Fin 128) :
    k0_pay327 v138 k0_pay324 (iota .tc S128x128 32 [1] iota_S128x128_d1_w32) 16#32 k0_pay325 k0_pay326 (ix2 r l) = ∑ k : Fin 16, v138 (ix2 r (lane l k)) := by
  pointwise [k0_pay327, k0_pay324, k0_pay325, k0_pay326]
  simp only [word_quot, same_group]
  exact sum_group l _

theorem pay328 (v92 : FVec Ideal S1x128 .f32) (v138 : FVec Ideal S8x128 .f32) (l : Fin 128) :
    k0_pay328 v92 v138 k0_pay324 (iota .tc S128x128 32 [1] iota_S128x128_d1_w32) 16#32 k0_pay325 k0_pay326 (ix2 0 l)
      = v92 (ix2 0 l) * Ideal.div (∑ k : Fin 16, v138 (ix2 1 (lane l k))) (Ideal.ofBits .f32 1216348160#32) := by
  pointwise [k0_pay328]
  rw [groups2]

theorem pay329 (v72 v92 : FVec Ideal S1x128 .f32) (v138 : FVec Ideal S8x128 .f32) (l : Fin 128) :
    k0_pay329 v72 v92 v138 k0_pay324 (iota .tc S128x128 32 [1] iota_S128x128_d1_w32) 16#32 k0_pay325 k0_pay326 (ix2 0 l)
      = Ideal.div (∑ k : Fin 16, v138 (ix2 0 (lane l k))) (Ideal.ofBits .f32 1216348160#32)
        - v72 (ix2 0 l) * k0_pay328 v92 v138 k0_pay324 (iota .tc S128x128 32 [1] iota_S128x128_d1_w32) 16#32 k0_pay325 k0_pay326 (ix2 0 l) := by
  pointwise [k0_pay329]
  rw [groups2]

theorem tests (v208 : BitVec 1) : Scalar.cmpi .ne (Scalar.extui v208 : BitVec 32) 0#32 = 1#1 ↔ v208 = 1#1 := by
  revert v208; decide

theorem least_pos : 0 < Ideal.ofBits .f32 0x21800000#32 := by
  simp [Ideal.ofBits, Ideal.ieee]
  norm_num [← EReal.coe_mul]

/-- The test on the gains lets none be zero. -/
theorem gains_ne (g : FVec Ideal S1x128 .f32) (h : Scalar.cmpf .oge (k0_pay330 g) (Scalar.ofBits .f32 0x21800000#32) = 1#1) (l : Fin 128) : g (ix2 0 l) ≠ 0 := by
  have e : k0_pay330 g = Finset.fold min (Ideal.ofBits .f32 2139095040#32) (fun x => FloatOps.absf (F := Ideal) (φ := .f32) (g (ix2 0 x.2))) (Finset.univ : Finset (Fin 1 × Fin 128)) := by
    pointwise [k0_pay330]
  have h' : Ideal.ofBits .f32 0x21800000#32 ≤ k0_pay330 g := by
    by_contra hn
    have e : Scalar.cmpf .oge (k0_pay330 g) (Scalar.ofBits (F := Ideal) .f32 0x21800000#32) = BitVec.ofBool (decide (Ideal.ofBits .f32 0x21800000#32 ≤ k0_pay330 g)) := rfl
    rw [e, decide_eq_false hn] at h
    exact absurd h (by decide)
  rw [e, Finset.le_fold_min] at h'
  have hl := h'.2 (0, l) (Finset.mem_univ _)
  intro h0
  dsimp only at hl
  rw [h0, ← EReal.coe_zero, absf_coe, abs_zero] at hl
  exact absurd (least_pos.trans_le hl) (lt_irrefl _)

variable (c : Dev nD) (i : grid0.Coords)
  (arg2 : Memref sig .tc .smem S1 .f32) (harg2 : arg2.IsWhole)
  (arg3 : Memref sig .tc .vmem S1x16384x128 .bf16) (harg3 : arg3.IsWhole)
  (arg4 : Memref sig .tc .vmem S1x16384x128 .fp8e5m2) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x16384x128 .fp8e5m2) (harg7 : arg7.IsWhole)
  (arg8 : Memref sig .tc .vmem S1x1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S16384x128 .f32) (harg11 : arg11.IsWhole)
  (arg12 : Memref sig .tc .vmem S16384x128 .f32) (harg12 : arg12.IsWhole)

variable {f2 : BufTy.Contents (Elt Ideal) arg2.view.ty} {f3 : BufTy.Contents (Elt Ideal) arg3.view.ty}
  {f4 : BufTy.Contents (Elt Ideal) arg4.view.ty} {f5 : BufTy.Contents (Elt Ideal) arg5.view.ty}
  {f6 : BufTy.Contents (Elt Ideal) arg6.view.ty} {p9 p10 : Vec Ideal S1x128 .f32}
  {y7 : Vec Ideal S1x16384x128 .fp8e5m2} {y8 : Vec Ideal S1x1x128 .f32} {y9 y10 : Vec Ideal S1x128 .f32}

variable (T : Tile) (W : Trace (F := Ideal) c i arg2 harg2 arg3 harg3 arg4 harg4 arg5 harg5 arg6 harg6 arg7 harg7 arg8 harg8 arg9 harg9 arg10 harg10 arg11 harg11 arg12 harg12 f2 f3 f4 f5 f6 p9 p10 y7 y8 y9 y10) (H : Holds arg2 arg3 arg4 arg5 arg6 T f2 f3 f4 f5 f6)

include H in
theorem r_coe (l : Fin 128) : k0_pay311 W.v89 (ix2 0 l) = (((T.slab l).rstd : ℝ) : EReal) := by
  pointwise [k0_pay311]
  exact rstd_coe c i arg2 harg2 arg3 harg3 arg4 harg4 arg5 harg5 arg6 harg6 arg7 harg7 arg8 harg8 arg9 harg9 arg10 harg10 arg11 harg11 arg12 harg12 T W H l

include H in
theorem gain_coe (l : Fin 128) : k0_pay312 (F := Ideal) W.v93 (ix2 0 l) = ((T.g l : ℝ) : EReal) := by
  pointwise [k0_pay312]
  exact g_coe c i arg2 harg2 arg3 harg3 arg4 harg4 arg5 harg5 arg6 harg6 arg7 harg7 arg8 harg8 arg9 harg9 arg10 harg10 arg11 harg11 arg12 harg12 T W H l

include H in
/-- The derivatives' sums, times the gains. -/
theorem v138_sum (l : Fin 128) : W.v138 (ix2 0 l) = (((T.slab l).s1 (place l) * T.g l : ℝ) : EReal) := by
  rw [W.e138]
  have e : k0_pay323 (iota .tc S8x128 32 [0] iota_S8x128_d0_w32) (k0_pay312 (F := Ideal) W.v93) (k0_pay316 W.cs.1) (k0_pay317 W.v72 W.v89 W.cs.1 W.cs.2) (ix2 0 l)
      = k0_pay316 W.cs.1 (ix2 0 l) * k0_pay312 (F := Ideal) W.v93 (ix2 0 l) := by
    pointwise [k0_pay323]
  rw [e, gain_coe c i arg2 harg2 arg3 harg3 arg4 harg4 arg5 harg5 arg6 harg6 arg7 harg7 arg8 harg8 arg9 harg9 arg10 harg10 arg11 harg11 arg12 harg12 T W H]
  pointwise [k0_pay316]
  rw [sum_dh c i arg2 harg2 arg3 harg3 arg4 harg4 arg5 harg5 arg6 harg6 arg7 harg7 arg8 harg8 arg9 harg9 arg10 harg10 arg11 harg11 arg12 harg12 T W H, ← EReal.coe_mul]
  rfl

include H in
/-- The derivatives' sums against the normalized entries, times the gains. -/
theorem v138_prod (l : Fin 128) : W.v138 (ix2 1 l) = (((T.slab l).s2 (place l) * T.g l : ℝ) : EReal) := by
  rw [W.e138]
  have e : k0_pay323 (iota .tc S8x128 32 [0] iota_S8x128_d0_w32) (k0_pay312 (F := Ideal) W.v93) (k0_pay316 W.cs.1) (k0_pay317 W.v72 W.v89 W.cs.1 W.cs.2) (ix2 1 l)
      = k0_pay317 W.v72 W.v89 W.cs.1 W.cs.2 (ix2 0 l) * k0_pay312 (F := Ideal) W.v93 (ix2 0 l) := by
    pointwise [k0_pay323]
    rfl
  rw [e, gain_coe c i arg2 harg2 arg3 harg3 arg4 harg4 arg5 harg5 arg6 harg6 arg7 harg7 arg8 harg8 arg9 harg9 arg10 harg10 arg11 harg11 arg12 harg12 T W H]
  pointwise [k0_pay317, k0_pay316]
  rw [sum_dh c i arg2 harg2 arg3 harg3 arg4 harg4 arg5 harg5 arg6 harg6 arg7 harg7 arg8 harg8 arg9 harg9 arg10 harg10 arg11 harg11 arg12 harg12 T W H, sum_dhx c i arg2 harg2 arg3 harg3 arg4 harg4 arg5 harg5 arg6 harg6 arg7 harg7 arg8 harg8 arg9 harg9 arg10 harg10 arg11 harg11 arg12 harg12 T W H, v72_mean c i arg2 harg2 arg3 harg3 arg4 harg4 arg5 harg5 arg6 harg6 arg7 harg7 arg8 harg8 arg9 harg9 arg10 harg10 arg11 harg11 arg12 harg12 T W H, r_coe c i arg2 harg2 arg3 harg3 arg4 harg4 arg5 harg5 arg6 harg6 arg7 harg7 arg8 harg8 arg9 harg9 arg10 harg10 arg11 harg11 arg12 harg12 T W H]
  simp only [← EReal.coe_mul, ← EReal.coe_sub]
  rfl

include H in
theorem q_coe (l : Fin 128) : W.v200 (ix2 0 l) = (((T.slab l).q : ℝ) : EReal) := by
  rw [W.e200, pay328, r_coe c i arg2 harg2 arg3 harg3 arg4 harg4 arg5 harg5 arg6 harg6 arg7 harg7 arg8 harg8 arg9 harg9 arg10 harg10 arg11 harg11 arg12 harg12 T W H]
  simp only [v138_prod c i arg2 harg2 arg3 harg3 arg4 harg4 arg5 harg5 arg6 harg6 arg7 harg7 arg8 harg8 arg9 harg9 arg10 harg10 arg11 harg11 arg12 harg12 T W H, coe_sum, count_coe, slab_lane, place_lane]
  rw [div_coe _ _ (by norm_num), ← EReal.coe_mul]
  rfl

include H in
theorem p_coe (l : Fin 128) : W.v202 (ix2 0 l) = (((T.slab l).p : ℝ) : EReal) := by
  rw [W.e202, pay329, ← W.e200, q_coe c i arg2 harg2 arg3 harg3 arg4 harg4 arg5 harg5 arg6 harg6 arg7 harg7 arg8 harg8 arg9 harg9 arg10 harg10 arg11 harg11 arg12 harg12 T W H, v72_mean c i arg2 harg2 arg3 harg3 arg4 harg4 arg5 harg5 arg6 harg6 arg7 harg7 arg8 harg8 arg9 harg9 arg10 harg10 arg11 harg11 arg12 harg12 T W H]
  simp only [v138_sum c i arg2 harg2 arg3 harg3 arg4 harg4 arg5 harg5 arg6 harg6 arg7 harg7 arg8 harg8 arg9 harg9 arg10 harg10 arg11 harg11 arg12 harg12 T W H, coe_sum, count_coe, slab_lane, place_lane]
  rw [div_coe _ _ (by norm_num), ← EReal.coe_mul, ← EReal.coe_sub]
  rfl

include H in
/-- The kept rows of the scaled derivative. -/
theorem kept_dh (l : Fin 128) (n : Fin 16384) : row2 (arg11.view.read (Elt Ideal) W.z11) l n.val = (((T.slab l).kdh (place l) n : ℝ) : EReal) := by
  unfold row2
  rw [dif_pos n.isLt, W.ez11, t3_all_arg11 c i arg2 harg2 arg3 harg3 arg4 harg4 arg5 harg5 arg6 harg6 arg7 harg7 arg8 harg8 arg9 harg9 arg10 harg10 arg11 harg11 arg12 harg12 _ _ _ _ _ _ _ _ f3 f4 _ _ l n.val n.isLt k0_t3_loop.trips le_rfl
    (by have : k0_t3_loop.trips = 64 := trips3; rw [this]; have := n.isLt; omega)]
  exact dhRow_coe c i arg2 harg2 arg3 harg3 arg4 harg4 arg5 harg5 arg6 harg6 arg7 harg7 arg8 harg8 arg9 harg9 arg10 harg10 arg11 harg11 arg12 harg12 T W H l n

include H in
/-- The kept rows of the input. -/
theorem kept_x (l : Fin 128) (n : Fin 16384) : row2 (arg12.view.read (Elt Ideal) W.z12) l n.val = (((T.slab l).x (place l) n : ℝ) : EReal) := by
  unfold row2
  rw [dif_pos n.isLt, W.ez12, t3_all_arg12 c i arg2 harg2 arg3 harg3 arg4 harg4 arg5 harg5 arg6 harg6 arg7 harg7 arg8 harg8 arg9 harg9 arg10 harg10 arg11 harg11 arg12 harg12 _ _ _ _ _ _ _ _ f3 f4 _ _ l n.val n.isLt k0_t3_loop.trips le_rfl
    (by have : k0_t3_loop.trips = 64 := trips3; rw [this]; have := n.isLt; omega), rowx arg2 arg3 arg4 arg5 arg6 T H, slab_x]

/-- The largest over the rows by residue has the bounds of all the rows. -/
theorem bounds_rows (F : ℕ → EReal) (d : Fin 16384 → ℝ) (h : ∀ n : Fin 16384, F n.val = ((d n : ℝ) : EReal)) (v : Fin 8 → EReal)
    (hv : ∀ u, v u = max 0 ((Finset.range 2048).sup fun j => FloatOps.absf (F := Ideal) (φ := .f32) (F (8 * j + u.val)))) (B : EReal) :
    Finset.fold max (Ideal.ofBits .f32 4286578688#32) v Finset.univ ≤ B ↔ ∀ n, ((|d n| : ℝ) : EReal) ≤ B := by
  rw [Finset.fold_max_le, least_coe]
  simp only [bot_le, true_and, hv, max_le_iff, Finset.sup_le_iff, Finset.mem_range, Finset.mem_univ, forall_true_left]
  constructor
  · intro hB n
    have := (hB ⟨n.val % 8, Nat.mod_lt _ (by norm_num)⟩).2 (n.val / 8) (by have := n.isLt; omega)
    dsimp only at this
    rw [Nat.div_add_mod, h n, absf_coe] at this
    exact this
  · intro hB u
    refine ⟨(EReal.coe_le_coe_iff.mpr (abs_nonneg (d 0)) : ((0 : ℝ) : EReal) ≤ _).trans (hB 0), fun j hj => ?_⟩
    have hn : 8 * j + u.val < 16384 := by have := u.isLt; omega
    have := h ⟨8 * j + u.val, hn⟩
    dsimp only at this
    rw [this, absf_coe]
    exact hB _

/-- A lane's rows before the last factor, that factor, and their bounds. -/
structure Line (S : Slab) (k : Fin 16) (z : S16384x128.Idx → EReal) (l : Fin 128) (κ : EReal) (v : FVec Ideal S8x128 .f32) (d : Fin 16384 → ℝ) (t : ℝ) : Prop where
  dx : ∀ n, d n * t = S.dx k n
  factor : κ = (t : EReal)
  rows : ∀ n : Fin 16384, row2 z l n.val = ((d n : ℝ) : EReal)
  bounds : ∀ B : EReal, Finset.fold max (Ideal.ofBits .f32 4286578688#32) (fun u : Fin 8 => v (ix2 u l)) Finset.univ ≤ B ↔ ∀ n, ((|d n| : ℝ) : EReal) ≤ B

theorem pay333 (v92 v94 : FVec Ideal S1x128 .f32) (v114 : EReal) (v208 : BitVec 1) (l : Fin 128) :
    k0_pay333 v92 v94 v114 v208 k0_pay332 (ix2 0 l) = Scalar.select v208 (v94 (ix2 0 l)) 1 * v92 (ix2 0 l) * v114 := by
  pointwise [k0_pay333, k0_pay332]

theorem pay331 (v94 : FVec Ideal S1x128 .f32) (l : Fin 128) :
    k0_pay331 v94 (ix2 0 l) = Scalar.select (Scalar.cmpf .oge (k0_pay330 v94) (Scalar.ofBits .f32 0x21800000#32)) (Ideal.div 1 (v94 (ix2 0 l))) 1 := by
  pointwise [k0_pay331]
  split <;> pointwise []

theorem one_div_coe (g : ℝ) (h : g ≠ 0) : Ideal.div 1 (g : EReal) = ((1 / g : ℝ) : EReal) := by
  rw [← EReal.coe_one]; exact div_coe 1 g h

include H in
theorem half_s : k0_pay318 (F := Ideal) W.s = ((1 / 2 * T.s : ℝ) : EReal) := by
  rw [s_coe c i arg2 harg2 arg3 harg3 arg4 harg4 arg5 harg5 arg6 harg6 arg7 harg7 arg8 harg8 arg9 harg9 arg10 harg10 arg11 harg11 arg12 harg12 T W H, EReal.coe_mul, ← half_coe]
  rfl

include H in
/-- The lane's rows, whichever way the kernel takes. -/
theorem line (l : Fin 128) : ∃ d t, Line (T.slab l) (place l) (arg11.view.read (Elt Ideal) W.z) l
    (k0_pay333 (k0_pay311 W.v89) (k0_pay312 (F := Ideal) W.v93) (k0_pay318 (F := Ideal) W.s) W.v208 k0_pay332 (ix2 0 l)) W.v222 d t := by
  have e222 := W.e222
  have ez := W.ez
  by_cases hb : W.v208 = 1#1
  · have hg : T.g l ≠ 0 := fun h0 => gains_ne _ (W.e208.symm.trans hb) l (by rw [gain_coe c i arg2 harg2 arg3 harg3 arg4 harg4 arg5 harg5 arg6 harg6 arg7 harg7 arg8 harg8 arg9 harg9 arg10 harg10 arg11 harg11 arg12 harg12 T W H, h0]; rfl)
    have hc := (tests W.v208).mpr hb
    rw [if_pos hc] at e222 ez
    obtain ⟨h1, h2⟩ := t4_all c i arg2 harg2 arg3 harg3 arg4 harg4 arg5 harg5 arg6 harg6 arg7 harg7 arg8 harg8 arg9 harg9 arg10 harg10 arg11 harg11 arg12 harg12 k0_pay301 (k0_pay311 W.v89) (k0_pay312 (F := Ideal) W.v93) (k0_pay318 (F := Ideal) W.s) W.v200 W.v202 W.v208 (k0_pay331 (k0_pay312 (F := Ideal) W.v93)) k0_pay332 W.z12 W.z11 k0_pay301 l k0_t4_loop.trips le_rfl
    have tr : k0_t4_loop.trips = 32 := by decide +kernel
    have eq : k0_pay334 W.v200 (k0_pay331 (k0_pay312 (F := Ideal) W.v93)) (ix2 0 l) = (((T.slab l).q * (1 / T.g l) : ℝ) : EReal) := by
      have e : k0_pay334 W.v200 (k0_pay331 (k0_pay312 (F := Ideal) W.v93)) (ix2 0 l) = W.v200 (ix2 0 l) * k0_pay331 (k0_pay312 (F := Ideal) W.v93) (ix2 0 l) := by pointwise [k0_pay334]
      rw [e, q_coe c i arg2 harg2 arg3 harg3 arg4 harg4 arg5 harg5 arg6 harg6 arg7 harg7 arg8 harg8 arg9 harg9 arg10 harg10 arg11 harg11 arg12 harg12 T W H, pay331, ← W.e208, hb, gain_coe c i arg2 harg2 arg3 harg3 arg4 harg4 arg5 harg5 arg6 harg6 arg7 harg7 arg8 harg8 arg9 harg9 arg10 harg10 arg11 harg11 arg12 harg12 T W H, one_div_coe _ hg, EReal.coe_mul]
      rfl
    have ep : k0_pay335 W.v202 (k0_pay331 (k0_pay312 (F := Ideal) W.v93)) (ix2 0 l) = (((T.slab l).p * (1 / T.g l) : ℝ) : EReal) := by
      have e : k0_pay335 W.v202 (k0_pay331 (k0_pay312 (F := Ideal) W.v93)) (ix2 0 l) = W.v202 (ix2 0 l) * k0_pay331 (k0_pay312 (F := Ideal) W.v93) (ix2 0 l) := by pointwise [k0_pay335]
      rw [e, p_coe c i arg2 harg2 arg3 harg3 arg4 harg4 arg5 harg5 arg6 harg6 arg7 harg7 arg8 harg8 arg9 harg9 arg10 harg10 arg11 harg11 arg12 harg12 T W H, pay331, ← W.e208, hb, gain_coe c i arg2 harg2 arg3 harg3 arg4 harg4 arg5 harg5 arg6 harg6 arg7 harg7 arg8 harg8 arg9 harg9 arg10 harg10 arg11 harg11 arg12 harg12 T W H, one_div_coe _ hg, EReal.coe_mul]
      rfl
    have hF : ∀ n : Fin 16384, lin1 (arg11.view.read (Elt Ideal) W.z11) (arg12.view.read (Elt Ideal) W.z12) (k0_pay334 W.v200 (k0_pay331 (k0_pay312 (F := Ideal) W.v93)) (ix2 0 l)) (k0_pay335 W.v202 (k0_pay331 (k0_pay312 (F := Ideal) W.v93)) (ix2 0 l)) l n.val
        = (((T.slab l).kdh (place l) n - ((T.slab l).x (place l) n * ((T.slab l).q * (1 / T.g l)) + (T.slab l).p * (1 / T.g l)) : ℝ) : EReal) := fun n => by
      unfold lin1
      rw [kept_dh c i arg2 harg2 arg3 harg3 arg4 harg4 arg5 harg5 arg6 harg6 arg7 harg7 arg8 harg8 arg9 harg9 arg10 harg10 arg11 harg11 arg12 harg12 T W H, kept_x c i arg2 harg2 arg3 harg3 arg4 harg4 arg5 harg5 arg6 harg6 arg7 harg7 arg8 harg8 arg9 harg9 arg10 harg10 arg11 harg11 arg12 harg12 T W H, eq, ep]
      simp only [← EReal.coe_mul, ← EReal.coe_add, ← EReal.coe_sub]
    refine ⟨fun n => (T.slab l).kdh (place l) n - ((T.slab l).x (place l) n * ((T.slab l).q * (1 / T.g l)) + (T.slab l).p * (1 / T.g l)), T.g l * (T.slab l).rstd * (1 / 2 * T.s), ⟨fun n => ?_, ?_, fun n => ?_, ?_⟩⟩
    · have := (T.slab l).dx_eq_gain (place l) n (by rw [slab_g]; exact hg)
      rw [slab_g] at this
      exact this.symm
    · rw [pay333, hb, r_coe c i arg2 harg2 arg3 harg3 arg4 harg4 arg5 harg5 arg6 harg6 arg7 harg7 arg8 harg8 arg9 harg9 arg10 harg10 arg11 harg11 arg12 harg12 T W H, gain_coe c i arg2 harg2 arg3 harg3 arg4 harg4 arg5 harg5 arg6 harg6 arg7 harg7 arg8 harg8 arg9 harg9 arg10 harg10 arg11 harg11 arg12 harg12 T W H, half_s c i arg2 harg2 arg3 harg3 arg4 harg4 arg5 harg5 arg6 harg6 arg7 harg7 arg8 harg8 arg9 harg9 arg10 harg10 arg11 harg11 arg12 harg12 T W H, EReal.coe_mul, EReal.coe_mul]
      rfl
    · unfold row2
      rw [dif_pos n.isLt, ez, h2 n.val n.isLt, if_pos (by rw [tr]; have := n.isLt; omega)]
      exact hF n
    · exact bounds_rows _ _ hF _ fun u => by rw [e222, h1 u, zero8, tr]
  · have hb0 : W.v208 = 0#1 := by
      revert hb; generalize W.v208 = b; revert b; decide
    have hc : ¬ Scalar.cmpi .ne (Scalar.extui W.v208 : BitVec 32) 0#32 = 1#1 := fun h => hb ((tests W.v208).mp h)
    rw [if_neg hc] at e222 ez
    obtain ⟨h1, h2⟩ := t5_all c i arg2 harg2 arg3 harg3 arg4 harg4 arg5 harg5 arg6 harg6 arg7 harg7 arg8 harg8 arg9 harg9 arg10 harg10 arg11 harg11 arg12 harg12 k0_pay301 (k0_pay311 W.v89) (k0_pay312 (F := Ideal) W.v93) (k0_pay318 (F := Ideal) W.s) W.v200 W.v202 W.v208 (k0_pay331 (k0_pay312 (F := Ideal) W.v93)) k0_pay332 W.z12 W.z11 k0_pay301 l k0_t5_loop.trips le_rfl
    have tr : k0_t5_loop.trips = 32 := by decide +kernel
    have eq : k0_pay334 W.v200 (k0_pay331 (k0_pay312 (F := Ideal) W.v93)) (ix2 0 l) = (((T.slab l).q : ℝ) : EReal) := by
      have e : k0_pay334 W.v200 (k0_pay331 (k0_pay312 (F := Ideal) W.v93)) (ix2 0 l) = W.v200 (ix2 0 l) * k0_pay331 (k0_pay312 (F := Ideal) W.v93) (ix2 0 l) := by pointwise [k0_pay334]
      rw [e, q_coe c i arg2 harg2 arg3 harg3 arg4 harg4 arg5 harg5 arg6 harg6 arg7 harg7 arg8 harg8 arg9 harg9 arg10 harg10 arg11 harg11 arg12 harg12 T W H, pay331, ← W.e208, hb0]
      exact mul_one _
    have ep : k0_pay335 W.v202 (k0_pay331 (k0_pay312 (F := Ideal) W.v93)) (ix2 0 l) = (((T.slab l).p : ℝ) : EReal) := by
      have e : k0_pay335 W.v202 (k0_pay331 (k0_pay312 (F := Ideal) W.v93)) (ix2 0 l) = W.v202 (ix2 0 l) * k0_pay331 (k0_pay312 (F := Ideal) W.v93) (ix2 0 l) := by pointwise [k0_pay335]
      rw [e, p_coe c i arg2 harg2 arg3 harg3 arg4 harg4 arg5 harg5 arg6 harg6 arg7 harg7 arg8 harg8 arg9 harg9 arg10 harg10 arg11 harg11 arg12 harg12 T W H, pay331, ← W.e208, hb0]
      exact mul_one _
    have hF : ∀ n : Fin 16384, lin (arg11.view.read (Elt Ideal) W.z11) (arg12.view.read (Elt Ideal) W.z12) (k0_pay312 (F := Ideal) W.v93 (ix2 0 l)) (k0_pay334 W.v200 (k0_pay331 (k0_pay312 (F := Ideal) W.v93)) (ix2 0 l)) (k0_pay335 W.v202 (k0_pay331 (k0_pay312 (F := Ideal) W.v93)) (ix2 0 l)) l n.val
        = (((T.slab l).kdh (place l) n * T.g l - ((T.slab l).x (place l) n * (T.slab l).q + (T.slab l).p) : ℝ) : EReal) := fun n => by
      unfold lin
      rw [kept_dh c i arg2 harg2 arg3 harg3 arg4 harg4 arg5 harg5 arg6 harg6 arg7 harg7 arg8 harg8 arg9 harg9 arg10 harg10 arg11 harg11 arg12 harg12 T W H, kept_x c i arg2 harg2 arg3 harg3 arg4 harg4 arg5 harg5 arg6 harg6 arg7 harg7 arg8 harg8 arg9 harg9 arg10 harg10 arg11 harg11 arg12 harg12 T W H, eq, ep, gain_coe c i arg2 harg2 arg3 harg3 arg4 harg4 arg5 harg5 arg6 harg6 arg7 harg7 arg8 harg8 arg9 harg9 arg10 harg10 arg11 harg11 arg12 harg12 T W H]
      simp only [← EReal.coe_mul, ← EReal.coe_add, ← EReal.coe_sub]
    refine ⟨fun n => (T.slab l).kdh (place l) n * T.g l - ((T.slab l).x (place l) n * (T.slab l).q + (T.slab l).p), (T.slab l).rstd * (1 / 2 * T.s), ⟨fun n => ?_, ?_, fun n => ?_, ?_⟩⟩
    · have := (T.slab l).dx_eq (place l) n
      rw [slab_g] at this
      exact this.symm
    · rw [pay333, hb0, r_coe c i arg2 harg2 arg3 harg3 arg4 harg4 arg5 harg5 arg6 harg6 arg7 harg7 arg8 harg8 arg9 harg9 arg10 harg10 arg11 harg11 arg12 harg12 T W H, gain_coe c i arg2 harg2 arg3 harg3 arg4 harg4 arg5 harg5 arg6 harg6 arg7 harg7 arg8 harg8 arg9 harg9 arg10 harg10 arg11 harg11 arg12 harg12 T W H, half_s c i arg2 harg2 arg3 harg3 arg4 harg4 arg5 harg5 arg6 harg6 arg7 harg7 arg8 harg8 arg9 harg9 arg10 harg10 arg11 harg11 arg12 harg12 T W H, EReal.coe_mul]
      exact congrArg (· * _) (one_mul _)
    · unfold row2
      rw [dif_pos n.isLt, ez, h2 n.val n.isLt, if_pos (by rw [tr]; have := n.isLt; omega)]
      exact hF n
    · exact bounds_rows _ _ hF _ fun u => by rw [e222, h1 u, zero8, tr]

include H in
/-- The exchanges leave the group's largest magnitude. -/
theorem peak_coe (l : Fin 128) : peak (peakOf (k0_pay311 W.v89) (k0_pay312 (F := Ideal) W.v93) (k0_pay318 (F := Ideal) W.s) W.v208 W.v222) (ix2 0 l) = (((T.slab l).amax : ℝ) : EReal) := by
  refine (T.slab l).amax_of_bounds _ fun B => ?_
  rw [peak_le]
  refine forall_congr' fun k => ?_
  obtain ⟨d, t, L⟩ := line c i arg2 harg2 arg3 harg3 arg4 harg4 arg5 harg5 arg6 harg6 arg7 harg7 arg8 harg8 arg9 harg9 arg10 harg10 arg11 harg11 arg12 harg12 T W H (lane l k)
  rw [peakOf_eq, L.factor, absf_coe, bounds_mul d t _ L.bounds]
  simp only [L.dx, slab_lane, place_lane]

include H in
theorem exponent_coe (l : Fin 128) (hS : (T.slab l).Small) :
    k0_pay345 (k0_pay341 (k0_pay311 W.v89) (k0_pay312 (F := Ideal) W.v93) (k0_pay318 (F := Ideal) W.s) W.v208 k0_pay332 W.v222)
      (k0_pay342 (k0_pay311 W.v89) (k0_pay312 (F := Ideal) W.v93) (k0_pay318 (F := Ideal) W.s) W.v208 k0_pay332 W.v222)
      (k0_pay343 (k0_pay311 W.v89) (k0_pay312 (F := Ideal) W.v93) (k0_pay318 (F := Ideal) W.s) W.v208 k0_pay332 W.v222) k0_pay344 0#32 (ix2 0 l) = BitVec.ofInt 32 (T.slab l).e :=
  exponent _ _ _ _ _ l _ (peak_coe c i arg2 harg2 arg3 harg3 arg4 harg4 arg5 harg5 arg6 harg6 arg7 harg7 arg8 harg8 arg9 harg9 arg10 harg10 arg11 harg11 arg12 harg12 T W H l) (T.slab l).amax_nonneg ((T.slab l).amax_lt hS)

include W H in
/-- The scale stored at a lane. -/
theorem scale_coe (l : Fin 128) (hS : (T.slab l).Small) : y8 (ix3 0 0 l) = (((T.slab l).scale : ℝ) : EReal) := by
  rw [W.ey8]
  have e := exponent_coe c i arg2 harg2 arg3 harg3 arg4 harg4 arg5 harg5 arg6 harg6 arg7 harg7 arg8 harg8 arg9 harg9 arg10 harg10 arg11 harg11 arg12 harg12 T W H l hS
  revert e
  generalize k0_pay341 (k0_pay311 W.v89) (k0_pay312 (F := Ideal) W.v93) (k0_pay318 (F := Ideal) W.s) W.v208 k0_pay332 W.v222 = a
  generalize k0_pay342 (k0_pay311 W.v89) (k0_pay312 (F := Ideal) W.v93) (k0_pay318 (F := Ideal) W.s) W.v208 k0_pay332 W.v222 = b
  generalize k0_pay343 (k0_pay311 W.v89) (k0_pay312 (F := Ideal) W.v93) (k0_pay318 (F := Ideal) W.s) W.v208 k0_pay332 W.v222 = d
  intro e
  have e' : k0_pay346 a b d k0_pay344 0#32 (ix3 0 0 l) = Ideal.ofBits .f32 (IntOp.shli .vector (IntOp.addi (k0_pay345 a b d k0_pay344 0#32 (ix2 0 l)) 127#32) 23#32) := by
    pointwise [k0_pay346]
  rw [e', e]
  exact pow_word _ (T.slab l).e_ge ((T.slab l).e_le hS)

include W H in
/-- The code stored at a row of a lane. -/
theorem code_coe (l : Fin 128) (n : Fin 16384) (hS : (T.slab l).Small) : y7 (ix3 0 n l) = (((T.slab l).code (place l) n : ℝ) : EReal) := by
  have ha := t6_all c i arg2 harg2 arg3 harg3 arg4 harg4 arg5 harg5 arg6 harg6 arg7 harg7 arg8 harg8 arg9 harg9 arg10 harg10 arg11 harg11 arg12 harg12 (k0_pay333 (k0_pay311 W.v89) (k0_pay312 (F := Ideal) W.v93) (k0_pay318 (F := Ideal) W.s) W.v208 k0_pay332)
    (k0_pay347 (k0_pay341 (k0_pay311 W.v89) (k0_pay312 (F := Ideal) W.v93) (k0_pay318 (F := Ideal) W.s) W.v208 k0_pay332 W.v222)
      (k0_pay342 (k0_pay311 W.v89) (k0_pay312 (F := Ideal) W.v93) (k0_pay318 (F := Ideal) W.s) W.v208 k0_pay332 W.v222)
      (k0_pay343 (k0_pay311 W.v89) (k0_pay312 (F := Ideal) W.v93) (k0_pay318 (F := Ideal) W.s) W.v208 k0_pay332 W.v222) k0_pay344 0#32) W.z
    (harg7.unread fun _ => Scalar.ofBits (F := Ideal) .fp8e5m2 0x00#8) l n.val n.isLt k0_t6_loop.trips le_rfl
    (by have : k0_t6_loop.trips = 32 := trips6; rw [this]; have := n.isLt; omega)
  have e := exponent_coe c i arg2 harg2 arg3 harg3 arg4 harg4 arg5 harg5 arg6 harg6 arg7 harg7 arg8 harg8 arg9 harg9 arg10 harg10 arg11 harg11 arg12 harg12 T W H l hS
  rw [W.ey7]
  refine ha.trans ?_
  obtain ⟨d, t, L⟩ := line c i arg2 harg2 arg3 harg3 arg4 harg4 arg5 harg5 arg6 harg6 arg7 harg7 arg8 harg8 arg9 harg9 arg10 harg10 arg11 harg11 arg12 harg12 T W H l
  unfold code
  rw [L.factor, L.rows]
  have hL := L.dx n
  clear ha L
  revert e
  generalize k0_pay341 (k0_pay311 W.v89) (k0_pay312 (F := Ideal) W.v93) (k0_pay318 (F := Ideal) W.s) W.v208 k0_pay332 W.v222 = a
  generalize k0_pay342 (k0_pay311 W.v89) (k0_pay312 (F := Ideal) W.v93) (k0_pay318 (F := Ideal) W.s) W.v208 k0_pay332 W.v222 = b
  generalize k0_pay343 (k0_pay311 W.v89) (k0_pay312 (F := Ideal) W.v93) (k0_pay318 (F := Ideal) W.s) W.v208 k0_pay332 W.v222 = f
  intro e
  have e' : k0_pay347 a b f k0_pay344 0#32 (ix2 0 l) = IntOp.shli .vector (IntOp.addi (IntOp.subi 0#32 (k0_pay345 a b f k0_pay344 0#32 (ix2 0 l))) 127#32) 23#32 := by
    pointwise [k0_pay347]
  rw [e', e, pow_neg_word _ (T.slab l).e_ge ((T.slab l).e_le hS), ← EReal.coe_mul, ← EReal.coe_mul, clamp_coe, ← mul_assoc]
  unfold Slab.code
  rw [← hL]

end Cert.KernelIdeal.Parts

end
-- ==== Proof.KernelIdeal.Arrays.lean ====
/- The arrays the pipelined launch leaves, over finite inputs. -/
module

public import proofs.«01_k».proof.Proof.KernelIdeal.Run
public import proofs.«01_k».proof.Proof.KernelIdeal.Vals
public import proofs.«01_k».proof.Proof.KernelIdeal.Codes
public import Idealize.ShloMosaic.Lib.Pipeline.ValueKit
public import Idealize.ShloMosaic.Lib.StableHlo.RunRead

@[expose] public section

set_option maxRecDepth 16384

noncomputable section

namespace Cert.KernelIdeal.Parts

open Cert.KernelIdeal.Gen Cert.GroupNorm
open Idealize.ShloMosaic Idealize.ShloMosaic.TcCoe

/-- The channel of a tile's lane. -/
def col (q : Fin 4) (l : Fin 128) : Fin 512 := ⟨128 * q.val + l.val, by omega⟩

theorem spot_col (q : Fin 4) (l : Fin 128) : spot (col q l) = place l := Fin.ext (by unfold spot col place; dsimp only; omega)
theorem chan_col (q : Fin 4) (l : Fin 128) (k : Fin 16) : chan (col q l) k = col q (lane l k) :=
  Fin.ext (by unfold chan col lane; dsimp only; omega)

/-- The tile of a lane tile and a batch. -/
def tile (D : Data) (q : Fin 4) (b : Fin 5) : Tile :=
  ⟨fun l n => D.x b n (col q l), fun l n => D.dy b n (col q l), fun l => D.g (col q l), fun l => D.b (col q l), D.s⟩

theorem tile_slab (D : Data) (q : Fin 4) (b : Fin 5) (l : Fin 128) : (tile D q b).slab l = D.slab b (col q l) := by
  unfold tile Tile.slab Data.slab; simp only [chan_col]

variable (m : (ℓ : Loc nD τ sig) → Buf (Elt Ideal) ℓ) (c : Dev nD)

/-- The memory holds the data in its arguments. -/
structure Given (D : Data) : Prop where
  x : ∀ b n ch, (m ((c.tc : Thread nD τ).loc main_arg0) : S5x16384x512.Idx → EReal) (ix3 b n ch) = ((D.x b n ch : ℝ) : EReal)
  g : ∀ ch, (m ((c.tc : Thread nD τ).loc main_arg1) : S512.Idx → EReal) (ix1 ch) = ((D.g ch : ℝ) : EReal)
  b : ∀ ch, (m ((c.tc : Thread nD τ).loc main_arg2) : S512.Idx → EReal) (ix1 ch) = ((D.b ch : ℝ) : EReal)
  dy : ∀ b n ch, (bitcastToFloat (F := Ideal) .fp8e5m2 (m ((c.tc : Thread nD τ).loc main_arg3) : S5x16384x512.Idx → BitVec 8) : S5x16384x512.Idx → EReal) (ix3 b n ch)
    = ((D.dy b n ch : ℝ) : EReal)
  s : ∀ i : S_.Idx, (m ((c.tc : Thread nD τ).loc main_arg4) : S_.Idx → EReal) i = ((D.s : ℝ) : EReal)

/-- A grid point's lane tile. -/
def lanes (t : Fin cfg0.N) : Fin 4 := ⟨t.val / 5, by have : t.val < 20 := t.isLt; omega⟩
/-- A grid point's batch. -/
def batch (t : Fin cfg0.N) : Fin 5 := ⟨t.val % 5, by omega⟩

theorem index1 : ∀ t : Fin cfg0.N, win0_1.index t = ![t.val % 5, 0, t.val / 5] := (by decide +kernel : ∀ t : Fin grid0.N, _)
theorem index2 : ∀ t : Fin cfg0.N, win0_2.index t = ![t.val % 5, 0, t.val / 5] := (by decide +kernel : ∀ t : Fin grid0.N, _)
theorem index3 : ∀ t : Fin cfg0.N, win0_3.index t = ![0, t.val / 5] := (by decide +kernel : ∀ t : Fin grid0.N, _)
theorem index4 : ∀ t : Fin cfg0.N, win0_4.index t = ![0, t.val / 5] := (by decide +kernel : ∀ t : Fin grid0.N, _)
theorem index5 : ∀ t : Fin cfg0.N, win0_5.index t = ![t.val % 5, 0, t.val / 5] := (by decide +kernel : ∀ t : Fin grid0.N, _)
theorem index6 : ∀ t : Fin cfg0.N, win0_6.index t = ![t.val % 5, 0, t.val / 5] := (by decide +kernel : ∀ t : Fin grid0.N, _)
theorem index7 : ∀ t : Fin cfg0.N, win0_7.index t = ![0, t.val / 5] := (by decide +kernel : ∀ t : Fin grid0.N, _)
theorem index8 : ∀ t : Fin cfg0.N, win0_8.index t = ![0, t.val / 5] := (by decide +kernel : ∀ t : Fin grid0.N, _)

theorem block1 (t : Fin cfg0.N) (n : Fin 16384) (l : Fin 128) :
    iblk m c 1 t (ix3 0 n l) = (m ((c.tc : Thread nD τ).loc main_arg0) : S5x16384x512.Idx → EReal) (ix3 (batch t) n (col (lanes t) l)) := by
  blk_simp [iblk]
  rw [V_main_arg0]
  refine congrArg _ ?_
  unfold batch lanes col
  blk_ext [index1 t]

theorem block2 (t : Fin cfg0.N) (n : Fin 16384) (l : Fin 128) :
    iblk m c 2 t (ix3 0 n l) = (bitcastToFloat (F := Ideal) .fp8e5m2 (m ((c.tc : Thread nD τ).loc main_arg3) : S5x16384x512.Idx → BitVec 8) : S5x16384x512.Idx → EReal) (ix3 (batch t) n (col (lanes t) l)) := by
  blk_simp [iblk]
  show StableHlo.after _ _ _ _ = _
  after_reads_simp
  refine congrArg _ ?_
  unfold batch lanes col
  blk_ext [index2 t]

theorem block3 (t : Fin cfg0.N) (l : Fin 128) :
    iblk m c 3 t (ix2 0 l) = (m ((c.tc : Thread nD τ).loc main_arg1) : S512.Idx → EReal) (ix1 (col (lanes t) l)) := by
  have e : (win0_3.blk t).view.emb (ix2 0 l) = ix2 0 (col (lanes t) l) := by
    unfold lanes col
    blk_ext [index3 t]
  blk_simp [iblk]
  rw [e]
  show StableHlo.after _ _ _ _ = _
  after_reads_simp
  pointwise

theorem block4 (t : Fin cfg0.N) (l : Fin 128) :
    iblk m c 4 t (ix2 0 l) = (m ((c.tc : Thread nD τ).loc main_arg2) : S512.Idx → EReal) (ix1 (col (lanes t) l)) := by
  have e : (win0_4.blk t).view.emb (ix2 0 l) = ix2 0 (col (lanes t) l) := by
    unfold lanes col
    blk_ext [index4 t]
  blk_simp [iblk]
  rw [e]
  show StableHlo.after _ _ _ _ = _
  after_reads_simp
  pointwise

theorem block0 (t : Fin cfg0.N) :
    iblk m c 0 t (ix1 0) = (m ((c.tc : Thread nD τ).loc main_arg4) : S_.Idx → EReal) ix0 := by
  blk_simp [iblk]
  show StableHlo.after _ _ _ _ = _
  after_reads_simp
  pointwise

variable {m c} {D : Data} (H : Given m c D)

include H in
/-- The blocks at a grid point hold its tile. -/
theorem holds (t : Fin cfg0.N) : Holds (win0_0.stage (cfg0.slots t 0)) (win0_1.stage (cfg0.slots t 1)) (win0_2.stage (cfg0.slots t 2))
    (win0_3.stage (cfg0.slots t 3)) (win0_4.stage (cfg0.slots t 4)) (tile D (lanes t) (batch t))
    ((hstage0_0 ((cfg0.slots t 0).cast nbuf0_0)).unread (iblk m c 0 t)) ((hstage0_1 ((cfg0.slots t 1).cast nbuf0_1)).unread (iblk m c 1 t))
    ((hstage0_2 ((cfg0.slots t 2).cast nbuf0_2)).unread (iblk m c 2 t)) ((hstage0_3 ((cfg0.slots t 3).cast nbuf0_3)).unread (iblk m c 3 t))
    ((hstage0_4 ((cfg0.slots t 4).cast nbuf0_4)).unread (iblk m c 4 t)) where
  s := by rw [Memref.IsWhole.read_unread]; exact (block0 m c t).trans (H.s _)
  x l n := by rw [Memref.IsWhole.read_unread]; exact (block1 m c t n l).trans (H.x _ _ _)
  dy l n := by rw [Memref.IsWhole.read_unread]; exact (block2 m c t n l).trans (H.dy _ _ _)
  g l := by rw [Memref.IsWhole.read_unread]; exact (block3 m c t l).trans (H.g _)
  b l := by rw [Memref.IsWhole.read_unread]; exact (block4 m c t l).trans (H.b _)

/-- A batch's part of the gradient of a gain or an offset, by the batch's number. -/
def part (f : Slab → Fin 16 → ℝ) (D : Data) (ch : Fin 512) (b : ℕ) : ℝ :=
  if h : b < 5 then f (D.slab ⟨b, h⟩ ch) (spot ch) else 0

theorem sum_part (f : Slab → Fin 16 → ℝ) (D : Data) (ch : Fin 512) :
    ∑ b ∈ Finset.range 5, part f D ch b = ∑ b : Fin 5, f (D.slab b ch) (spot ch) := by
  rw [Finset.sum_range]
  exact Finset.sum_congr rfl fun b _ => dif_pos b.isLt

theorem part_batch (f : Slab → Fin 16 → ℝ) (D : Data) (t : Fin cfg0.N) (l : Fin 128) :
    f ((tile D (lanes t) (batch t)).slab l) (place l) = part f D (col (lanes t) l) (t.val % 5) := by
  rw [tile_slab, ← spot_col (lanes t), part, dif_pos (Nat.mod_lt _ (by norm_num))]
  rfl

include H in
theorem outs_dgamma (t : Fin cfg0.N) (l : Fin 128) : (outs m c t).2.2.1 (ix2 0 l)
    = (if t.val % 5 = 0 then 0 else (acc m c t.val).1 (ix2 0 l)) + ((part Slab.dgamma D (col (lanes t) l) (t.val % 5) : ℝ) : EReal) := by
  obtain ⟨W⟩ := outs_computed m c t
  refine (dgamma_step _ _ _ _ _ _ _ _ _ _ _ _ _ _ _ _ _ _ _ _ _ _ _ _ _ W (holds H t) l).trans ?_
  rw [part_batch Slab.dgamma]
  simp only [first_iff]

include H in
theorem outs_dbeta (t : Fin cfg0.N) (l : Fin 128) : (outs m c t).2.2.2 (ix2 0 l)
    = (if t.val % 5 = 0 then 0 else (acc m c t.val).2 (ix2 0 l)) + ((part Slab.dbeta D (col (lanes t) l) (t.val % 5) : ℝ) : EReal) := by
  obtain ⟨W⟩ := outs_computed m c t
  refine (dbeta_step _ _ _ _ _ _ _ _ _ _ _ _ _ _ _ _ _ _ _ _ _ _ _ _ _ W (holds H t) l).trans ?_
  rw [part_batch Slab.dbeta]
  simp only [first_iff]

/-- What the accumulators hold after a point `t` that is the `j`-th of its run. -/
def SumsAt (m : (ℓ : Loc nD τ sig) → Buf (Elt Ideal) ℓ) (c : Dev nD) (D : Data) (j : ℕ) (t : Fin cfg0.N) (l : Fin 128) : Prop :=
  (outs m c t).2.2.1 (ix2 0 l) = ((∑ b ∈ Finset.range (j + 1), part Slab.dgamma D (col (lanes t) l) b : ℝ) : EReal)
    ∧ (outs m c t).2.2.2 (ix2 0 l) = ((∑ b ∈ Finset.range (j + 1), part Slab.dbeta D (col (lanes t) l) b : ℝ) : EReal)

include H in
theorem sums_first (t : Fin cfg0.N) (h0 : t.val % 5 = 0) (l : Fin 128) : SumsAt m c D 0 t l := by
  unfold SumsAt
  rw [outs_dgamma H, outs_dbeta H, if_pos h0, if_pos h0, h0]
  simp only [zero_add, Finset.sum_range_one, and_self]

include H in
theorem sums_next (j k : ℕ) (hk : k < cfg0.N) (t : Fin cfg0.N) (ht : t.val = k + 1) (h0 : t.val % 5 = j + 1) (l : Fin 128)
    (h : SumsAt m c D j ⟨k, hk⟩ l) : SumsAt m c D (j + 1) t l := by
  obtain ⟨h1, h2⟩ := h
  have hq : lanes ⟨k, hk⟩ = lanes t := Fin.ext (by unfold lanes; dsimp only; omega)
  have ha : acc m c t.val = (outs m c ⟨k, hk⟩).2.2 := (congrArg (acc m c) ht).trans (acc_succ m c k hk)
  have hne : ¬ t.val % 5 = 0 := by omega
  rw [hq] at h1 h2
  unfold SumsAt
  rw [outs_dgamma H, outs_dbeta H, if_neg hne, if_neg hne, ha, h1, h2, h0, ← EReal.coe_add, ← EReal.coe_add,
    ← Finset.sum_range_succ, ← Finset.sum_range_succ]
  exact ⟨rfl, rfl⟩

include H in
/-- The accumulators after a point hold the sums over the batches so far. -/
theorem sums (l : Fin 128) (j : ℕ) : ∀ t : Fin cfg0.N, t.val % 5 = j → SumsAt m c D j t l := by
  induction j with
  | zero => exact fun t h0 => sums_first H t h0 l
  | succ j ih =>
    rintro ⟨t, ht⟩ h0
    match t, ht, h0 with
    | k + 1, ht, h0 =>
      exact sums_next H j k (Nat.lt_of_succ_lt ht) ⟨k + 1, ht⟩ rfl h0 l (ih _ (by simp only at h0 ⊢; omega))

/-- Every index of a row is a lane's. -/
theorem row_index {n : ℕ} (y : (⟨2, ![1, n]⟩ : Shape).Idx) : ∃ l : Fin n, y = ix2 0 l := ⟨y 1, by
  funext a; match a with | ⟨0, _⟩ => exact Subsingleton.elim (α := Fin 1) _ _ | ⟨1, _⟩ => rfl⟩

include H in
theorem final7 : (dats m 0 c).arrAt 7 cfg0.N = fun i : S1x512.Idx => ((D.dgamma (i 1) : ℝ) : EReal) := by
  refine (dats m 0 c).arrAt_eq_of_covers 7 _ (by decide +kernel) fun t hf y => ?_
  have h4 := (flush0_7 t).mp hf
  have hN : t.val < 20 := t.isLt
  obtain ⟨l, rfl⟩ := row_index (n := 128) y
  have e : (win0_7.blk t).view.emb (ix2 0 l) = ix2 0 (col (lanes t) l) := by
    unfold lanes col
    blk_ext [index7 t]
  have hs := (sums H l 4 t h4 : SumsAt m c D 4 t l).1
  blk_simp
  rw [after0_7, e]
  refine hs.trans ?_
  rw [sum_part]
  rfl

include H in
theorem final8 : (dats m 0 c).arrAt 8 cfg0.N = fun i : S1x512.Idx => ((D.dbeta (i 1) : ℝ) : EReal) := by
  refine (dats m 0 c).arrAt_eq_of_covers 8 _ (by decide +kernel) fun t hf y => ?_
  have h4 := (flush0_8 t).mp hf
  have hN : t.val < 20 := t.isLt
  obtain ⟨l, rfl⟩ := row_index (n := 128) y
  have e : (win0_8.blk t).view.emb (ix2 0 l) = ix2 0 (col (lanes t) l) := by
    unfold lanes col
    blk_ext [index8 t]
  have hs := (sums H l 4 t h4 : SumsAt m c D 4 t l).2
  blk_simp
  rw [after0_8, e]
  refine hs.trans ?_
  rw [sum_part]
  rfl

include H in
theorem outs_code (hD : D.Small) (t : Fin cfg0.N) (n : Fin 16384) (l : Fin 128) :
    (outs m c t).1 (ix3 0 n l) = ((D.code (batch t) n (col (lanes t) l) : ℝ) : EReal) := by
  obtain ⟨W⟩ := outs_computed m c t
  have hS : ((tile D (lanes t) (batch t)).slab l).Small := by rw [tile_slab]; exact D.small_slab hD _ _
  refine (code_coe _ _ _ _ _ _ _ _ _ _ _ _ _ _ _ _ _ _ _ _ _ _ _ _ _ W (holds H t) l n hS).trans ?_
  rw [tile_slab, ← spot_col (lanes t)]
  rfl

include H in
theorem outs_scale (hD : D.Small) (t : Fin cfg0.N) (l : Fin 128) :
    (outs m c t).2.1 (ix3 0 0 l) = (((D.slab (batch t) (col (lanes t) l)).scale : ℝ) : EReal) := by
  obtain ⟨W⟩ := outs_computed m c t
  have hS : ((tile D (lanes t) (batch t)).slab l).Small := by rw [tile_slab]; exact D.small_slab hD _ _
  refine (scale_coe _ _ _ _ _ _ _ _ _ _ _ _ _ _ _ _ _ _ _ _ _ _ _ _ _ W (holds H t) l hS).trans ?_
  rw [tile_slab]

/-- Every index of a block of one batch is a row's and a lane's. -/
theorem block_index {k n : ℕ} (y : (⟨3, ![1, k, n]⟩ : Shape).Idx) : ∃ (r : Fin k) (l : Fin n), y = ix3 0 r l := ⟨y 1, y 2, by
  funext a; match a with | ⟨0, _⟩ => exact Subsingleton.elim (α := Fin 1) _ _ | ⟨1, _⟩ => rfl | ⟨2, _⟩ => rfl⟩

include H in
/-- The codes of the gradient of the input. -/
theorem final5 (hD : D.Small) : (dats m 0 c).arrAt 5 cfg0.N = fun i : S5x16384x512.Idx => ((D.code (i 0) (i 1) (i 2) : ℝ) : EReal) := by
  refine (dats m 0 c).arrAt_eq_of_covers 5 _ (by decide +kernel) fun t hf y => ?_
  obtain ⟨n, l, rfl⟩ := block_index (k := 16384) (n := 128) y
  have e : (win0_5.blk t).view.emb (ix3 0 n l) = ix3 (batch t) n (col (lanes t) l) := by
    unfold batch lanes col
    blk_ext [index5 t]
  blk_simp
  rw [after0_5, e]
  exact outs_code H hD t n l

include H in
/-- The scales of the codes, one to a channel. -/
theorem final6 (hD : D.Small) : (dats m 0 c).arrAt 6 cfg0.N = fun i : S5x1x512.Idx => (((D.slab (i 0) (i 2)).scale : ℝ) : EReal) := by
  refine (dats m 0 c).arrAt_eq_of_covers 6 _ (by decide +kernel) fun t hf y => ?_
  obtain ⟨r, l, rfl⟩ := block_index (k := 1) (n := 128) y
  obtain rfl : r = 0 := Subsingleton.elim _ _
  have e : (win0_6.blk t).view.emb (ix3 0 0 l) = ix3 (batch t) 0 (col (lanes t) l) := by
    unfold batch lanes col
    blk_ext [index6 t]
  blk_simp
  rw [after0_6, e]
  exact outs_scale H hD t l

include H in
/-- After the host's tail the second result is the scales of the groups. -/
theorem tail6 (hD : D.Small) : Pipeline.afterTail₀ cfgs (dats m) 0 (V0 m) [hostOps1] c main_v6 = fun i : S5x32.Idx => ((D.scale (i 0) (i 1) : ℝ) : EReal) := by
  have e : Pipeline.withArrays (cfgs 0).spec c (V0 m c) (fun w => (dats m 0 c).arrAt w (cfgs 0).N) (Proc.devRef .tc main_v4_1)
      = fun i : S5x1x512.Idx => (((D.slab (i 0) (i 2)).scale : ℝ) : EReal) :=
    (Pipeline.withArrays_arr (cfgs 0).spec (by decide) c _ _ 6).trans (final6 H hD)
  unfold Pipeline.afterTail₀
  after_reads_simp
  rw [e]
  funext i
  obtain ⟨b, k, rfl⟩ : ∃ b k, i = ix2 b k := ⟨i 0, i 1, funext fun a => by match a with | ⟨0, _⟩ | ⟨1, _⟩ => rfl⟩
  pointwise
  refine congrArg _ (congrArg (fun ch => (D.slab b ch).scale) (Fin.ext ?_))
  exact Nat.mul_comm 16 k.val

include H in
/-- After the host's tail the third result is the gradient of the gain. -/
theorem tail7 : Pipeline.afterTail₀ cfgs (dats m) 0 (V0 m) [hostOps1] c main_v7 = fun i : S512.Idx => ((D.dgamma (i 0) : ℝ) : EReal) := by
  have e : Pipeline.withArrays (cfgs 0).spec c (V0 m c) (fun w => (dats m 0 c).arrAt w (cfgs 0).N) (Proc.devRef .tc main_v4_2)
      = fun i : S1x512.Idx => ((D.dgamma (i 1) : ℝ) : EReal) :=
    (Pipeline.withArrays_arr (cfgs 0).spec (by decide) c _ _ 7).trans (final7 H)
  unfold Pipeline.afterTail₀
  after_reads_simp
  rw [e]
  funext i
  obtain ⟨ch, rfl⟩ : ∃ ch, i = ix1 ch := ⟨i 0, funext fun a => by match a with | ⟨0, _⟩ => rfl⟩
  pointwise

include H in
/-- After the host's tail the fourth result is the gradient of the offset. -/
theorem tail8 : Pipeline.afterTail₀ cfgs (dats m) 0 (V0 m) [hostOps1] c main_v8 = fun i : S512.Idx => ((D.dbeta (i 0) : ℝ) : EReal) := by
  have e : Pipeline.withArrays (cfgs 0).spec c (V0 m c) (fun w => (dats m 0 c).arrAt w (cfgs 0).N) (Proc.devRef .tc main_v4_3)
      = fun i : S1x512.Idx => ((D.dbeta (i 1) : ℝ) : EReal) :=
    (Pipeline.withArrays_arr (cfgs 0).spec (by decide) c _ _ 8).trans (final8 H)
  unfold Pipeline.afterTail₀
  after_reads_simp
  rw [e]
  funext i
  obtain ⟨ch, rfl⟩ : ∃ ch, i = ix1 ch := ⟨i 0, funext fun a => by match a with | ⟨0, _⟩ => rfl⟩
  pointwise

/-- The run, with the four results. -/
theorem values (ρ : Dev nD → PrngReg) {D : Dev nD → Data} (H : ∀ c, Given m c (D c)) (hD : ∀ c, (D c).Small) :
    θ_run defs (onTc (τ := τ) (main (F := Ideal))) ⟨m, fun _ => 0, ρ⟩ (fun r => ∀ c : Dev nD,
      r.2.mem ((c.tc : Thread nD τ).loc main_v4_0) = (fun i : S5x16384x512.Idx => (((D c).code (i 0) (i 1) (i 2) : ℝ) : EReal))
      ∧ r.2.mem ((c.tc : Thread nD τ).loc main_v6) = (fun i : S5x32.Idx => (((D c).scale (i 0) (i 1) : ℝ) : EReal))
      ∧ r.2.mem ((c.tc : Thread nD τ).loc main_v7) = (fun i : S512.Idx => (((D c).dgamma (i 0) : ℝ) : EReal))
      ∧ r.2.mem ((c.tc : Thread nD τ).loc main_v8) = (fun i : S512.Idx => (((D c).dbeta (i 0) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun r h c => ⟨(h.1.1 c).1 5 |>.trans (final5 (H c) (hD c)), (h.1.1 c).2 main_v6 (by decide) |>.trans (tail6 (H c) (hD c)),
      (h.1.1 c).2 main_v7 (by decide) |>.trans (tail7 (H c)), (h.1.1 c).2 main_v8 (by decide) |>.trans (tail8 (H c)), h.2 c⟩)
    (θ_run_and (run_main_quiescent m ρ) (unchanged m ρ))

end Cert.KernelIdeal.Parts

end
-- ==== Proof.ReferenceIdeal.Vals.lean ====
/- The reference body's values over finite inputs. -/
module

public import proofs.«01_k».proof.Proof.Gen.ReferenceIdeal.Frame
public import Idealize.ShloMosaic.Lib.Pointwise
public import proofs.«01_k».proof.Proof.GroupNorm

@[expose] public section

noncomputable section

namespace Cert.ReferenceIdeal.Vals

open Cert.ReferenceIdeal Cert.ReferenceIdeal.Gen Idealize.ShloMosaic Idealize.ShloMosaic.TcCoe Cert.GroupNorm

/-- A sum over the first two of three axes. -/
theorem sum_two (h : S5x16384x512.Reduces [0, 1] S512) (v : S5x16384x512.Idx → EReal) (ch : Fin 512) :
    Ideal.reduceAdd h v (ix1 ch) = ∑ b : Fin 5, ∑ n : Fin 16384, v (ix3 b n ch) := by
  show ∑ i ∈ Finset.univ.filter (fun i => h.drop i = ix1 ch), v i = _
  rw [← Finset.sum_product', Finset.univ_product_univ]
  refine (Finset.sum_bij (fun p _ => ix3 p.1 p.2 ch) (fun p _ => ?_) (fun p _ q _ e => ?_) (fun i hi => ?_) (fun _ _ => rfl)).symm
  · refine Finset.mem_filter.mpr ⟨Finset.mem_univ _, funext fun a => Fin.ext ?_⟩
    match a with
    | ⟨0, _⟩ => exact h.drop_apply_val_of_eq _ ⟨0, by decide⟩ 2
  · obtain ⟨h1, h2, _⟩ := (ix3_inj _ _ _ _ _ _).mp e
    exact Prod.ext h1 h2
  · have hi := (Finset.mem_filter.mp hi).2
    refine ⟨(i 0, i 1), Finset.mem_univ _, funext fun a => Fin.ext ?_⟩
    match a with
    | ⟨0, _⟩ => rfl
    | ⟨1, _⟩ => rfl
    | ⟨2, _⟩ => exact (congrArg Fin.val (congrFun hi 0)).symm.trans (h.drop_apply_val_of_eq _ ⟨0, by decide⟩ 2)

variable (D : Data)

/-- The input arrays hold the data. -/
structure Holds (x0 : Vec Ideal S5x16384x512 .bf16) (x1 : Vec Ideal S512 .f32) (x2 : Vec Ideal S512 .f32)
    (x3 : Vec Ideal S5x16384x512 .fp8e5m2) (x4 : Vec Ideal S1x1 .f32) : Prop where
  x : ∀ b n ch, x0 (ix3 b n ch) = ((D.x b n ch : ℝ) : EReal)
  g : ∀ ch, x1 (ix1 ch) = ((D.g ch : ℝ) : EReal)
  b : ∀ ch, x2 (ix1 ch) = ((D.b ch : ℝ) : EReal)
  dy : ∀ b n ch, x3 (ix3 b n ch) = ((D.dy b n ch : ℝ) : EReal)
  s : x4 (ix2 0 0) = ((D.s : ℝ) : EReal)

variable {x0 : Vec Ideal S5x16384x512 .bf16} {x1 : Vec Ideal S512 .f32} {x2 : Vec Ideal S512 .f32}
    {x3 : Vec Ideal S5x16384x512 .fp8e5m2} {x4 : Vec Ideal S1x1 .f32} (H : Holds D x0 x1 x2 x3 x4)

theorem ld1 {e : EltTy} (x : Vec Ideal S512 e) : View.ld x r0_0 = x :=
  funext fun i => congrArg x (funext fun a => Fin.ext (by match a with | ⟨0, _⟩ => exact (Nat.zero_add _).trans (Nat.one_mul _)))
theorem ld3 {e : EltTy} (x : Vec Ideal S5x16384x512 e) : View.ld x r0_1 = x :=
  funext fun i => congrArg x (funext fun a => Fin.ext (by
    match a with | ⟨0, _⟩ | ⟨1, _⟩ | ⟨2, _⟩ => exact (Nat.zero_add _).trans (Nat.one_mul _)))
theorem ld2 {e : EltTy} (x : Vec Ideal S1x1 e) : View.ld x r0_2 = x :=
  funext fun i => congrArg x (funext fun a => Fin.ext (by
    match a with | ⟨0, _⟩ | ⟨1, _⟩ => exact (Nat.zero_add _).trans (Nat.one_mul _)))

include H in
theorem centred (b : Fin 5) (n : Fin 16384) (ch : Fin 512) :
    k0_pay5 x0 (ix3 b n ch) = ((D.x b n ch - (D.slab b ch).mean : ℝ) : EReal) := by
  pointwise [k0_pay5]
  simp only [H.x, coe_sum, count_coe]
  rw [div_coe _ _ (by norm_num), ← EReal.coe_sub]
  rfl

include H in
theorem rstd (b : Fin 5) (ch : Fin 512) : k0_pay6 x0 (ix3 b 0 ch) = (((D.slab b ch).rstd : ℝ) : EReal) := by
  pointwise [k0_pay6]
  simp only [centred D H, ← EReal.coe_mul, coe_sum, count_coe]
  rw [div_coe _ _ (by norm_num), eps_coe, ← EReal.coe_add]
  have e : ∀ k : Fin 16, D.slab b ⟨ch.val / 16 * 16 + k.val, by omega⟩ = D.slab b ch := fun k => D.slab_chan b ch k
  simp only [e]
  exact rsqrt_coe _ (D.slab b ch).var_eps_pos

include H in
theorem xhat (b : Fin 5) (n : Fin 16384) (ch : Fin 512) :
    k0_pay7 x0 (ix3 b n ch) = (((D.slab b ch).xhat (spot ch) n : ℝ) : EReal) := by
  pointwise [k0_pay7]
  rw [centred D H, rstd D H, ← EReal.coe_mul, ← D.slab_x]
  rfl

include H in
theorem dh (b : Fin 5) (n : Fin 16384) (ch : Fin 512) :
    k0_pay10 (k0_pay4 x3 x4) (k0_pay8 x1 x0) (k0_pay9 x2) (ix3 b n ch) = (((D.slab b ch).dh (spot ch) n : ℝ) : EReal) := by
  pointwise [k0_pay10, k0_pay8, k0_pay9, k0_pay4]
  rw [xhat D H, H.g, H.b, H.dy, H.s]
  simp only [← EReal.coe_mul, ← EReal.coe_add, logistic_coe, ← EReal.coe_one, ← EReal.coe_sub]
  rw [← D.slab_dy b, ← D.slab_g b, ← D.slab_b b]
  rfl

include H in
theorem dgamma (ch : Fin 512) :
    k0_pay11 (k0_pay4 x3 x4) (k0_pay7 x0) (k0_pay8 x1 x0) (k0_pay9 x2) (ix1 ch) = ((D.dgamma ch : ℝ) : EReal) := by
  have e : k0_pay11 (k0_pay4 x3 x4) (k0_pay7 x0) (k0_pay8 x1 x0) (k0_pay9 x2) (ix1 ch)
      = Ideal.reduceAdd reduces_S5x16384x512_S512 (mulf (k0_pay10 (k0_pay4 x3 x4) (k0_pay8 x1 x0) (k0_pay9 x2)) (k0_pay7 x0)) (ix1 ch) := by
    pointwise [k0_pay11]
  rw [e, sum_two]
  have e' : ∀ b n, mulf (k0_pay10 (k0_pay4 x3 x4) (k0_pay8 x1 x0) (k0_pay9 x2)) (k0_pay7 x0) (ix3 b n ch)
      = (((D.slab b ch).dh (spot ch) n * (D.slab b ch).xhat (spot ch) n : ℝ) : EReal) := fun b n => by
    rw [EReal.coe_mul, ← dh D H, ← xhat D H]; rfl
  simp only [e', coe_sum]
  rfl

include H in
theorem dbeta (ch : Fin 512) :
    k0_pay12 (k0_pay4 x3 x4) (k0_pay8 x1 x0) (k0_pay9 x2) (ix1 ch) = ((D.dbeta ch : ℝ) : EReal) := by
  have e : k0_pay12 (k0_pay4 x3 x4) (k0_pay8 x1 x0) (k0_pay9 x2) (ix1 ch)
      = Ideal.reduceAdd reduces_S5x16384x512_S512 (k0_pay10 (k0_pay4 x3 x4) (k0_pay8 x1 x0) (k0_pay9 x2)) (ix1 ch) := by
    pointwise [k0_pay12]
  rw [e, sum_two]
  simp only [dh D H, coe_sum]
  rfl

include H in
/-- The input's gradient. -/
theorem dx (b : Fin 5) (n : Fin 16384) (ch : Fin 512) :
    k0_pay13 x1 (k0_pay4 x3 x4) (k0_pay6 x0) (k0_pay7 x0) (k0_pay8 x1 x0) (k0_pay9 x2) (ix3 b n ch) = ((D.dx b n ch : ℝ) : EReal) := by
  pointwise [k0_pay13]
  simp only [dh D H, xhat D H, rstd D H, H.g, ← EReal.coe_mul, coe_sum, count_coe]
  rw [div_coe _ _ (by norm_num), div_coe _ _ (by norm_num)]
  simp only [← EReal.coe_mul, ← EReal.coe_sub]
  have e : ∀ k : Fin 16, D.slab b ⟨ch.val / 16 * 16 + k.val, by omega⟩ = D.slab b ch := fun k => D.slab_chan b ch k
  have e' : ∀ k : Fin 16, spot ⟨ch.val / 16 * 16 + k.val, by omega⟩ = k := fun k => spot_chan ch k
  simp only [e, e']
  rw [← D.slab_g b ch]
  rfl

include H in
theorem out7 (ch : Fin 512) : out0_7 x0 x1 x2 x3 x4 (ix1 ch) = ((D.dgamma ch : ℝ) : EReal) := by
  rw [← dgamma D H]
  unfold_out out0_7
  rw [ld1, ld1, ld2, ld3, ld3]
  have := View.canon_cons_emb (Val := Elt Ideal) (e := .f32) r0_0 (k0_pay11 (k0_pay4 x3 x4) (k0_pay7 x0) (k0_pay8 x1 x0) (k0_pay9 x2)) [] (ix1 ch)
  rwa [show r0_0.emb (ix1 ch) = ix1 ch from funext fun a => Fin.ext (by match a with | ⟨0, _⟩ => exact (Nat.zero_add _).trans (Nat.one_mul _))] at this

include H in
theorem out8 (ch : Fin 512) : out0_8 x0 x1 x2 x3 x4 (ix1 ch) = ((D.dbeta ch : ℝ) : EReal) := by
  rw [← dbeta D H]
  unfold_out out0_8
  rw [ld1, ld1, ld2, ld3, ld3]
  have := View.canon_cons_emb (Val := Elt Ideal) (e := .f32) r0_0 (k0_pay12 (k0_pay4 x3 x4) (k0_pay8 x1 x0) (k0_pay9 x2)) [] (ix1 ch)
  rwa [show r0_0.emb (ix1 ch) = ix1 ch from funext fun a => Fin.ext (by match a with | ⟨0, _⟩ => exact (Nat.zero_add _).trans (Nat.one_mul _))] at this

end Cert.ReferenceIdeal.Vals

end
-- ==== Proof.ReferenceIdeal.Codes.lean ====
/- The reference's scales and codes over finite inputs. -/
module

public import proofs.«01_k».proof.Proof.ReferenceIdeal.Vals
public import proofs.«01_k».proof.Proof.Bound

@[expose] public section

set_option maxRecDepth 16384

noncomputable section

namespace Cert.ReferenceIdeal.Vals

open Cert.ReferenceIdeal Cert.ReferenceIdeal.Gen Idealize.ShloMosaic Idealize.ShloMosaic.TcCoe Cert.GroupNorm

theorem two_coe : Ideal.ofBits .f32 1073741824#32 = ((2 : ℝ) : EReal) := by
  simp [Ideal.ofBits, Ideal.ieee]
  norm_num [← EReal.coe_mul]

theorem low_coe : Ideal.ofBits .f32 3271294976#32 = ((-126 : ℝ) : EReal) := by
  simp [Ideal.ofBits, Ideal.ieee]
  norm_num [← EReal.coe_mul, ← EReal.coe_neg]

theorem log_coe (r : ℝ) (h : 0 < r) : Ideal.log (r : EReal) = ((Real.log r : ℝ) : EReal) := if_neg (not_le.mpr h)

theorem log_two : Scalar.log (F := Ideal) (φ := .f32) (Ideal.ofBits .f32 1073741824#32) = ((Real.log 2 : ℝ) : EReal) := by
  rw [two_coe]; exact log_coe 2 (by norm_num)

/-- A whole power of two. -/
theorem exp2_coe (e : ℤ) : FloatOps.exp2 (F := Ideal) (φ := .f32) (((e : ℝ) : ℝ) : EReal) = (((2 : ℝ) ^ e : ℝ) : EReal) := by
  show ((Real.rpow 2 (e : ℝ) : ℝ) : EReal) = _
  rw [show Real.rpow 2 (e : ℝ) = (2 : ℝ) ^ (e : ℝ) from rfl, Real.rpow_intCast]

/-- The exponent from the logarithm. -/
theorem exponent (M : ℝ) (h0 : 0 ≤ M) :
    (if ((M : ℝ) : EReal) = 0 then (0 : EReal) else max (Ideal.liftRound Int.floor (Ideal.div (Ideal.log ((M : EReal) * Ideal.ofBits .f32 932333861#32))
      (Scalar.log (F := Ideal) (φ := .f32) (Ideal.ofBits .f32 1073741824#32))) + 1) (Ideal.ofBits .f32 3271294976#32))
      = (((expo (M * cst) : ℤ) : ℝ) : EReal) := by
  rcases h0.eq_or_lt with rfl | hp
  · rw [if_pos (by simp), zero_mul, expo, if_pos rfl]; simp
  · have hw : 0 < M * cst := mul_pos hp cst_pos
    rw [if_neg (by rw [← EReal.coe_zero]; exact fun h => hp.ne' (EReal.coe_eq_coe_iff.mp h)), cst_coe, ← EReal.coe_mul, log_coe _ hw, log_two,
      div_coe _ _ (Real.log_pos (by norm_num)).ne', expo, if_neg hw.ne', low_coe]
    show max (((⌊Real.log (M * cst) / Real.log 2⌋ : ℝ) : EReal) + 1) _ = _
    rw [← EReal.coe_one, ← EReal.coe_add]
    push_cast
    exact (EReal.coe_strictMono.monotone.map_max).symm

theorem pay1 (v : FVec Ideal S5x512 .f32) (b : Fin 5) (k : Fin 32) (M : ℝ) (h0 : 0 ≤ M)
    (h : Finset.fold max (Ideal.ofBits .f32 4286578688#32) (fun x : Fin 16 => v (ix2 b (chan (first k) x))) Finset.univ = ((M : ℝ) : EReal)) :
    k0_pay1 v (ix2 b k) = (((expo (M * cst) : ℤ) : ℝ) : EReal) := by
  have hc : ∀ x : Fin 16, chan (first k) x = ⟨k.val * 16 + x.val, by omega⟩ := fun x => Fin.ext (by unfold chan first; dsimp only; omega)
  simp only [hc] at h
  pointwise [k0_pay1]
  simp only [h]
  exact exponent M h0

theorem pay2 (v : FVec Ideal S5x512 .f32) (b : Fin 5) (k : Fin 32) : k0_pay2 v (ix2 b k) = FloatOps.exp2 (F := Ideal) (φ := .f32) (k0_pay1 v (ix2 b k)) := by
  pointwise [k0_pay2]

/-- The group a channel belongs to. -/
def group (ch : Fin 512) : Fin 32 := ⟨ch.val / 16, by omega⟩

theorem pay3 (d : FVec Ideal S5x16384x512 .f32) (v : FVec Ideal S5x512 .f32) (b : Fin 5) (n : Fin 16384) (ch : Fin 512) :
    k0_pay3 d v (ix3 b n ch) = min (Ideal.ofBits .f32 0x47600000#32) (max (Ideal.ofBits .f32 0xC7600000#32)
      (d (ix3 b n ch) * FloatOps.exp2 (F := Ideal) (φ := .f32) (0 - k0_pay1 v (ix2 b (group ch))))) := by
  pointwise [k0_pay3]
  rfl

theorem pay14 (v0 : Vec Ideal S512 .f32) (v11 : FVec Ideal S5x16384x512 .f32) (v35 : FVec Ideal S5x1x512 .f32) (v37 v40 v42 : FVec Ideal S5x16384x512 .f32)
    (b : Fin 5) (ch : Fin 512) : k0_pay14 v0 v11 v35 v37 v40 v42 (ix2 b ch)
      = Finset.fold max (Ideal.ofBits .f32 4286578688#32) (fun n => FloatOps.absf (F := Ideal) (φ := .f32) (k0_pay13 v0 v11 v35 v37 v40 v42 (ix3 b n ch))) Finset.univ := by
  pointwise [k0_pay14]

theorem slab_group (D : Data) (b : Fin 5) (ch : Fin 512) : D.slab b (first (group ch)) = D.slab b ch := by
  rw [← D.slab_chan b (first (group ch)) (spot ch)]
  congr 1
  exact Fin.ext (by unfold chan first group spot; dsimp only; omega)

variable (D : Data) {x0 : Vec Ideal S5x16384x512 .bf16} {x1 : Vec Ideal S512 .f32} {x2 : Vec Ideal S512 .f32}
    {x3 : Vec Ideal S5x16384x512 .fp8e5m2} {x4 : Vec Ideal S1x1 .f32} (H : Holds D x0 x1 x2 x3 x4)

include H in
/-- The largest magnitude of a group. -/
theorem amax (b : Fin 5) (k : Fin 32) : Finset.fold max (Ideal.ofBits .f32 4286578688#32)
    (fun x : Fin 16 => k0_pay14 x1 (k0_pay4 x3 x4) (k0_pay6 x0) (k0_pay7 x0) (k0_pay8 x1 x0) (k0_pay9 x2) (ix2 b (chan (first k) x))) Finset.univ
      = (((D.slab b (first k)).amax : ℝ) : EReal) := by
  refine (D.slab b (first k)).amax_of_bounds _ fun B => ?_
  rw [Finset.fold_max_le, least_coe]
  simp only [bot_le, true_and, Finset.mem_univ, forall_true_left, pay14, Finset.fold_max_le, least_coe, dx D H, absf_coe, Data.dx, D.slab_chan, spot_chan]

include H in
theorem exponent_coe (b : Fin 5) (k : Fin 32) :
    k0_pay1 (k0_pay14 x1 (k0_pay4 x3 x4) (k0_pay6 x0) (k0_pay7 x0) (k0_pay8 x1 x0) (k0_pay9 x2)) (ix2 b k) = ((((D.slab b (first k)).e : ℤ) : ℝ) : EReal) :=
  pay1 _ b k _ (D.slab b (first k)).amax_nonneg (amax D H b k)

include H in
theorem out6 (b : Fin 5) (k : Fin 32) : out0_6 x0 x1 x2 x3 x4 (ix2 b k) = ((D.scale b k : ℝ) : EReal) := by
  have e : k0_pay2 (k0_pay14 x1 (k0_pay4 x3 x4) (k0_pay6 x0) (k0_pay7 x0) (k0_pay8 x1 x0) (k0_pay9 x2)) (ix2 b k) = ((D.scale b k : ℝ) : EReal) := by
    rw [pay2, exponent_coe D H, exp2_coe]; rfl
  rw [← e]
  unfold_out out0_6
  rw [ld1, ld1, ld2, ld3, ld3]
  have := View.canon_cons_emb (Val := Elt Ideal) (e := .f32) r0_3 (k0_pay2 (k0_pay14 x1 (k0_pay4 x3 x4) (k0_pay6 x0) (k0_pay7 x0) (k0_pay8 x1 x0) (k0_pay9 x2))) [] (ix2 b k)
  rwa [show r0_3.emb (ix2 b k) = ix2 b k from funext fun a => Fin.ext (by match a with | ⟨0, _⟩ | ⟨1, _⟩ => exact (Nat.zero_add _).trans (Nat.one_mul _))] at this

include H in
theorem out5 (b : Fin 5) (n : Fin 16384) (ch : Fin 512) : out0_5 x0 x1 x2 x3 x4 (ix3 b n ch) = ((D.code b n ch : ℝ) : EReal) := by
  have e : k0_pay3 (k0_pay13 x1 (k0_pay4 x3 x4) (k0_pay6 x0) (k0_pay7 x0) (k0_pay8 x1 x0) (k0_pay9 x2))
      (k0_pay14 x1 (k0_pay4 x3 x4) (k0_pay6 x0) (k0_pay7 x0) (k0_pay8 x1 x0) (k0_pay9 x2)) (ix3 b n ch) = ((D.code b n ch : ℝ) : EReal) := by
    rw [pay3, exponent_coe D H, dx D H, ← EReal.coe_zero, ← EReal.coe_sub, zero_sub, ← Int.cast_neg, exp2_coe, ← EReal.coe_mul, clamp_coe, slab_group]
    rfl
  rw [← e]
  unfold_out out0_5
  rw [ld1, ld1, ld2, ld3, ld3]
  have := View.canon_cons_emb (Val := Elt Ideal) (e := .fp8e5m2) r0_1 (k0_pay3 (k0_pay13 x1 (k0_pay4 x3 x4) (k0_pay6 x0) (k0_pay7 x0) (k0_pay8 x1 x0) (k0_pay9 x2))
      (k0_pay14 x1 (k0_pay4 x3 x4) (k0_pay6 x0) (k0_pay7 x0) (k0_pay8 x1 x0) (k0_pay9 x2))) [] (ix3 b n ch)
  rwa [show r0_1.emb (ix3 b n ch) = ix3 b n ch from funext fun a => Fin.ext (by match a with | ⟨0, _⟩ | ⟨1, _⟩ | ⟨2, _⟩ => exact (Nat.zero_add _).trans (Nat.one_mul _))] at this

end Cert.ReferenceIdeal.Vals

end
-- ==== Proof.ReferenceIdeal.Arrays.lean ====
/- The arrays the reference leaves, over finite inputs. -/
module

public import proofs.«01_k».proof.Proof.Gen.ReferenceIdeal.Value
public import proofs.«01_k».proof.Proof.ReferenceIdeal.Vals
public import proofs.«01_k».proof.Proof.ReferenceIdeal.Codes
public import Idealize.ShloMosaic.Lib.Pipeline.ValueKit
public import Idealize.ShloMosaic.Lib.StableHlo.RunRead

@[expose] public section

set_option maxRecDepth 16384

noncomputable section

namespace Cert.ReferenceIdeal.Vals

open Cert.ReferenceIdeal Cert.ReferenceIdeal.Gen Idealize.ShloMosaic Idealize.ShloMosaic.TcCoe Cert.GroupNorm

variable (m : (ℓ : Loc nD τ sig) → Buf (Elt Ideal) ℓ) (c : Dev nD)

/-- The memory holds the data in its arguments. -/
structure Given (D : Data) : Prop where
  x : ∀ b n ch, (m ((c.tc : Thread nD τ).loc main_arg0) : S5x16384x512.Idx → EReal) (ix3 b n ch) = ((D.x b n ch : ℝ) : EReal)
  g : ∀ ch, (m ((c.tc : Thread nD τ).loc main_arg1) : S512.Idx → EReal) (ix1 ch) = ((D.g ch : ℝ) : EReal)
  b : ∀ ch, (m ((c.tc : Thread nD τ).loc main_arg2) : S512.Idx → EReal) (ix1 ch) = ((D.b ch : ℝ) : EReal)
  dy : ∀ b n ch, (bitcastToFloat (F := Ideal) .fp8e5m2 (m ((c.tc : Thread nD τ).loc main_arg3) : S5x16384x512.Idx → BitVec 8) : S5x16384x512.Idx → EReal) (ix3 b n ch)
    = ((D.dy b n ch : ℝ) : EReal)
  s : ∀ i : S_.Idx, (m ((c.tc : Thread nD τ).loc main_arg4) : S_.Idx → EReal) i = ((D.s : ℝ) : EReal)

theorem index0 : ∀ t : Fin cfg0.N, win0_0.index t = ![0, 0, 0] := (by decide +kernel : ∀ t : Fin grid0.N, _)
theorem index1 : ∀ t : Fin cfg0.N, win0_1.index t = ![0] := (by decide +kernel : ∀ t : Fin grid0.N, _)
theorem index2 : ∀ t : Fin cfg0.N, win0_2.index t = ![0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0] := (by decide +kernel : ∀ t : Fin grid0.N, _)
theorem index8 : ∀ t : Fin cfg0.N, win0_8.index t = ![0] := (by decide +kernel : ∀ t : Fin grid0.N, _)

variable {m c} {D : Data} (H : Given m c D)

include H in
/-- The launch's blocks hold the data. -/
theorem holds (t : Fin cfg0.N) : Holds D (iblk m c 0 t) (iblk m c 1 t) (iblk m c 2 t) (iblk m c 3 t) (iblk m c 4 t) where
  x b n ch := by
    refine Eq.trans ?_ (H.x b n ch)
    blk_simp [iblk]
    show StableHlo.after _ _ _ _ = _
    after_reads_simp
    refine congrArg _ ?_
    blk_ext [index0 t]
  g ch := by
    refine Eq.trans ?_ (H.g ch)
    blk_simp [iblk]
    show StableHlo.after _ _ _ _ = _
    after_reads_simp
    refine congrArg _ ?_
    blk_ext [index1 t]
  b ch := by
    refine Eq.trans ?_ (H.b ch)
    blk_simp [iblk]
    show StableHlo.after _ _ _ _ = _
    after_reads_simp
    refine congrArg _ ?_
    blk_ext [index2 t]
  dy b n ch := by
    refine Eq.trans ?_ (H.dy b n ch)
    blk_simp [iblk]
    show StableHlo.after _ _ _ _ = _
    after_reads_simp
    refine congrArg _ ?_
    blk_ext [index3 t]
  s := by
    blk_simp [iblk]
    show StableHlo.after _ _ _ _ = _
    after_reads_simp
    exact H.s _

theorem index_eq {n : ℕ} (y : (⟨1, ![n]⟩ : Shape).Idx) : ∃ ch : Fin n, y = ix1 ch := ⟨y 0, by
  funext a; match a with | ⟨0, _⟩ => rfl⟩

include H in
/-- The codes of the gradient of the input. -/
theorem final5 : (dats m 0 c).arrAt 5 cfg0.N = fun i : S5x16384x512.Idx => ((D.code (i 0) (i 1) (i 2) : ℝ) : EReal) := by
  refine (dats m 0 c).arrAt_eq_of_covers 5 _ (by decide +kernel) fun t hf y => ?_
  obtain ⟨b, n, ch, rfl⟩ : ∃ (b : Fin 5) (n : Fin 16384) (ch : Fin 512), y = ix3 b n ch :=
    ⟨y 0, y 1, y 2, funext fun a => by match a with | ⟨0, _⟩ | ⟨1, _⟩ | ⟨2, _⟩ => rfl⟩
  have e : (win0_5.blk t).view.emb (ix3 b n ch) = ix3 b n ch := by blk_ext [index5 t]
  blk_simp
  rw [after0_5, e]
  exact out5 D (holds H t) b n ch

include H in
/-- The scales of the codes. -/
theorem final6 : (dats m 0 c).arrAt 6 cfg0.N = fun i : S5x32.Idx => ((D.scale (i 0) (i 1) : ℝ) : EReal) := by
  refine (dats m 0 c).arrAt_eq_of_covers 6 _ (by decide +kernel) fun t hf y => ?_
  obtain ⟨b, k, rfl⟩ : ∃ (b : Fin 5) (k : Fin 32), y = ix2 b k :=
    ⟨y 0, y 1, funext fun a => by match a with | ⟨0, _⟩ | ⟨1, _⟩ => rfl⟩
  have e : (win0_6.blk t).view.emb (ix2 b k) = ix2 b k := by blk_ext [index6 t]
  blk_simp
  rw [after0_6, e]
  exact out6 D (holds H t) b k

include H in
/-- The gradient of the gain. -/
theorem final7 : (dats m 0 c).arrAt 7 cfg0.N = fun i : S512.Idx => ((D.dgamma (i 0) : ℝ) : EReal) := by
  refine (dats m 0 c).arrAt_eq_of_covers 7 _ (by decide +kernel) fun t hf y => ?_
  obtain ⟨ch, rfl⟩ := index_eq (n := 512) y
  have e : (win0_7.blk t).view.emb (ix1 ch) = ix1 ch := by blk_ext [index7 t]
  blk_simp
  rw [after0_7, e]
  exact out7 D (holds H t) ch

include H in
/-- The gradient of the offset. -/
theorem final8 : (dats m 0 c).arrAt 8 cfg0.N = fun i : S512.Idx => ((D.dbeta (i 0) : ℝ) : EReal) := by
  refine (dats m 0 c).arrAt_eq_of_covers 8 _ (by decide +kernel) fun t hf y => ?_
  obtain ⟨ch, rfl⟩ := index_eq (n := 512) y
  have e : (win0_8.blk t).view.emb (ix1 ch) = ix1 ch := by blk_ext [index8 t]
  blk_simp
  rw [after0_8, e]
  exact out8 D (holds H t) ch

end Cert.ReferenceIdeal.Vals

end
-- ==== Proof.Finite.lean ====
/- A finite input is a real number: what the precondition says of the arguments. -/
module

public import proofs.«01_k».proof.Defs
public import proofs.«01_k».proof.Proof.KernelIdeal.Arrays
public import Idealize.ShloMosaic.Lib.Pointwise

@[expose] public section

noncomputable section

namespace Cert.Finite

open Idealize.ShloMosaic Idealize.ShloMosaic.TcCoe

/-- The side conditions of the precondition's operations. -/
theorem facts : Cert.Pre_in_range.Facts where
  bitsLt_bf16_f32 := by decide
  bcast_S_S5x16384x512 := by decide
  bcast_S_S512 := by decide
  natLt_8_32 := by decide

/-- A number of bounded size is real. -/
theorem real_of_abs {x K : EReal} (hK : K ≠ ⊤) (h : max x (-x) ≤ K) : ∃ r : ℝ, x = (r : EReal) := by
  induction x with
  | bot => exact absurd (top_le_iff.mp (by simpa using h)) hK
  | top => exact absurd (top_le_iff.mp (by simpa using h)) hK
  | coe r => exact ⟨r, rfl⟩

theorem largest : Ideal.ofBits .f32 0x7F7FFFFF#32 ≠ ⊤ := by
  simp [Ideal.ofBits, Ideal.ieee]
  exact EReal.coe_ne_top _

/-- A number whose size is at most a real is a real of at most that size. -/
theorem small_of_abs {x : EReal} {k : ℝ} (h : max x (-x) ≤ (k : EReal)) : ∃ r : ℝ, x = (r : EReal) ∧ |r| ≤ k := by
  obtain ⟨r, rfl⟩ := real_of_abs (EReal.coe_ne_top k) h
  exact ⟨r, rfl, abs_le'.mpr ⟨EReal.coe_le_coe_iff.mp ((le_max_left _ _).trans h),
    EReal.coe_le_coe_iff.mp (by rw [EReal.coe_neg]; exact (le_max_right _ _).trans h)⟩⟩

/-- The bound on the gain and on the scale of the incoming gradient. -/
theorem bound : Ideal.ofBits .f32 0x53800000#32 = ((2 ^ 40 : ℝ) : EReal) := by
  simp [Ideal.ofBits, Ideal.ieee]
  exact_mod_cast (by norm_num : (8388608 : ℝ) * 2 ^ 17 = 2 ^ 40)

/-- A code whose exponent field is not all ones is a number, of size less than `2 ^ 16`. -/
theorem real_of_code (w : BitVec 8) (h : (IntOp.andi (w.setWidth 32) 127#32).slt 124#32 = true) :
    ∃ r : ℝ, Ideal.ofBits .fp8e5m2 w = (r : EReal) ∧ |r| ≤ 2 ^ 16 := by
  have hx : ¬ (w.extractLsb' 2 5).toNat = 2 ^ 5 - 1 := by
    revert h; revert w; decide
  unfold Ideal.ofBits Ideal.ieee
  dsimp only
  rw [if_neg hx]
  have hm : (w.extractLsb' 0 2).toNat < 2 ^ 2 := (w.extractLsb' 0 2).isLt
  have he : (w.extractLsb' 2 5).toNat < 2 ^ 5 := (w.extractLsb' 2 5).isLt
  generalize (w.extractLsb' 0 2).toNat = fr at hm
  generalize (w.extractLsb' 2 5).toNat = ex at he hx
  generalize (w.extractLsb' (5 + 2) 1 == 1#1) = neg
  have hs : |if neg then (-1 : ℝ) else 1| = 1 := by split <;> simp
  split
  · refine ⟨_, rfl, ?_⟩
    rw [abs_mul, abs_mul, hs, one_mul, abs_of_nonneg (Nat.cast_nonneg fr), abs_of_pos (by positivity)]
    have : (fr : ℝ) ≤ 4 := by exact_mod_cast (by omega : fr ≤ 4)
    norm_num
    linarith
  · refine ⟨_, rfl, ?_⟩
    rw [abs_mul, abs_mul, hs, one_mul, abs_of_nonneg (Nat.cast_nonneg _), abs_of_pos (by positivity)]
    have h8 : ((2 ^ 2 + fr : ℕ) : ℝ) ≤ 8 := by exact_mod_cast (by omega : 2 ^ 2 + fr ≤ 8)
    have h13 : (2 : ℝ) ^ ((ex : ℤ) - (2 ^ (5 - 1) - 1) - (2 : ℕ)) ≤ 2 ^ (13 : ℤ) :=
      zpow_le_zpow_right₀ (by norm_num) (by norm_num; omega)
    calc _ ≤ (8 : ℝ) * 2 ^ (13 : ℤ) := mul_le_mul h8 h13 (by positivity) (by norm_num)
      _ ≤ 2 ^ 16 := by norm_num

variable {m : (ℓ : Loc Cert.KernelIdeal.nD Cert.KernelIdeal.τ Cert.KernelIdeal.sig) → Buf (Elt Ideal) ℓ}

local instance : Cert.Pre_in_range.Facts := facts

/-- What a comparison of a number's size with a bound says. -/
theorem le_of_cmpf {φ : FTy} (x K : EReal) (h : FloatOps.cmpf (F := Ideal) (φ := φ) .ole (FloatOps.absf (F := Ideal) (φ := φ) x) K = 1#1) :
    max x (-x) ≤ K := by
  by_contra hn
  have e : FloatOps.cmpf (F := Ideal) (φ := φ) .ole (FloatOps.absf (F := Ideal) (φ := φ) x) K = BitVec.ofBool (decide (max x (-x) ≤ K)) := rfl
  rw [e, decide_eq_false hn] at h
  exact absurd h (by decide)

theorem slt_of_cmpi (a b : BitVec 32) (h : IntOp.cmpi .slt a b = 1#1) : a.slt b = true := by
  by_contra hn
  have e : IntOp.cmpi .slt a b = BitVec.ofBool (a.slt b) := rfl
  rw [e, Bool.eq_false_iff.mpr hn] at h
  exact absurd h (by decide)

open Cert.KernelIdeal Cert.KernelIdeal.Parts Cert.GroupNorm in
/-- Under the precondition the arguments hold real numbers of bounded size. -/
theorem given (h : Cert.Pre_KernelIdeal_in_range m) (c : Dev Cert.KernelIdeal.nD) : ∃ D, Given m c D ∧ D.Small := by
  obtain ⟨h0, h1, h2, h3, h4⟩ := h c
  have e0 := fun b n ch => real_of_abs largest (le_of_cmpf (φ := .f32) (m ((c.tc : Thread nD τ).loc main_arg0) (ix3 b n ch)) _ (congrFun h0 (ix3 b n ch)))
  have e1 := fun ch => small_of_abs ((le_of_cmpf (φ := .f32) (m ((c.tc : Thread nD τ).loc main_arg1) (ix1 ch)) _ (congrFun h1 (ix1 ch))).trans_eq bound)
  have e2 := fun ch => real_of_abs largest (le_of_cmpf (φ := .f32) (m ((c.tc : Thread nD τ).loc main_arg2) (ix1 ch)) _ (congrFun h2 (ix1 ch)))
  have e3 := fun b n ch => real_of_code (m ((c.tc : Thread nD τ).loc main_arg3) (ix3 b n ch)) (slt_of_cmpi _ _ (congrFun h3 (ix3 b n ch)))
  have e4 := small_of_abs ((le_of_cmpf (φ := .f32) (m ((c.tc : Thread nD τ).loc main_arg4) ix0) _ (congrFun h4 ix0)).trans_eq bound)
  choose x hx using e0
  choose g hg hg' using e1
  choose b hb using e2
  choose dy hdy hdy' using e3
  obtain ⟨s, hs, hs'⟩ := e4
  exact ⟨⟨x, dy, g, b, s⟩, ⟨hx, hg, hb, hdy, fun i => (congrArg _ (funext fun a => a.elim0)).trans hs⟩, ⟨hdy', hg', hs'⟩⟩

end Cert.Finite

end
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.ReferenceIdeal.Value
public import proofs.«01_k».proof.Proof.Kernel.Run
public import proofs.«01_k».proof.Proof.KernelIdeal.Run
public import proofs.«01_k».proof.Proof.KernelIdeal.Arrays
public import proofs.«01_k».proof.Proof.ReferenceIdeal.Arrays
public import proofs.«01_k».proof.Proof.Finite
public import Idealize.ShloMosaic.Adequacy
public import Idealize.ShloMosaic.Init

@[expose] public section

noncomputable section

namespace Cert.Proof

open Idealize.ShloMosaic Idealize.SL.Sem

/-- The two programs leave equal results: the codes, their scales, and the gradients of the gain and the offset. -/
theorem algebraic : Cert.algebraic_KernelIdeal_ReferenceIdeal_pre_in_range (hKernelIdeal := Cert.KernelIdeal.Gen.facts)
    (hReferenceIdeal := Cert.ReferenceIdeal.Gen.facts) (hPre_in_range := Cert.Finite.facts) := by
  intro m g m' g' hpre hm
  choose D H hD using fun c => Cert.Finite.given hpre c
  have H' : ∀ c, Cert.ReferenceIdeal.Vals.Given m' c (D c) := fun c => by
    obtain ⟨e0, e1, e2, e3, e4⟩ := hm c
    exact ⟨by rw [e0]; exact (H c).x, by rw [e1]; exact (H c).g, by rw [e2]; exact (H c).b, by rw [e3]; exact (H c).dy,
      by rw [e4]; exact (H c).s⟩
  refine ⟨_, _, _, _, Cert.KernelIdeal.Parts.values g H hD, ?_⟩
  refine (θ_run _ _ _).mono (fun r h c => ?_) (Cert.ReferenceIdeal.Value.run_blocks m' g')
  obtain ⟨h5, h6, h7, h8, hk⟩ := h c
  exact ⟨h5.trans (Cert.ReferenceIdeal.Vals.final5 (H' c)), h6.trans (Cert.ReferenceIdeal.Vals.final6 (H' c)),
    h7.trans (Cert.ReferenceIdeal.Vals.final7 (H' c)), h8.trans (Cert.ReferenceIdeal.Vals.final8 (H' c)), hk⟩

theorem claim : Cert.Claim :=
  ⟨Cert.Kernel.Gen.facts, Cert.KernelIdeal.Gen.facts, Cert.ReferenceIdeal.Gen.facts, Cert.Finite.facts,
    fun m ρ _ => Cert.Kernel.Parts.frame m ρ,
    fun m ρ _ => Cert.KernelIdeal.Parts.frame m ρ,
    fun m ρ _ => Cert.KernelIdeal.Parts.frame m ρ,
    fun m ρ _ => Cert.ReferenceIdeal.Gen.frame m ρ,
    fun m ρ _ => Cert.ReferenceIdeal.Gen.frame m ρ,
    trivial, algebraic⟩

end Cert.Proof

end
